-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_MemoryKv (m : (ℓ : Loc Cert.MemoryKv.nD Cert.MemoryKv.τ Cert.MemoryKv.sig) → Buf (Elt Bits) ℓ) : Prop :=
  True

def Pre_MemoryKvIdeal (m : (ℓ : Loc Cert.MemoryKvIdeal.nD Cert.MemoryKvIdeal.τ Cert.MemoryKvIdeal.sig) → Buf (Elt Ideal) ℓ) : Prop :=
  True

def Pre_MemoryKvRefIdeal (m : (ℓ : Loc Cert.MemoryKvRefIdeal.nD Cert.MemoryKvRefIdeal.τ Cert.MemoryKvRefIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_ProjectSample (m : (ℓ : Loc Cert.ProjectSample.nD Cert.ProjectSample.τ Cert.ProjectSample.sig) → Buf (Elt Bits) ℓ) : Prop :=
  True

def Pre_ProjectSampleIdeal (m : (ℓ : Loc Cert.ProjectSampleIdeal.nD Cert.ProjectSampleIdeal.τ Cert.ProjectSampleIdeal.sig) → Buf (Elt Ideal) ℓ) : Prop :=
  True

def Pre_ProjectSampleRefIdeal (m : (ℓ : Loc Cert.ProjectSampleRefIdeal.nD Cert.ProjectSampleRefIdeal.τ Cert.ProjectSampleRefIdeal.sig) → Buf (Elt Ideal) ℓ) : Prop :=
  True

def Pre_OutProjSample (m : (ℓ : Loc Cert.OutProjSample.nD Cert.OutProjSample.τ Cert.OutProjSample.sig) → Buf (Elt Bits) ℓ) : Prop :=
  True

def Pre_OutProjSampleIdeal (m : (ℓ : Loc Cert.OutProjSampleIdeal.nD Cert.OutProjSampleIdeal.τ Cert.OutProjSampleIdeal.sig) → Buf (Elt Ideal) ℓ) : Prop :=
  True

def Pre_OutProjSampleRefIdeal (m : (ℓ : Loc Cert.OutProjSampleRefIdeal.nD Cert.OutProjSampleRefIdeal.τ Cert.OutProjSampleRefIdeal.sig) → Buf (Elt Ideal) ℓ) : Prop :=
  True

def Pre_RopeSample (m : (ℓ : Loc Cert.RopeSample.nD Cert.RopeSample.τ Cert.RopeSample.sig) → Buf (Elt Bits) ℓ) : Prop :=
  True

def Pre_RopeSampleIdeal (m : (ℓ : Loc Cert.RopeSampleIdeal.nD Cert.RopeSampleIdeal.τ Cert.RopeSampleIdeal.sig) → Buf (Elt Ideal) ℓ) : Prop :=
  True

def Pre_RopeSampleRefIdeal (m : (ℓ : Loc Cert.RopeSampleRefIdeal.nD Cert.RopeSampleRefIdeal.τ Cert.RopeSampleRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_MemoryKv [hMemoryKv : Cert.MemoryKv.Facts] : Prop :=
  ∀ (m : (ℓ : Loc Cert.MemoryKv.nD Cert.MemoryKv.τ Cert.MemoryKv.sig) → Buf (Elt Bits) ℓ) (g : Dev Cert.MemoryKv.nD → PrngReg), Pre_MemoryKv m →
    θ_run (Cert.MemoryKv.defs (F := Bits)) (onTc (τ := Cert.MemoryKv.τ) (Cert.MemoryKv.main (F := Bits))) ⟨m, fun _ => 0, g⟩ (fun r => (∀ c : Dev Cert.MemoryKv.nD,
      r.2.mem ((c.tc : Thread Cert.MemoryKv.nD Cert.MemoryKv.τ).loc Cert.MemoryKv.main_arg0) = m ((c.tc : Thread Cert.MemoryKv.nD Cert.MemoryKv.τ).loc Cert.MemoryKv.main_arg0)
      ∧ r.2.mem ((c.tc : Thread Cert.MemoryKv.nD Cert.MemoryKv.τ).loc Cert.MemoryKv.main_arg1) = m ((c.tc : Thread Cert.MemoryKv.nD Cert.MemoryKv.τ).loc Cert.MemoryKv.main_arg1)
      ∧ r.2.mem ((c.tc : Thread Cert.MemoryKv.nD Cert.MemoryKv.τ).loc Cert.MemoryKv.main_arg2) = m ((c.tc : Thread Cert.MemoryKv.nD Cert.MemoryKv.τ).loc Cert.MemoryKv.main_arg2))
      ∧ r.2.sem = fun _ => 0)

def quiescent_MemoryKvIdeal [hMemoryKvIdeal : Cert.MemoryKvIdeal.Facts] : Prop :=
  ∀ (m : (ℓ : Loc Cert.MemoryKvIdeal.nD Cert.MemoryKvIdeal.τ Cert.MemoryKvIdeal.sig) → Buf (Elt Ideal) ℓ) (g : Dev Cert.MemoryKvIdeal.nD → PrngReg), Pre_MemoryKvIdeal m →
    θ_run (Cert.MemoryKvIdeal.defs (F := Ideal)) (onTc (τ := Cert.MemoryKvIdeal.τ) (Cert.MemoryKvIdeal.main (F := Ideal))) ⟨m, fun _ => 0, g⟩ (fun r => (∀ c : Dev Cert.MemoryKvIdeal.nD,
      r.2.mem ((c.tc : Thread Cert.MemoryKvIdeal.nD Cert.MemoryKvIdeal.τ).loc Cert.MemoryKvIdeal.main_arg0) = m ((c.tc : Thread Cert.MemoryKvIdeal.nD Cert.MemoryKvIdeal.τ).loc Cert.MemoryKvIdeal.main_arg0)
      ∧ r.2.mem ((c.tc : Thread Cert.MemoryKvIdeal.nD Cert.MemoryKvIdeal.τ).loc Cert.MemoryKvIdeal.main_arg1) = m ((c.tc : Thread Cert.MemoryKvIdeal.nD Cert.MemoryKvIdeal.τ).loc Cert.MemoryKvIdeal.main_arg1)
      ∧ r.2.mem ((c.tc : Thread Cert.MemoryKvIdeal.nD Cert.MemoryKvIdeal.τ).loc Cert.MemoryKvIdeal.main_arg2) = m ((c.tc : Thread Cert.MemoryKvIdeal.nD Cert.MemoryKvIdeal.τ).loc Cert.MemoryKvIdeal.main_arg2))
      ∧ r.2.sem = fun _ => 0)

def quiescent_MemoryKvRefIdeal [hMemoryKvRefIdeal : Cert.MemoryKvRefIdeal.Facts] : Prop :=
  ∀ (m : (ℓ : Loc Cert.MemoryKvRefIdeal.nD Cert.MemoryKvRefIdeal.τ Cert.MemoryKvRefIdeal.sig) → Buf (Elt Ideal) ℓ) (g : Dev Cert.MemoryKvRefIdeal.nD → PrngReg), Pre_MemoryKvRefIdeal m →
    θ_run (Cert.MemoryKvRefIdeal.defs (F := Ideal)) (onTc (τ := Cert.MemoryKvRefIdeal.τ) (Cert.MemoryKvRefIdeal.main (F := Ideal))) ⟨m, fun _ => 0, g⟩ (fun r => (∀ c : Dev Cert.MemoryKvRefIdeal.nD,
      r.2.mem ((c.tc : Thread Cert.MemoryKvRefIdeal.nD Cert.MemoryKvRefIdeal.τ).loc Cert.MemoryKvRefIdeal.main_arg0) = m ((c.tc : Thread Cert.MemoryKvRefIdeal.nD Cert.MemoryKvRefIdeal.τ).loc Cert.MemoryKvRefIdeal.main_arg0)
      ∧ r.2.mem ((c.tc : Thread Cert.MemoryKvRefIdeal.nD Cert.MemoryKvRefIdeal.τ).loc Cert.MemoryKvRefIdeal.main_arg1) = m ((c.tc : Thread Cert.MemoryKvRefIdeal.nD Cert.MemoryKvRefIdeal.τ).loc Cert.MemoryKvRefIdeal.main_arg1)
      ∧ r.2.mem ((c.tc : Thread Cert.MemoryKvRefIdeal.nD Cert.MemoryKvRefIdeal.τ).loc Cert.MemoryKvRefIdeal.main_arg2) = m ((c.tc : Thread Cert.MemoryKvRefIdeal.nD Cert.MemoryKvRefIdeal.τ).loc Cert.MemoryKvRefIdeal.main_arg2))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1)
      ∧ r.2.mem ((c.tc : Thread Cert.ProjectRefIdeal.nD Cert.ProjectRefIdeal.τ).loc Cert.ProjectRefIdeal.main_arg2) = m ((c.tc : Thread Cert.ProjectRefIdeal.nD Cert.ProjectRefIdeal.τ).loc Cert.ProjectRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def quiescent_ProjectSample [hProjectSample : Cert.ProjectSample.Facts] : Prop :=
  ∀ (m : (ℓ : Loc Cert.ProjectSample.nD Cert.ProjectSample.τ Cert.ProjectSample.sig) → Buf (Elt Bits) ℓ) (g : Dev Cert.ProjectSample.nD → PrngReg), Pre_ProjectSample m →
    θ_run (Cert.ProjectSample.defs (F := Bits)) (onTc (τ := Cert.ProjectSample.τ) (Cert.ProjectSample.main (F := Bits))) ⟨m, fun _ => 0, g⟩ (fun r => (∀ c : Dev Cert.ProjectSample.nD,
      r.2.mem ((c.tc : Thread Cert.ProjectSample.nD Cert.ProjectSample.τ).loc Cert.ProjectSample.main_arg0) = m ((c.tc : Thread Cert.ProjectSample.nD Cert.ProjectSample.τ).loc Cert.ProjectSample.main_arg0)
      ∧ r.2.mem ((c.tc : Thread Cert.ProjectSample.nD Cert.ProjectSample.τ).loc Cert.ProjectSample.main_arg1) = m ((c.tc : Thread Cert.ProjectSample.nD Cert.ProjectSample.τ).loc Cert.ProjectSample.main_arg1)
      ∧ r.2.mem ((c.tc : Thread Cert.ProjectSample.nD Cert.ProjectSample.τ).loc Cert.ProjectSample.main_arg2) = m ((c.tc : Thread Cert.ProjectSample.nD Cert.ProjectSample.τ).loc Cert.ProjectSample.main_arg2))
      ∧ r.2.sem = fun _ => 0)

def quiescent_ProjectSampleIdeal [hProjectSampleIdeal : Cert.ProjectSampleIdeal.Facts] : Prop :=
  ∀ (m : (ℓ : Loc Cert.ProjectSampleIdeal.nD Cert.ProjectSampleIdeal.τ Cert.ProjectSampleIdeal.sig) → Buf (Elt Ideal) ℓ) (g : Dev Cert.ProjectSampleIdeal.nD → PrngReg), Pre_ProjectSampleIdeal m →
    θ_run (Cert.ProjectSampleIdeal.defs (F := Ideal)) (onTc (τ := Cert.ProjectSampleIdeal.τ) (Cert.ProjectSampleIdeal.main (F := Ideal))) ⟨m, fun _ => 0, g⟩ (fun r => (∀ c : Dev Cert.ProjectSampleIdeal.nD,
      r.2.mem ((c.tc : Thread Cert.ProjectSampleIdeal.nD Cert.ProjectSampleIdeal.τ).loc Cert.ProjectSampleIdeal.main_arg0) = m ((c.tc : Thread Cert.ProjectSampleIdeal.nD Cert.ProjectSampleIdeal.τ).loc Cert.ProjectSampleIdeal.main_arg0)
      ∧ r.2.mem ((c.tc : Thread Cert.ProjectSampleIdeal.nD Cert.ProjectSampleIdeal.τ).loc Cert.ProjectSampleIdeal.main_arg1) = m ((c.tc : Thread Cert.ProjectSampleIdeal.nD Cert.ProjectSampleIdeal.τ).loc Cert.ProjectSampleIdeal.main_arg1)
      ∧ r.2.mem ((c.tc : Thread Cert.ProjectSampleIdeal.nD Cert.ProjectSampleIdeal.τ).loc Cert.ProjectSampleIdeal.main_arg2) = m ((c.tc : Thread Cert.ProjectSampleIdeal.nD Cert.ProjectSampleIdeal.τ).loc Cert.ProjectSampleIdeal.main_arg2))
      ∧ r.2.sem = fun _ => 0)

def quiescent_ProjectSampleRefIdeal [hProjectSampleRefIdeal : Cert.ProjectSampleRefIdeal.Facts] : Prop :=
  ∀ (m : (ℓ : Loc Cert.ProjectSampleRefIdeal.nD Cert.ProjectSampleRefIdeal.τ Cert.ProjectSampleRefIdeal.sig) → Buf (Elt Ideal) ℓ) (g : Dev Cert.ProjectSampleRefIdeal.nD → PrngReg), Pre_ProjectSampleRefIdeal m →
    θ_run (Cert.ProjectSampleRefIdeal.defs (F := Ideal)) (onTc (τ := Cert.ProjectSampleRefIdeal.τ) (Cert.ProjectSampleRefIdeal.main (F := Ideal))) ⟨m, fun _ => 0, g⟩ (fun r => (∀ c : Dev Cert.ProjectSampleRefIdeal.nD,
      r.2.mem ((c.tc : Thread Cert.ProjectSampleRefIdeal.nD Cert.ProjectSampleRefIdeal.τ).loc Cert.ProjectSampleRefIdeal.main_arg0) = m ((c.tc : Thread Cert.ProjectSampleRefIdeal.nD Cert.ProjectSampleRefIdeal.τ).loc Cert.ProjectSampleRefIdeal.main_arg0)
      ∧ r.2.mem ((c.tc : Thread Cert.ProjectSampleRefIdeal.nD Cert.ProjectSampleRefIdeal.τ).loc Cert.ProjectSampleRefIdeal.main_arg1) = m ((c.tc : Thread Cert.ProjectSampleRefIdeal.nD Cert.ProjectSampleRefIdeal.τ).loc Cert.ProjectSampleRefIdeal.main_arg1)
      ∧ r.2.mem ((c.tc : Thread Cert.ProjectSampleRefIdeal.nD Cert.ProjectSampleRefIdeal.τ).loc Cert.ProjectSampleRefIdeal.main_arg2) = m ((c.tc : Thread Cert.ProjectSampleRefIdeal.nD Cert.ProjectSampleRefIdeal.τ).loc Cert.ProjectSampleRefIdeal.main_arg2))
      ∧ r.2.sem = fun _ => 0)

def quiescent_OutProjSample [hOutProjSample : Cert.OutProjSample.Facts] : Prop :=
  ∀ (m : (ℓ : Loc Cert.OutProjSample.nD Cert.OutProjSample.τ Cert.OutProjSample.sig) → Buf (Elt Bits) ℓ) (g : Dev Cert.OutProjSample.nD → PrngReg), Pre_OutProjSample m →
    θ_run (Cert.OutProjSample.defs (F := Bits)) (onTc (τ := Cert.OutProjSample.τ) (Cert.OutProjSample.main (F := Bits))) ⟨m, fun _ => 0, g⟩ (fun r => (∀ c : Dev Cert.OutProjSample.nD,
      r.2.mem ((c.tc : Thread Cert.OutProjSample.nD Cert.OutProjSample.τ).loc Cert.OutProjSample.main_arg0) = m ((c.tc : Thread Cert.OutProjSample.nD Cert.OutProjSample.τ).loc Cert.OutProjSample.main_arg0)
      ∧ r.2.mem ((c.tc : Thread Cert.OutProjSample.nD Cert.OutProjSample.τ).loc Cert.OutProjSample.main_arg1) = m ((c.tc : Thread Cert.OutProjSample.nD Cert.OutProjSample.τ).loc Cert.OutProjSample.main_arg1)
      ∧ r.2.mem ((c.tc : Thread Cert.OutProjSample.nD Cert.OutProjSample.τ).loc Cert.OutProjSample.main_arg2) = m ((c.tc : Thread Cert.OutProjSample.nD Cert.OutProjSample.τ).loc Cert.OutProjSample.main_arg2)
      ∧ r.2.mem ((c.tc : Thread Cert.OutProjSample.nD Cert.OutProjSample.τ).loc Cert.OutProjSample.main_arg3) = m ((c.tc : Thread Cert.OutProjSample.nD Cert.OutProjSample.τ).loc Cert.OutProjSample.main_arg3)
      ∧ r.2.mem ((c.tc : Thread Cert.OutProjSample.nD Cert.OutProjSample.τ).loc Cert.OutProjSample.main_arg4) = m ((c.tc : Thread Cert.OutProjSample.nD Cert.OutProjSample.τ).loc Cert.OutProjSample.main_arg4)
      ∧ r.2.mem ((c.tc : Thread Cert.OutProjSample.nD Cert.OutProjSample.τ).loc Cert.OutProjSample.main_arg5) = m ((c.tc : Thread Cert.OutProjSample.nD Cert.OutProjSample.τ).loc Cert.OutProjSample.main_arg5))
      ∧ r.2.sem = fun _ => 0)

def quiescent_OutProjSampleIdeal [hOutProjSampleIdeal : Cert.OutProjSampleIdeal.Facts] : Prop :=
  ∀ (m : (ℓ : Loc Cert.OutProjSampleIdeal.nD Cert.OutProjSampleIdeal.τ Cert.OutProjSampleIdeal.sig) → Buf (Elt Ideal) ℓ) (g : Dev Cert.OutProjSampleIdeal.nD → PrngReg), Pre_OutProjSampleIdeal m →
    θ_run (Cert.OutProjSampleIdeal.defs (F := Ideal)) (onTc (τ := Cert.OutProjSampleIdeal.τ) (Cert.OutProjSampleIdeal.main (F := Ideal))) ⟨m, fun _ => 0, g⟩ (fun r => (∀ c : Dev Cert.OutProjSampleIdeal.nD,
      r.2.mem ((c.tc : Thread Cert.OutProjSampleIdeal.nD Cert.OutProjSampleIdeal.τ).loc Cert.OutProjSampleIdeal.main_arg0) = m ((c.tc : Thread Cert.OutProjSampleIdeal.nD Cert.OutProjSampleIdeal.τ).loc Cert.OutProjSampleIdeal.main_arg0)
      ∧ r.2.mem ((c.tc : Thread Cert.OutProjSampleIdeal.nD Cert.OutProjSampleIdeal.τ).loc Cert.OutProjSampleIdeal.main_arg1) = m ((c.tc : Thread Cert.OutProjSampleIdeal.nD Cert.OutProjSampleIdeal.τ).loc Cert.OutProjSampleIdeal.main_arg1)
      ∧ r.2.mem ((c.tc : Thread Cert.OutProjSampleIdeal.nD Cert.OutProjSampleIdeal.τ).loc Cert.OutProjSampleIdeal.main_arg2) = m ((c.tc : Thread Cert.OutProjSampleIdeal.nD Cert.OutProjSampleIdeal.τ).loc Cert.OutProjSampleIdeal.main_arg2)
      ∧ r.2.mem ((c.tc : Thread Cert.OutProjSampleIdeal.nD Cert.OutProjSampleIdeal.τ).loc Cert.OutProjSampleIdeal.main_arg3) = m ((c.tc : Thread Cert.OutProjSampleIdeal.nD Cert.OutProjSampleIdeal.τ).loc Cert.OutProjSampleIdeal.main_arg3)
      ∧ r.2.mem ((c.tc : Thread Cert.OutProjSampleIdeal.nD Cert.OutProjSampleIdeal.τ).loc Cert.OutProjSampleIdeal.main_arg4) = m ((c.tc : Thread Cert.OutProjSampleIdeal.nD Cert.OutProjSampleIdeal.τ).loc Cert.OutProjSampleIdeal.main_arg4)
      ∧ r.2.mem ((c.tc : Thread Cert.OutProjSampleIdeal.nD Cert.OutProjSampleIdeal.τ).loc Cert.OutProjSampleIdeal.main_arg5) = m ((c.tc : Thread Cert.OutProjSampleIdeal.nD Cert.OutProjSampleIdeal.τ).loc Cert.OutProjSampleIdeal.main_arg5))
      ∧ r.2.sem = fun _ => 0)

def quiescent_OutProjSampleRefIdeal [hOutProjSampleRefIdeal : Cert.OutProjSampleRefIdeal.Facts] : Prop :=
  ∀ (m : (ℓ : Loc Cert.OutProjSampleRefIdeal.nD Cert.OutProjSampleRefIdeal.τ Cert.OutProjSampleRefIdeal.sig) → Buf (Elt Ideal) ℓ) (g : Dev Cert.OutProjSampleRefIdeal.nD → PrngReg), Pre_OutProjSampleRefIdeal m →
    θ_run (Cert.OutProjSampleRefIdeal.defs (F := Ideal)) (onTc (τ := Cert.OutProjSampleRefIdeal.τ) (Cert.OutProjSampleRefIdeal.main (F := Ideal))) ⟨m, fun _ => 0, g⟩ (fun r => (∀ c : Dev Cert.OutProjSampleRefIdeal.nD,
      r.2.mem ((c.tc : Thread Cert.OutProjSampleRefIdeal.nD Cert.OutProjSampleRefIdeal.τ).loc Cert.OutProjSampleRefIdeal.main_arg0) = m ((c.tc : Thread Cert.OutProjSampleRefIdeal.nD Cert.OutProjSampleRefIdeal.τ).loc Cert.OutProjSampleRefIdeal.main_arg0)
      ∧ r.2.mem ((c.tc : Thread Cert.OutProjSampleRefIdeal.nD Cert.OutProjSampleRefIdeal.τ).loc Cert.OutProjSampleRefIdeal.main_arg1) = m ((c.tc : Thread Cert.OutProjSampleRefIdeal.nD Cert.OutProjSampleRefIdeal.τ).loc Cert.OutProjSampleRefIdeal.main_arg1)
      ∧ r.2.mem ((c.tc : Thread Cert.OutProjSampleRefIdeal.nD Cert.OutProjSampleRefIdeal.τ).loc Cert.OutProjSampleRefIdeal.main_arg2) = m ((c.tc : Thread Cert.OutProjSampleRefIdeal.nD Cert.OutProjSampleRefIdeal.τ).loc Cert.OutProjSampleRefIdeal.main_arg2)
      ∧ r.2.mem ((c.tc : Thread Cert.OutProjSampleRefIdeal.nD Cert.OutProjSampleRefIdeal.τ).loc Cert.OutProjSampleRefIdeal.main_arg3) = m ((c.tc : Thread Cert.OutProjSampleRefIdeal.nD Cert.OutProjSampleRefIdeal.τ).loc Cert.OutProjSampleRefIdeal.main_arg3)
      ∧ r.2.mem ((c.tc : Thread Cert.OutProjSampleRefIdeal.nD Cert.OutProjSampleRefIdeal.τ).loc Cert.OutProjSampleRefIdeal.main_arg4) = m ((c.tc : Thread Cert.OutProjSampleRefIdeal.nD Cert.OutProjSampleRefIdeal.τ).loc Cert.OutProjSampleRefIdeal.main_arg4)
      ∧ r.2.mem ((c.tc : Thread Cert.OutProjSampleRefIdeal.nD Cert.OutProjSampleRefIdeal.τ).loc Cert.OutProjSampleRefIdeal.main_arg5) = m ((c.tc : Thread Cert.OutProjSampleRefIdeal.nD Cert.OutProjSampleRefIdeal.τ).loc Cert.OutProjSampleRefIdeal.main_arg5))
      ∧ r.2.sem = fun _ => 0)

def quiescent_RopeSample [hRopeSample : Cert.RopeSample.Facts] : Prop :=
  ∀ (m : (ℓ : Loc Cert.RopeSample.nD Cert.RopeSample.τ Cert.RopeSample.sig) → Buf (Elt Bits) ℓ) (g : Dev Cert.RopeSample.nD → PrngReg), Pre_RopeSample m →
    θ_run (Cert.RopeSample.defs (F := Bits)) (onTc (τ := Cert.RopeSample.τ) (Cert.RopeSample.main (F := Bits))) ⟨m, fun _ => 0, g⟩ (fun r => (∀ c : Dev Cert.RopeSample.nD,
      r.2.mem ((c.tc : Thread Cert.RopeSample.nD Cert.RopeSample.τ).loc Cert.RopeSample.main_arg0) = m ((c.tc : Thread Cert.RopeSample.nD Cert.RopeSample.τ).loc Cert.RopeSample.main_arg0))
      ∧ r.2.sem = fun _ => 0)

def quiescent_RopeSampleIdeal [hRopeSampleIdeal : Cert.RopeSampleIdeal.Facts] : Prop :=
  ∀ (m : (ℓ : Loc Cert.RopeSampleIdeal.nD Cert.RopeSampleIdeal.τ Cert.RopeSampleIdeal.sig) → Buf (Elt Ideal) ℓ) (g : Dev Cert.RopeSampleIdeal.nD → PrngReg), Pre_RopeSampleIdeal m →
    θ_run (Cert.RopeSampleIdeal.defs (F := Ideal)) (onTc (τ := Cert.RopeSampleIdeal.τ) (Cert.RopeSampleIdeal.main (F := Ideal))) ⟨m, fun _ => 0, g⟩ (fun r => (∀ c : Dev Cert.RopeSampleIdeal.nD,
      r.2.mem ((c.tc : Thread Cert.RopeSampleIdeal.nD Cert.RopeSampleIdeal.τ).loc Cert.RopeSampleIdeal.main_arg0) = m ((c.tc : Thread Cert.RopeSampleIdeal.nD Cert.RopeSampleIdeal.τ).loc Cert.RopeSampleIdeal.main_arg0))
      ∧ r.2.sem = fun _ => 0)

def quiescent_RopeSampleRefIdeal [hRopeSampleRefIdeal : Cert.RopeSampleRefIdeal.Facts] : Prop :=
  ∀ (m : (ℓ : Loc Cert.RopeSampleRefIdeal.nD Cert.RopeSampleRefIdeal.τ Cert.RopeSampleRefIdeal.sig) → Buf (Elt Ideal) ℓ) (g : Dev Cert.RopeSampleRefIdeal.nD → PrngReg), Pre_RopeSampleRefIdeal m →
    θ_run (Cert.RopeSampleRefIdeal.defs (F := Ideal)) (onTc (τ := Cert.RopeSampleRefIdeal.τ) (Cert.RopeSampleRefIdeal.main (F := Ideal))) ⟨m, fun _ => 0, g⟩ (fun r => (∀ c : Dev Cert.RopeSampleRefIdeal.nD,
      r.2.mem ((c.tc : Thread Cert.RopeSampleRefIdeal.nD Cert.RopeSampleRefIdeal.τ).loc Cert.RopeSampleRefIdeal.main_arg0) = m ((c.tc : Thread Cert.RopeSampleRefIdeal.nD Cert.RopeSampleRefIdeal.τ).loc Cert.RopeSampleRefIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_MemoryKv_MemoryKvIdeal : Prop :=
  True

def algebraic_MemoryKvIdeal_MemoryKvRefIdeal [hMemoryKvIdeal : Cert.MemoryKvIdeal.Facts] [hMemoryKvRefIdeal : Cert.MemoryKvRefIdeal.Facts] : Prop :=
  ∀ (m : (ℓ : Loc Cert.MemoryKvIdeal.nD Cert.MemoryKvIdeal.τ Cert.MemoryKvIdeal.sig) → Buf (Elt Ideal) ℓ) (g : Dev Cert.MemoryKvIdeal.nD → PrngReg)
    (m' : (ℓ : Loc Cert.MemoryKvRefIdeal.nD Cert.MemoryKvRefIdeal.τ Cert.MemoryKvRefIdeal.sig) → Buf (Elt Ideal) ℓ) (g' : Dev Cert.MemoryKvRefIdeal.nD → PrngReg), Pre_MemoryKvIdeal m →
    (∀ c : Dev Cert.MemoryKvIdeal.nD,
      m' ((c.tc : Thread Cert.MemoryKvRefIdeal.nD Cert.MemoryKvRefIdeal.τ).loc Cert.MemoryKvRefIdeal.main_arg0) = m ((c.tc : Thread Cert.MemoryKvIdeal.nD Cert.MemoryKvIdeal.τ).loc Cert.MemoryKvIdeal.main_arg0)
      ∧ m' ((c.tc : Thread Cert.MemoryKvRefIdeal.nD Cert.MemoryKvRefIdeal.τ).loc Cert.MemoryKvRefIdeal.main_arg1) = m ((c.tc : Thread Cert.MemoryKvIdeal.nD Cert.MemoryKvIdeal.τ).loc Cert.MemoryKvIdeal.main_arg1)
      ∧ m' ((c.tc : Thread Cert.MemoryKvRefIdeal.nD Cert.MemoryKvRefIdeal.τ).loc Cert.MemoryKvRefIdeal.main_arg2) = m ((c.tc : Thread Cert.MemoryKvIdeal.nD Cert.MemoryKvIdeal.τ).loc Cert.MemoryKvIdeal.main_arg2)) →
    ∃ (v0 : (c : Dev Cert.MemoryKvIdeal.nD) → Buf (Elt Ideal) ((c.tc : Thread Cert.MemoryKvIdeal.nD Cert.MemoryKvIdeal.τ).loc Cert.MemoryKvIdeal.main_v5)),
      θ_run (Cert.MemoryKvIdeal.defs (F := Ideal)) (onTc (τ := Cert.MemoryKvIdeal.τ) (Cert.MemoryKvIdeal.main (F := Ideal))) ⟨m, fun _ => 0, g⟩ (fun r => ∀ c : Dev Cert.MemoryKvIdeal.nD,
          r.2.mem ((c.tc : Thread Cert.MemoryKvIdeal.nD Cert.MemoryKvIdeal.τ).loc Cert.MemoryKvIdeal.main_v5) = v0 c
          ∧ r.2.mem ((c.tc : Thread Cert.MemoryKvIdeal.nD Cert.MemoryKvIdeal.τ).loc Cert.MemoryKvIdeal.main_arg0) = m ((c.tc : Thread Cert.MemoryKvIdeal.nD Cert.MemoryKvIdeal.τ).loc Cert.MemoryKvIdeal.main_arg0)
          ∧ r.2.mem ((c.tc : Thread Cert.MemoryKvIdeal.nD Cert.MemoryKvIdeal.τ).loc Cert.MemoryKvIdeal.main_arg1) = m ((c.tc : Thread Cert.MemoryKvIdeal.nD Cert.MemoryKvIdeal.τ).loc Cert.MemoryKvIdeal.main_arg1)
          ∧ r.2.mem ((c.tc : Thread Cert.MemoryKvIdeal.nD Cert.MemoryKvIdeal.τ).loc Cert.MemoryKvIdeal.main_arg2) = m ((c.tc : Thread Cert.MemoryKvIdeal.nD Cert.MemoryKvIdeal.τ).loc Cert.MemoryKvIdeal.main_arg2))
      ∧ θ_run (Cert.MemoryKvRefIdeal.defs (F := Ideal)) (onTc (τ := Cert.MemoryKvRefIdeal.τ) (Cert.MemoryKvRefIdeal.main (F := Ideal))) ⟨m', fun _ => 0, g'⟩ (fun r => ∀ c : Dev Cert.MemoryKvRefIdeal.nD,
          r.2.mem ((c.tc : Thread Cert.MemoryKvRefIdeal.nD Cert.MemoryKvRefIdeal.τ).loc Cert.MemoryKvRefIdeal.main_v16) = v0 c
          ∧ r.2.mem ((c.tc : Thread Cert.MemoryKvRefIdeal.nD Cert.MemoryKvRefIdeal.τ).loc Cert.MemoryKvRefIdeal.main_arg0) = m' ((c.tc : Thread Cert.MemoryKvRefIdeal.nD Cert.MemoryKvRefIdeal.τ).loc Cert.MemoryKvRefIdeal.main_arg0)
          ∧ r.2.mem ((c.tc : Thread Cert.MemoryKvRefIdeal.nD Cert.MemoryKvRefIdeal.τ).loc Cert.MemoryKvRefIdeal.main_arg1) = m' ((c.tc : Thread Cert.MemoryKvRefIdeal.nD Cert.MemoryKvRefIdeal.τ).loc Cert.MemoryKvRefIdeal.main_arg1)
          ∧ r.2.mem ((c.tc : Thread Cert.MemoryKvRefIdeal.nD Cert.MemoryKvRefIdeal.τ).loc Cert.MemoryKvRefIdeal.main_arg2) = m' ((c.tc : Thread Cert.MemoryKvRefIdeal.nD Cert.MemoryKvRefIdeal.τ).loc Cert.MemoryKvRefIdeal.main_arg2))

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)
      ∧ m' ((c.tc : Thread Cert.ProjectRefIdeal.nD Cert.ProjectRefIdeal.τ).loc Cert.ProjectRefIdeal.main_arg2) = m ((c.tc : Thread Cert.ProjectIdeal.nD Cert.ProjectIdeal.τ).loc Cert.ProjectIdeal.main_arg2)) →
    ∃ (v0 : (c : Dev Cert.ProjectIdeal.nD) → Buf (Elt Ideal) ((c.tc : Thread Cert.ProjectIdeal.nD Cert.ProjectIdeal.τ).loc Cert.ProjectIdeal.main_v16)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v16) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v29) = v0 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1)
          ∧ r.2.mem ((c.tc : Thread Cert.ProjectRefIdeal.nD Cert.ProjectRefIdeal.τ).loc Cert.ProjectRefIdeal.main_arg2) = m' ((c.tc : Thread Cert.ProjectRefIdeal.nD Cert.ProjectRefIdeal.τ).loc Cert.ProjectRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v20) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v47_0)) (v1 : (c : Dev Cert.RopeIdeal.nD) → Buf (Elt Ideal) ((c.tc : Thread Cert.RopeIdeal.nD Cert.RopeIdeal.τ).loc Cert.RopeIdeal.main_v47_1)) (v2 : (c : Dev Cert.RopeIdeal.nD) → Buf (Elt Ideal) ((c.tc : Thread Cert.RopeIdeal.nD Cert.RopeIdeal.τ).loc Cert.RopeIdeal.main_v47_2)) (v3 : (c : Dev Cert.RopeIdeal.nD) → Buf (Elt Ideal) ((c.tc : Thread Cert.RopeIdeal.nD Cert.RopeIdeal.τ).loc Cert.RopeIdeal.main_v47_3)) (v4 : (c : Dev Cert.RopeIdeal.nD) → Buf (Elt Ideal) ((c.tc : Thread Cert.RopeIdeal.nD Cert.RopeIdeal.τ).loc Cert.RopeIdeal.main_v47_4)) (v5 : (c : Dev Cert.RopeIdeal.nD) → Buf (Elt Ideal) ((c.tc : Thread Cert.RopeIdeal.nD Cert.RopeIdeal.τ).loc Cert.RopeIdeal.main_v47_5)) (v6 : (c : Dev Cert.RopeIdeal.nD) → Buf (Elt Ideal) ((c.tc : Thread Cert.RopeIdeal.nD Cert.RopeIdeal.τ).loc Cert.RopeIdeal.main_v47_6)) (v7 : (c : Dev Cert.RopeIdeal.nD) → Buf (Elt Ideal) ((c.tc : Thread Cert.RopeIdeal.nD Cert.RopeIdeal.τ).loc Cert.RopeIdeal.main_v47_7)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v47_0) = v0 c
          ∧ r.2.mem ((c.tc : Thread Cert.RopeIdeal.nD Cert.RopeIdeal.τ).loc Cert.RopeIdeal.main_v47_1) = v1 c
          ∧ r.2.mem ((c.tc : Thread Cert.RopeIdeal.nD Cert.RopeIdeal.τ).loc Cert.RopeIdeal.main_v47_2) = v2 c
          ∧ r.2.mem ((c.tc : Thread Cert.RopeIdeal.nD Cert.RopeIdeal.τ).loc Cert.RopeIdeal.main_v47_3) = v3 c
          ∧ r.2.mem ((c.tc : Thread Cert.RopeIdeal.nD Cert.RopeIdeal.τ).loc Cert.RopeIdeal.main_v47_4) = v4 c
          ∧ r.2.mem ((c.tc : Thread Cert.RopeIdeal.nD Cert.RopeIdeal.τ).loc Cert.RopeIdeal.main_v47_5) = v5 c
          ∧ r.2.mem ((c.tc : Thread Cert.RopeIdeal.nD Cert.RopeIdeal.τ).loc Cert.RopeIdeal.main_v47_6) = v6 c
          ∧ r.2.mem ((c.tc : Thread Cert.RopeIdeal.nD Cert.RopeIdeal.τ).loc Cert.RopeIdeal.main_v47_7) = v7 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v145) = v0 c
          ∧ r.2.mem ((c.tc : Thread Cert.RopeRefIdeal.nD Cert.RopeRefIdeal.τ).loc Cert.RopeRefIdeal.main_v147) = v1 c
          ∧ r.2.mem ((c.tc : Thread Cert.RopeRefIdeal.nD Cert.RopeRefIdeal.τ).loc Cert.RopeRefIdeal.main_v105) = v2 c
          ∧ r.2.mem ((c.tc : Thread Cert.RopeRefIdeal.nD Cert.RopeRefIdeal.τ).loc Cert.RopeRefIdeal.main_v149) = v3 c
          ∧ r.2.mem ((c.tc : Thread Cert.RopeRefIdeal.nD Cert.RopeRefIdeal.τ).loc Cert.RopeRefIdeal.main_v107) = v4 c
          ∧ r.2.mem ((c.tc : Thread Cert.RopeRefIdeal.nD Cert.RopeRefIdeal.τ).loc Cert.RopeRefIdeal.main_v152) = v5 c
          ∧ r.2.mem ((c.tc : Thread Cert.RopeRefIdeal.nD Cert.RopeRefIdeal.τ).loc Cert.RopeRefIdeal.main_v153) = v6 c
          ∧ r.2.mem ((c.tc : Thread Cert.RopeRefIdeal.nD Cert.RopeRefIdeal.τ).loc Cert.RopeRefIdeal.main_v155) = v7 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def preserves_ProjectSample_ProjectSampleIdeal : Prop :=
  True

def algebraic_ProjectSampleIdeal_ProjectSampleRefIdeal [hProjectSampleIdeal : Cert.ProjectSampleIdeal.Facts] [hProjectSampleRefIdeal : Cert.ProjectSampleRefIdeal.Facts] : Prop :=
  ∀ (m : (ℓ : Loc Cert.ProjectSampleIdeal.nD Cert.ProjectSampleIdeal.τ Cert.ProjectSampleIdeal.sig) → Buf (Elt Ideal) ℓ) (g : Dev Cert.ProjectSampleIdeal.nD → PrngReg)
    (m' : (ℓ : Loc Cert.ProjectSampleRefIdeal.nD Cert.ProjectSampleRefIdeal.τ Cert.ProjectSampleRefIdeal.sig) → Buf (Elt Ideal) ℓ) (g' : Dev Cert.ProjectSampleRefIdeal.nD → PrngReg), Pre_ProjectSampleIdeal m →
    (∀ c : Dev Cert.ProjectSampleIdeal.nD,
      m' ((c.tc : Thread Cert.ProjectSampleRefIdeal.nD Cert.ProjectSampleRefIdeal.τ).loc Cert.ProjectSampleRefIdeal.main_arg0) = m ((c.tc : Thread Cert.ProjectSampleIdeal.nD Cert.ProjectSampleIdeal.τ).loc Cert.ProjectSampleIdeal.main_arg0)
      ∧ m' ((c.tc : Thread Cert.ProjectSampleRefIdeal.nD Cert.ProjectSampleRefIdeal.τ).loc Cert.ProjectSampleRefIdeal.main_arg1) = m ((c.tc : Thread Cert.ProjectSampleIdeal.nD Cert.ProjectSampleIdeal.τ).loc Cert.ProjectSampleIdeal.main_arg1)
      ∧ m' ((c.tc : Thread Cert.ProjectSampleRefIdeal.nD Cert.ProjectSampleRefIdeal.τ).loc Cert.ProjectSampleRefIdeal.main_arg2) = m ((c.tc : Thread Cert.ProjectSampleIdeal.nD Cert.ProjectSampleIdeal.τ).loc Cert.ProjectSampleIdeal.main_arg2)) →
    ∃ (v0 : (c : Dev Cert.ProjectSampleIdeal.nD) → Buf (Elt Ideal) ((c.tc : Thread Cert.ProjectSampleIdeal.nD Cert.ProjectSampleIdeal.τ).loc Cert.ProjectSampleIdeal.main_v17)),
      θ_run (Cert.ProjectSampleIdeal.defs (F := Ideal)) (onTc (τ := Cert.ProjectSampleIdeal.τ) (Cert.ProjectSampleIdeal.main (F := Ideal))) ⟨m, fun _ => 0, g⟩ (fun r => ∀ c : Dev Cert.ProjectSampleIdeal.nD,
          r.2.mem ((c.tc : Thread Cert.ProjectSampleIdeal.nD Cert.ProjectSampleIdeal.τ).loc Cert.ProjectSampleIdeal.main_v17) = v0 c
          ∧ r.2.mem ((c.tc : Thread Cert.ProjectSampleIdeal.nD Cert.ProjectSampleIdeal.τ).loc Cert.ProjectSampleIdeal.main_arg0) = m ((c.tc : Thread Cert.ProjectSampleIdeal.nD Cert.ProjectSampleIdeal.τ).loc Cert.ProjectSampleIdeal.main_arg0)
          ∧ r.2.mem ((c.tc : Thread Cert.ProjectSampleIdeal.nD Cert.ProjectSampleIdeal.τ).loc Cert.ProjectSampleIdeal.main_arg1) = m ((c.tc : Thread Cert.ProjectSampleIdeal.nD Cert.ProjectSampleIdeal.τ).loc Cert.ProjectSampleIdeal.main_arg1)
          ∧ r.2.mem ((c.tc : Thread Cert.ProjectSampleIdeal.nD Cert.ProjectSampleIdeal.τ).loc Cert.ProjectSampleIdeal.main_arg2) = m ((c.tc : Thread Cert.ProjectSampleIdeal.nD Cert.ProjectSampleIdeal.τ).loc Cert.ProjectSampleIdeal.main_arg2))
      ∧ θ_run (Cert.ProjectSampleRefIdeal.defs (F := Ideal)) (onTc (τ := Cert.ProjectSampleRefIdeal.τ) (Cert.ProjectSampleRefIdeal.main (F := Ideal))) ⟨m', fun _ => 0, g'⟩ (fun r => ∀ c : Dev Cert.ProjectSampleRefIdeal.nD,
          r.2.mem ((c.tc : Thread Cert.ProjectSampleRefIdeal.nD Cert.ProjectSampleRefIdeal.τ).loc Cert.ProjectSampleRefIdeal.main_v30) = v0 c
          ∧ r.2.mem ((c.tc : Thread Cert.ProjectSampleRefIdeal.nD Cert.ProjectSampleRefIdeal.τ).loc Cert.ProjectSampleRefIdeal.main_arg0) = m' ((c.tc : Thread Cert.ProjectSampleRefIdeal.nD Cert.ProjectSampleRefIdeal.τ).loc Cert.ProjectSampleRefIdeal.main_arg0)
          ∧ r.2.mem ((c.tc : Thread Cert.ProjectSampleRefIdeal.nD Cert.ProjectSampleRefIdeal.τ).loc Cert.ProjectSampleRefIdeal.main_arg1) = m' ((c.tc : Thread Cert.ProjectSampleRefIdeal.nD Cert.ProjectSampleRefIdeal.τ).loc Cert.ProjectSampleRefIdeal.main_arg1)
          ∧ r.2.mem ((c.tc : Thread Cert.ProjectSampleRefIdeal.nD Cert.ProjectSampleRefIdeal.τ).loc Cert.ProjectSampleRefIdeal.main_arg2) = m' ((c.tc : Thread Cert.ProjectSampleRefIdeal.nD Cert.ProjectSampleRefIdeal.τ).loc Cert.ProjectSampleRefIdeal.main_arg2))

def preserves_OutProjSample_OutProjSampleIdeal : Prop :=
  True

def algebraic_OutProjSampleIdeal_OutProjSampleRefIdeal [hOutProjSampleIdeal : Cert.OutProjSampleIdeal.Facts] [hOutProjSampleRefIdeal : Cert.OutProjSampleRefIdeal.Facts] : Prop :=
  ∀ (m : (ℓ : Loc Cert.OutProjSampleIdeal.nD Cert.OutProjSampleIdeal.τ Cert.OutProjSampleIdeal.sig) → Buf (Elt Ideal) ℓ) (g : Dev Cert.OutProjSampleIdeal.nD → PrngReg)
    (m' : (ℓ : Loc Cert.OutProjSampleRefIdeal.nD Cert.OutProjSampleRefIdeal.τ Cert.OutProjSampleRefIdeal.sig) → Buf (Elt Ideal) ℓ) (g' : Dev Cert.OutProjSampleRefIdeal.nD → PrngReg), Pre_OutProjSampleIdeal m →
    (∀ c : Dev Cert.OutProjSampleIdeal.nD,
      m' ((c.tc : Thread Cert.OutProjSampleRefIdeal.nD Cert.OutProjSampleRefIdeal.τ).loc Cert.OutProjSampleRefIdeal.main_arg0) = m ((c.tc : Thread Cert.OutProjSampleIdeal.nD Cert.OutProjSampleIdeal.τ).loc Cert.OutProjSampleIdeal.main_arg0)
      ∧ m' ((c.tc : Thread Cert.OutProjSampleRefIdeal.nD Cert.OutProjSampleRefIdeal.τ).loc Cert.OutProjSampleRefIdeal.main_arg1) = m ((c.tc : Thread Cert.OutProjSampleIdeal.nD Cert.OutProjSampleIdeal.τ).loc Cert.OutProjSampleIdeal.main_arg1)
      ∧ m' ((c.tc : Thread Cert.OutProjSampleRefIdeal.nD Cert.OutProjSampleRefIdeal.τ).loc Cert.OutProjSampleRefIdeal.main_arg2) = m ((c.tc : Thread Cert.OutProjSampleIdeal.nD Cert.OutProjSampleIdeal.τ).loc Cert.OutProjSampleIdeal.main_arg2)
      ∧ m' ((c.tc : Thread Cert.OutProjSampleRefIdeal.nD Cert.OutProjSampleRefIdeal.τ).loc Cert.OutProjSampleRefIdeal.main_arg3) = m ((c.tc : Thread Cert.OutProjSampleIdeal.nD Cert.OutProjSampleIdeal.τ).loc Cert.OutProjSampleIdeal.main_arg3)
      ∧ m' ((c.tc : Thread Cert.OutProjSampleRefIdeal.nD Cert.OutProjSampleRefIdeal.τ).loc Cert.OutProjSampleRefIdeal.main_arg4) = m ((c.tc : Thread Cert.OutProjSampleIdeal.nD Cert.OutProjSampleIdeal.τ).loc Cert.OutProjSampleIdeal.main_arg4)
      ∧ m' ((c.tc : Thread Cert.OutProjSampleRefIdeal.nD Cert.OutProjSampleRefIdeal.τ).loc Cert.OutProjSampleRefIdeal.main_arg5) = m ((c.tc : Thread Cert.OutProjSampleIdeal.nD Cert.OutProjSampleIdeal.τ).loc Cert.OutProjSampleIdeal.main_arg5)) →
    ∃ (v0 : (c : Dev Cert.OutProjSampleIdeal.nD) → Buf (Elt Ideal) ((c.tc : Thread Cert.OutProjSampleIdeal.nD Cert.OutProjSampleIdeal.τ).loc Cert.OutProjSampleIdeal.main_v5)),
      θ_run (Cert.OutProjSampleIdeal.defs (F := Ideal)) (onTc (τ := Cert.OutProjSampleIdeal.τ) (Cert.OutProjSampleIdeal.main (F := Ideal))) ⟨m, fun _ => 0, g⟩ (fun r => ∀ c : Dev Cert.OutProjSampleIdeal.nD,
          r.2.mem ((c.tc : Thread Cert.OutProjSampleIdeal.nD Cert.OutProjSampleIdeal.τ).loc Cert.OutProjSampleIdeal.main_v5) = v0 c
          ∧ r.2.mem ((c.tc : Thread Cert.OutProjSampleIdeal.nD Cert.OutProjSampleIdeal.τ).loc Cert.OutProjSampleIdeal.main_arg0) = m ((c.tc : Thread Cert.OutProjSampleIdeal.nD Cert.OutProjSampleIdeal.τ).loc Cert.OutProjSampleIdeal.main_arg0)
          ∧ r.2.mem ((c.tc : Thread Cert.OutProjSampleIdeal.nD Cert.OutProjSampleIdeal.τ).loc Cert.OutProjSampleIdeal.main_arg1) = m ((c.tc : Thread Cert.OutProjSampleIdeal.nD Cert.OutProjSampleIdeal.τ).loc Cert.OutProjSampleIdeal.main_arg1)
          ∧ r.2.mem ((c.tc : Thread Cert.OutProjSampleIdeal.nD Cert.OutProjSampleIdeal.τ).loc Cert.OutProjSampleIdeal.main_arg2) = m ((c.tc : Thread Cert.OutProjSampleIdeal.nD Cert.OutProjSampleIdeal.τ).loc Cert.OutProjSampleIdeal.main_arg2)
          ∧ r.2.mem ((c.tc : Thread Cert.OutProjSampleIdeal.nD Cert.OutProjSampleIdeal.τ).loc Cert.OutProjSampleIdeal.main_arg3) = m ((c.tc : Thread Cert.OutProjSampleIdeal.nD Cert.OutProjSampleIdeal.τ).loc Cert.OutProjSampleIdeal.main_arg3)
          ∧ r.2.mem ((c.tc : Thread Cert.OutProjSampleIdeal.nD Cert.OutProjSampleIdeal.τ).loc Cert.OutProjSampleIdeal.main_arg4) = m ((c.tc : Thread Cert.OutProjSampleIdeal.nD Cert.OutProjSampleIdeal.τ).loc Cert.OutProjSampleIdeal.main_arg4)
          ∧ r.2.mem ((c.tc : Thread Cert.OutProjSampleIdeal.nD Cert.OutProjSampleIdeal.τ).loc Cert.OutProjSampleIdeal.main_arg5) = m ((c.tc : Thread Cert.OutProjSampleIdeal.nD Cert.OutProjSampleIdeal.τ).loc Cert.OutProjSampleIdeal.main_arg5))
      ∧ θ_run (Cert.OutProjSampleRefIdeal.defs (F := Ideal)) (onTc (τ := Cert.OutProjSampleRefIdeal.τ) (Cert.OutProjSampleRefIdeal.main (F := Ideal))) ⟨m', fun _ => 0, g'⟩ (fun r => ∀ c : Dev Cert.OutProjSampleRefIdeal.nD,
          r.2.mem ((c.tc : Thread Cert.OutProjSampleRefIdeal.nD Cert.OutProjSampleRefIdeal.τ).loc Cert.OutProjSampleRefIdeal.main_v21) = v0 c
          ∧ r.2.mem ((c.tc : Thread Cert.OutProjSampleRefIdeal.nD Cert.OutProjSampleRefIdeal.τ).loc Cert.OutProjSampleRefIdeal.main_arg0) = m' ((c.tc : Thread Cert.OutProjSampleRefIdeal.nD Cert.OutProjSampleRefIdeal.τ).loc Cert.OutProjSampleRefIdeal.main_arg0)
          ∧ r.2.mem ((c.tc : Thread Cert.OutProjSampleRefIdeal.nD Cert.OutProjSampleRefIdeal.τ).loc Cert.OutProjSampleRefIdeal.main_arg1) = m' ((c.tc : Thread Cert.OutProjSampleRefIdeal.nD Cert.OutProjSampleRefIdeal.τ).loc Cert.OutProjSampleRefIdeal.main_arg1)
          ∧ r.2.mem ((c.tc : Thread Cert.OutProjSampleRefIdeal.nD Cert.OutProjSampleRefIdeal.τ).loc Cert.OutProjSampleRefIdeal.main_arg2) = m' ((c.tc : Thread Cert.OutProjSampleRefIdeal.nD Cert.OutProjSampleRefIdeal.τ).loc Cert.OutProjSampleRefIdeal.main_arg2)
          ∧ r.2.mem ((c.tc : Thread Cert.OutProjSampleRefIdeal.nD Cert.OutProjSampleRefIdeal.τ).loc Cert.OutProjSampleRefIdeal.main_arg3) = m' ((c.tc : Thread Cert.OutProjSampleRefIdeal.nD Cert.OutProjSampleRefIdeal.τ).loc Cert.OutProjSampleRefIdeal.main_arg3)
          ∧ r.2.mem ((c.tc : Thread Cert.OutProjSampleRefIdeal.nD Cert.OutProjSampleRefIdeal.τ).loc Cert.OutProjSampleRefIdeal.main_arg4) = m' ((c.tc : Thread Cert.OutProjSampleRefIdeal.nD Cert.OutProjSampleRefIdeal.τ).loc Cert.OutProjSampleRefIdeal.main_arg4)
          ∧ r.2.mem ((c.tc : Thread Cert.OutProjSampleRefIdeal.nD Cert.OutProjSampleRefIdeal.τ).loc Cert.OutProjSampleRefIdeal.main_arg5) = m' ((c.tc : Thread Cert.OutProjSampleRefIdeal.nD Cert.OutProjSampleRefIdeal.τ).loc Cert.OutProjSampleRefIdeal.main_arg5))

def preserves_RopeSample_RopeSampleIdeal : Prop :=
  True

def algebraic_RopeSampleIdeal_RopeSampleRefIdeal [hRopeSampleIdeal : Cert.RopeSampleIdeal.Facts] [hRopeSampleRefIdeal : Cert.RopeSampleRefIdeal.Facts] : Prop :=
  ∀ (m : (ℓ : Loc Cert.RopeSampleIdeal.nD Cert.RopeSampleIdeal.τ Cert.RopeSampleIdeal.sig) → Buf (Elt Ideal) ℓ) (g : Dev Cert.RopeSampleIdeal.nD → PrngReg)
    (m' : (ℓ : Loc Cert.RopeSampleRefIdeal.nD Cert.RopeSampleRefIdeal.τ Cert.RopeSampleRefIdeal.sig) → Buf (Elt Ideal) ℓ) (g' : Dev Cert.RopeSampleRefIdeal.nD → PrngReg), Pre_RopeSampleIdeal m →
    (∀ c : Dev Cert.RopeSampleIdeal.nD,
      m' ((c.tc : Thread Cert.RopeSampleRefIdeal.nD Cert.RopeSampleRefIdeal.τ).loc Cert.RopeSampleRefIdeal.main_arg0) = m ((c.tc : Thread Cert.RopeSampleIdeal.nD Cert.RopeSampleIdeal.τ).loc Cert.RopeSampleIdeal.main_arg0)) →
    ∃ (v0 : (c : Dev Cert.RopeSampleIdeal.nD) → Buf (Elt Ideal) ((c.tc : Thread Cert.RopeSampleIdeal.nD Cert.RopeSampleIdeal.τ).loc Cert.RopeSampleIdeal.main_v61_0)) (v1 : (c : Dev Cert.RopeSampleIdeal.nD) → Buf (Elt Ideal) ((c.tc : Thread Cert.RopeSampleIdeal.nD Cert.RopeSampleIdeal.τ).loc Cert.RopeSampleIdeal.main_v61_1)) (v2 : (c : Dev Cert.RopeSampleIdeal.nD) → Buf (Elt Ideal) ((c.tc : Thread Cert.RopeSampleIdeal.nD Cert.RopeSampleIdeal.τ).loc Cert.RopeSampleIdeal.main_v61_2)) (v3 : (c : Dev Cert.RopeSampleIdeal.nD) → Buf (Elt Ideal) ((c.tc : Thread Cert.RopeSampleIdeal.nD Cert.RopeSampleIdeal.τ).loc Cert.RopeSampleIdeal.main_v61_3)) (v4 : (c : Dev Cert.RopeSampleIdeal.nD) → Buf (Elt Ideal) ((c.tc : Thread Cert.RopeSampleIdeal.nD Cert.RopeSampleIdeal.τ).loc Cert.RopeSampleIdeal.main_v61_4)) (v5 : (c : Dev Cert.RopeSampleIdeal.nD) → Buf (Elt Ideal) ((c.tc : Thread Cert.RopeSampleIdeal.nD Cert.RopeSampleIdeal.τ).loc Cert.RopeSampleIdeal.main_v61_5)) (v6 : (c : Dev Cert.RopeSampleIdeal.nD) → Buf (Elt Ideal) ((c.tc : Thread Cert.RopeSampleIdeal.nD Cert.RopeSampleIdeal.τ).loc Cert.RopeSampleIdeal.main_v61_6)) (v7 : (c : Dev Cert.RopeSampleIdeal.nD) → Buf (Elt Ideal) ((c.tc : Thread Cert.RopeSampleIdeal.nD Cert.RopeSampleIdeal.τ).loc Cert.RopeSampleIdeal.main_v61_7)),
      θ_run (Cert.RopeSampleIdeal.defs (F := Ideal)) (onTc (τ := Cert.RopeSampleIdeal.τ) (Cert.RopeSampleIdeal.main (F := Ideal))) ⟨m, fun _ => 0, g⟩ (fun r => ∀ c : Dev Cert.RopeSampleIdeal.nD,
          r.2.mem ((c.tc : Thread Cert.RopeSampleIdeal.nD Cert.RopeSampleIdeal.τ).loc Cert.RopeSampleIdeal.main_v61_0) = v0 c
          ∧ r.2.mem ((c.tc : Thread Cert.RopeSampleIdeal.nD Cert.RopeSampleIdeal.τ).loc Cert.RopeSampleIdeal.main_v61_1) = v1 c
          ∧ r.2.mem ((c.tc : Thread Cert.RopeSampleIdeal.nD Cert.RopeSampleIdeal.τ).loc Cert.RopeSampleIdeal.main_v61_2) = v2 c
          ∧ r.2.mem ((c.tc : Thread Cert.RopeSampleIdeal.nD Cert.RopeSampleIdeal.τ).loc Cert.RopeSampleIdeal.main_v61_3) = v3 c
          ∧ r.2.mem ((c.tc : Thread Cert.RopeSampleIdeal.nD Cert.RopeSampleIdeal.τ).loc Cert.RopeSampleIdeal.main_v61_4) = v4 c
          ∧ r.2.mem ((c.tc : Thread Cert.RopeSampleIdeal.nD Cert.RopeSampleIdeal.τ).loc Cert.RopeSampleIdeal.main_v61_5) = v5 c
          ∧ r.2.mem ((c.tc : Thread Cert.RopeSampleIdeal.nD Cert.RopeSampleIdeal.τ).loc Cert.RopeSampleIdeal.main_v61_6) = v6 c
          ∧ r.2.mem ((c.tc : Thread Cert.RopeSampleIdeal.nD Cert.RopeSampleIdeal.τ).loc Cert.RopeSampleIdeal.main_v61_7) = v7 c
          ∧ r.2.mem ((c.tc : Thread Cert.RopeSampleIdeal.nD Cert.RopeSampleIdeal.τ).loc Cert.RopeSampleIdeal.main_arg0) = m ((c.tc : Thread Cert.RopeSampleIdeal.nD Cert.RopeSampleIdeal.τ).loc Cert.RopeSampleIdeal.main_arg0))
      ∧ θ_run (Cert.RopeSampleRefIdeal.defs (F := Ideal)) (onTc (τ := Cert.RopeSampleRefIdeal.τ) (Cert.RopeSampleRefIdeal.main (F := Ideal))) ⟨m', fun _ => 0, g'⟩ (fun r => ∀ c : Dev Cert.RopeSampleRefIdeal.nD,
          r.2.mem ((c.tc : Thread Cert.RopeSampleRefIdeal.nD Cert.RopeSampleRefIdeal.τ).loc Cert.RopeSampleRefIdeal.main_v38) = v0 c
          ∧ r.2.mem ((c.tc : Thread Cert.RopeSampleRefIdeal.nD Cert.RopeSampleRefIdeal.τ).loc Cert.RopeSampleRefIdeal.main_v147) = v1 c
          ∧ r.2.mem ((c.tc : Thread Cert.RopeSampleRefIdeal.nD Cert.RopeSampleRefIdeal.τ).loc Cert.RopeSampleRefIdeal.main_v109) = v2 c
          ∧ r.2.mem ((c.tc : Thread Cert.RopeSampleRefIdeal.nD Cert.RopeSampleRefIdeal.τ).loc Cert.RopeSampleRefIdeal.main_v148) = v3 c
          ∧ r.2.mem ((c.tc : Thread Cert.RopeSampleRefIdeal.nD Cert.RopeSampleRefIdeal.τ).loc Cert.RopeSampleRefIdeal.main_v110) = v4 c
          ∧ r.2.mem ((c.tc : Thread Cert.RopeSampleRefIdeal.nD Cert.RopeSampleRefIdeal.τ).loc Cert.RopeSampleRefIdeal.main_v149) = v5 c
          ∧ r.2.mem ((c.tc : Thread Cert.RopeSampleRefIdeal.nD Cert.RopeSampleRefIdeal.τ).loc Cert.RopeSampleRefIdeal.main_v146) = v6 c
          ∧ r.2.mem ((c.tc : Thread Cert.RopeSampleRefIdeal.nD Cert.RopeSampleRefIdeal.τ).loc Cert.RopeSampleRefIdeal.main_v150) = v7 c
          ∧ r.2.mem ((c.tc : Thread Cert.RopeSampleRefIdeal.nD Cert.RopeSampleRefIdeal.τ).loc Cert.RopeSampleRefIdeal.main_arg0) = m' ((c.tc : Thread Cert.RopeSampleRefIdeal.nD Cert.RopeSampleRefIdeal.τ).loc Cert.RopeSampleRefIdeal.main_arg0))

def Claim : Prop :=
  ∃ (hKernel : Cert.Kernel.Facts) (hKernelIdeal : Cert.KernelIdeal.Facts) (hReferenceIdeal : Cert.ReferenceIdeal.Facts) (hMemoryKv : Cert.MemoryKv.Facts) (hMemoryKvIdeal : Cert.MemoryKvIdeal.Facts) (hMemoryKvRefIdeal : Cert.MemoryKvRefIdeal.Facts) (hProject : Cert.Project.Facts) (hProjectIdeal : Cert.ProjectIdeal.Facts) (hProjectRefIdeal : Cert.ProjectRefIdeal.Facts) (hOutProj : Cert.OutProj.Facts) (hOutProjIdeal : Cert.OutProjIdeal.Facts) (hOutProjRefIdeal : Cert.OutProjRefIdeal.Facts) (hRope : Cert.Rope.Facts) (hRopeIdeal : Cert.RopeIdeal.Facts) (hRopeRefIdeal : Cert.RopeRefIdeal.Facts) (hProjectSample : Cert.ProjectSample.Facts) (hProjectSampleIdeal : Cert.ProjectSampleIdeal.Facts) (hProjectSampleRefIdeal : Cert.ProjectSampleRefIdeal.Facts) (hOutProjSample : Cert.OutProjSample.Facts) (hOutProjSampleIdeal : Cert.OutProjSampleIdeal.Facts) (hOutProjSampleRefIdeal : Cert.OutProjSampleRefIdeal.Facts) (hRopeSample : Cert.RopeSample.Facts) (hRopeSampleIdeal : Cert.RopeSampleIdeal.Facts) (hRopeSampleRefIdeal : Cert.RopeSampleRefIdeal.Facts),
    quiescent_Kernel (hKernel := hKernel)
    ∧ quiescent_KernelIdeal (hKernelIdeal := hKernelIdeal)
    ∧ quiescent_ReferenceIdeal (hReferenceIdeal := hReferenceIdeal)
    ∧ quiescent_MemoryKv (hMemoryKv := hMemoryKv)
    ∧ quiescent_MemoryKvIdeal (hMemoryKvIdeal := hMemoryKvIdeal)
    ∧ quiescent_MemoryKvRefIdeal (hMemoryKvRefIdeal := hMemoryKvRefIdeal)
    ∧ quiescent_Project (hProject := hProject)
    ∧ quiescent_ProjectIdeal (hProjectIdeal := hProjectIdeal)
    ∧ quiescent_ProjectRefIdeal (hProjectRefIdeal := hProjectRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Rope (hRope := hRope)
    ∧ quiescent_RopeIdeal (hRopeIdeal := hRopeIdeal)
    ∧ quiescent_RopeRefIdeal (hRopeRefIdeal := hRopeRefIdeal)
    ∧ quiescent_ProjectSample (hProjectSample := hProjectSample)
    ∧ quiescent_ProjectSampleIdeal (hProjectSampleIdeal := hProjectSampleIdeal)
    ∧ quiescent_ProjectSampleRefIdeal (hProjectSampleRefIdeal := hProjectSampleRefIdeal)
    ∧ quiescent_OutProjSample (hOutProjSample := hOutProjSample)
    ∧ quiescent_OutProjSampleIdeal (hOutProjSampleIdeal := hOutProjSampleIdeal)
    ∧ quiescent_OutProjSampleRefIdeal (hOutProjSampleRefIdeal := hOutProjSampleRefIdeal)
    ∧ quiescent_RopeSample (hRopeSample := hRopeSample)
    ∧ quiescent_RopeSampleIdeal (hRopeSampleIdeal := hRopeSampleIdeal)
    ∧ quiescent_RopeSampleRefIdeal (hRopeSampleRefIdeal := hRopeSampleRefIdeal)
    ∧ preserves_Kernel_KernelIdeal
    ∧ algebraic_KernelIdeal_ReferenceIdeal (hKernelIdeal := hKernelIdeal) (hReferenceIdeal := hReferenceIdeal)
    ∧ preserves_MemoryKv_MemoryKvIdeal
    ∧ algebraic_MemoryKvIdeal_MemoryKvRefIdeal (hMemoryKvIdeal := hMemoryKvIdeal) (hMemoryKvRefIdeal := hMemoryKvRefIdeal)
    ∧ preserves_Project_ProjectIdeal
    ∧ algebraic_ProjectIdeal_ProjectRefIdeal (hProjectIdeal := hProjectIdeal) (hProjectRefIdeal := hProjectRefIdeal)
    ∧ preserves_OutProj_OutProjIdeal
    ∧ algebraic_OutProjIdeal_OutProjRefIdeal (hOutProjIdeal := hOutProjIdeal) (hOutProjRefIdeal := hOutProjRefIdeal)
    ∧ preserves_Rope_RopeIdeal
    ∧ algebraic_RopeIdeal_RopeRefIdeal (hRopeIdeal := hRopeIdeal) (hRopeRefIdeal := hRopeRefIdeal)
    ∧ preserves_ProjectSample_ProjectSampleIdeal
    ∧ algebraic_ProjectSampleIdeal_ProjectSampleRefIdeal (hProjectSampleIdeal := hProjectSampleIdeal) (hProjectSampleRefIdeal := hProjectSampleRefIdeal)
    ∧ preserves_OutProjSample_OutProjSampleIdeal
    ∧ algebraic_OutProjSampleIdeal_OutProjSampleRefIdeal (hOutProjSampleIdeal := hOutProjSampleIdeal) (hOutProjSampleRefIdeal := hOutProjSampleRefIdeal)
    ∧ preserves_RopeSample_RopeSampleIdeal
    ∧ algebraic_RopeSampleIdeal_RopeSampleRefIdeal (hRopeSampleIdeal := hRopeSampleIdeal) (hRopeSampleRefIdeal := hRopeSampleRefIdeal)
-- ==== Kernel.lean ====
abbrev S8192x8704 : Shape := ⟨2, ![8192, 8704]⟩
abbrev S1024x1024 : Shape := ⟨2, ![1024, 1024]⟩
abbrev S8192x512 : Shape := ⟨2, ![8192, 512]⟩
abbrev S1024x512 : Shape := ⟨2, ![1024, 512]⟩
abbrev S256x512 : Shape := ⟨2, ![256, 512]⟩
abbrev S1024x128 : Shape := ⟨2, ![1024, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 3
  | .vmem => 10
  | .smem => 0
  | _ => 0

abbrev bufTy : (tb : Table) → Fin (tcTables nBuf tb) → BufTy
  | .hbm, ⟨0, _⟩ => ⟨S8192x8704, .f32⟩
  | .hbm, ⟨1, _⟩ => ⟨S1024x1024, .f32⟩
  | .hbm, ⟨2, _⟩ => ⟨S8192x512, .bf16⟩
  | .local _ .vmem, ⟨0, _⟩ => ⟨S1024x512, .f32⟩
  | .local _ .vmem, ⟨1, _⟩ => ⟨S1024x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | _, _ => ⟨S8192x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c15_i32 : BitVec 32 := 15#32
  let c0_i32 : BitVec 32 := 0#32
  ![v1.toNat, c15_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c16_i32 : BitVec 32 := 16#32
  let c0_i32 : BitVec 32 := 0#32
  ![v1.toNat, c16_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8192x8704 : Shape := ⟨2, ![8192, 8704]⟩
abbrev S1024x1024 : Shape := ⟨2, ![1024, 1024]⟩
abbrev S8192x512 : Shape := ⟨2, ![8192, 512]⟩
abbrev S4x2048x4x128 : Shape := ⟨4, ![4, 2048, 4, 128]⟩
abbrev S1024x512 : Shape := ⟨2, ![1024, 512]⟩
abbrev S4x256x4x128 : Shape := ⟨4, ![4, 256, 4, 128]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8192x8704, .f32⟩
  | .hbm, ⟨1, _⟩ => ⟨S1024x1024, .f32⟩
  | .hbm, ⟨2, _⟩ => ⟨S8192x512, .f32⟩
  | .hbm, ⟨3, _⟩ => ⟨S4x2048x4x128, .f32⟩
  | .hbm, ⟨4, _⟩ => ⟨S8192x512, .f32⟩
  | .hbm, ⟨5, _⟩ => ⟨S1024x512, .f32⟩
  | .hbm, ⟨6, _⟩ => ⟨S1024x512, .f32⟩
  | .hbm, ⟨7, _⟩ => ⟨S4x256x4x128, .f32⟩
  | .hbm, ⟨8, _⟩ => ⟨S4x256x4x128, .f32⟩
  | .hbm, ⟨9, _⟩ => ⟨S4x4x2048x256, .f32⟩
  | .hbm, ⟨10, _⟩ => ⟨S_, .f32⟩
  | .hbm, ⟨11, _⟩ => ⟨S4x4x2048x256, .f32⟩
  | .hbm, ⟨12, _⟩ => ⟨S4x4x2048x256, .f32⟩
  | .hbm, ⟨13, _⟩ => ⟨S_, .f32⟩
  | .hbm, ⟨14, _⟩ => ⟨S4x4x2048, .f32⟩
  | .hbm, ⟨15, _⟩ => ⟨S_, .f32⟩
  | .hbm, ⟨16, _⟩ => ⟨S4x4x2048, .f32⟩
  | .hbm, ⟨17, _⟩ => ⟨S4x4x2048, .f32⟩
  | .hbm, ⟨18, _⟩ => ⟨S4x4x2048x1, .f32⟩
  | .hbm, ⟨19, _⟩ => ⟨S4x4x2048x256, .f32⟩
  | .hbm, ⟨20, _⟩ => ⟨S4x4x2048x256, .f32⟩
  | .hbm, ⟨21, _⟩ => ⟨S4x4x2048x256, .f32⟩
  | .hbm, ⟨22, _⟩ => ⟨S_, .f32⟩
  | .hbm, ⟨23, _⟩ => ⟨S4x4x2048, .f32⟩
  | .hbm, ⟨24, _⟩ => ⟨S4x4x2048x1, .f32⟩
  | .hbm, ⟨25, _⟩ => ⟨S4x4x2048x256, .f32⟩
  | .hbm, ⟨26, _⟩ => ⟨S4x4x2048x256, .f32⟩
  | .hbm, ⟨27, _⟩ => ⟨S4x4x128x2048, .f32⟩
  | .hbm, ⟨28, _⟩ => ⟨S4x2048x4x128, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S_, .f32⟩
  | .hbm, ⟨33, _⟩ => ⟨S8192x512, .f32⟩
  | .hbm, ⟨34, _⟩ => ⟨S8192x512, .f32⟩
  | .hbm, ⟨35, _⟩ => ⟨S_, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .bf16⟩
  | _, _ => ⟨S8192x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== MemoryKv.lean ====
abbrev S4x256x2048 : Shape := ⟨3, ![4, 256, 2048]⟩
abbrev S1x2048 : Shape := ⟨2, ![1, 2048]⟩
abbrev S1x2048x1024 : Shape := ⟨3, ![1, 2048, 1024]⟩
abbrev S2048x1024 : Shape := ⟨2, ![2048, 1024]⟩
abbrev S1024x2048 : Shape := ⟨2, ![1024, 2048]⟩
abbrev S2048 : Shape := ⟨1, ![2048]⟩
abbrev S1024x1024 : Shape := ⟨2, ![1024, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 7
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S1x2048x1024, .f32⟩
  | .hbm, ⟨3, _⟩ => ⟨S2048x1024, .f32⟩
  | .hbm, ⟨4, _⟩ => ⟨S2048x1024, .bf16⟩
  | .hbm, ⟨5, _⟩ => ⟨S1024x2048, .f32⟩
  | .hbm, ⟨6, _⟩ => ⟨S2048, .f32⟩
  | .hbm, ⟨7, _⟩ => ⟨S1x2048, .f32⟩
  | .hbm, ⟨8, _⟩ => ⟨S1024x1024, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x2048, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemoryKvRefIdeal.lean ====
abbrev S4x256x2048 : Shape := ⟨3, ![4, 256, 2048]⟩
abbrev S1x2048 : Shape := ⟨2, ![1, 2048]⟩
abbrev S1x2048x1024 : Shape := ⟨3, ![1, 2048, 1024]⟩
abbrev S2048 : Shape := ⟨1, ![2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S2048x1024 : Shape := ⟨2, ![2048, 1024]⟩
abbrev S4x256x1024 : Shape := ⟨3, ![4, 256, 1024]⟩
abbrev S1024x1024 : Shape := ⟨2, ![1024, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S1x2048x1024, .f32⟩
  | .hbm, ⟨3, _⟩ => ⟨S2048, .f32⟩
  | .hbm, ⟨4, _⟩ => ⟨S4x256x2048, .f32⟩
  | .hbm, ⟨5, _⟩ => ⟨S_, .f32⟩
  | .hbm, ⟨6, _⟩ => ⟨S4x256, .f32⟩
  | .hbm, ⟨7, _⟩ => ⟨S4x256x1, .f32⟩
  | .hbm, ⟨8, _⟩ => ⟨S_, .f32⟩
  | .hbm, ⟨9, _⟩ => ⟨S4x256x1, .f32⟩
  | .hbm, ⟨10, _⟩ => ⟨S4x256x1, .f32⟩
  | .hbm, ⟨11, _⟩ => ⟨S_, .f32⟩
  | .hbm, ⟨12, _⟩ => ⟨S4x256x1, .f32⟩
  | .hbm, ⟨13, _⟩ => ⟨S4x256x1, .f32⟩
  | .hbm, ⟨14, _⟩ => ⟨S4x256x1, .f32⟩
  | .hbm, ⟨15, _⟩ => ⟨S4x256x2048, .f32⟩
  | .hbm, ⟨16, _⟩ => ⟨S4x256x2048, .f32⟩
  | .hbm, ⟨17, _⟩ => ⟨S1x1x2048, .f32⟩
  | .hbm, ⟨18, _⟩ => ⟨S4x256x2048, .f32⟩
  | .hbm, ⟨19, _⟩ => ⟨S4x256x2048, .f32⟩
  | .hbm, ⟨20, _⟩ => ⟨S2048x1024, .f32⟩
  | .hbm, ⟨21, _⟩ => ⟨S4x256x1024, .f32⟩
  | .hbm, ⟨22, _⟩ => ⟨S1024x1024, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Project.lean ====
abbrev S4x2048x2048 : Shape := ⟨3, ![4, 2048, 2048]⟩
abbrev S1x2048 : Shape := ⟨2, ![1, 2048]⟩
abbrev S1x2048x8400 : Shape := ⟨3, ![1, 2048, 8400]⟩
abbrev S2048x8400 : Shape := ⟨2, ![2048, 8400]⟩
abbrev S2048x4224 : Shape := ⟨2, ![2048, 4224]⟩
abbrev S2048x64 : Shape := ⟨2, ![2048, 64]⟩
abbrev S2048x16 : Shape := ⟨2, ![2048, 16]⟩
abbrev S_ : Shape := ⟨0, ![]⟩
abbrev S2048x304 : Shape := ⟨2, ![2048, 304]⟩
abbrev S2048x512 : Shape := ⟨2, ![2048, 512]⟩
abbrev S2048x1024 : Shape := ⟨2, ![2048, 1024]⟩
abbrev S2048x8704 : Shape := ⟨2, ![2048, 8704]⟩
abbrev S8192x2048 : Shape := ⟨2, ![8192, 2048]⟩
abbrev S2048 : Shape := ⟨1, ![2048]⟩
abbrev S8192x8704 : Shape := ⟨2, ![8192, 8704]⟩
abbrev S1024x2048 : Shape := ⟨2, ![1024, 2048]⟩
abbrev S1024x512 : Shape := ⟨2, ![1024, 512]⟩
abbrev S1024 : Shape := ⟨1, ![1024]⟩
abbrev S1024x1 : Shape := ⟨2, ![1024, 1]⟩

abbrev nBuf : Space → Nat
  | .hbm => 21
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x8400, .f32⟩
  | .hbm, ⟨3, _⟩ => ⟨S2048x8400, .f32⟩
  | .hbm, ⟨4, _⟩ => ⟨S2048x4224, .f32⟩
  | .hbm, ⟨5, _⟩ => ⟨S2048x64, .f32⟩
  | .hbm, ⟨6, _⟩ => ⟨S2048x16, .f32⟩
  | .hbm, ⟨7, _⟩ => ⟨S_, .f32⟩
  | .hbm, ⟨8, _⟩ => ⟨S2048x304, .f32⟩
  | .hbm, ⟨9, _⟩ => ⟨S2048x512, .f32⟩
  | .hbm, ⟨10, _⟩ => ⟨S2048x1024, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S2048x1024, .f32⟩
  | .hbm, ⟨15, _⟩ => ⟨S2048x8704, .f32⟩
  | .hbm, ⟨16, _⟩ => ⟨S2048x8704, .bf16⟩
  | .hbm, ⟨17, _⟩ => ⟨S8192x2048, .f32⟩
  | .hbm, ⟨18, _⟩ => ⟨S2048, .f32⟩
  | .hbm, ⟨19, _⟩ => ⟨S1x2048, .f32⟩
  | .hbm, ⟨20, _⟩ => ⟨S8192x8704, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjectRefIdeal.lean ====
abbrev S4x2048x2048 : Shape := ⟨3, ![4, 2048, 2048]⟩
abbrev S1x2048 : Shape := ⟨2, ![1, 2048]⟩
abbrev S1x2048x8400 : Shape := ⟨3, ![1, 2048, 8400]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S2048x8400 : Shape := ⟨2, ![2048, 8400]⟩
abbrev S4x2048x8400 : Shape := ⟨3, ![4, 2048, 8400]⟩
abbrev S8192x8400 : Shape := ⟨2, ![8192, 8400]⟩
abbrev S8192x3200 : Shape := ⟨2, ![8192, 3200]⟩
abbrev S8192x1024 : Shape := ⟨2, ![8192, 1024]⟩
abbrev S8192x512 : Shape := ⟨2, ![8192, 512]⟩
abbrev S8192x16 : Shape := ⟨2, ![8192, 16]⟩
abbrev S8192x64 : Shape := ⟨2, ![8192, 64]⟩
abbrev S8192x304 : Shape := ⟨2, ![8192, 304]⟩
abbrev S8192x8704 : Shape := ⟨2, ![8192, 8704]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x2048, .f32⟩
  | .hbm, ⟨2, _⟩ => ⟨S1x2048x8400, .f32⟩
  | .hbm, ⟨3, _⟩ => ⟨S2048, .f32⟩
  | .hbm, ⟨4, _⟩ => ⟨S4x2048x2048, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x2048, .f32⟩
  | .hbm, ⟨16, _⟩ => ⟨S4x2048x2048, .f32⟩
  | .hbm, ⟨17, _⟩ => ⟨S1x1x2048, .f32⟩
  | .hbm, ⟨18, _⟩ => ⟨S4x2048x2048, .f32⟩
  | .hbm, ⟨19, _⟩ => ⟨S4x2048x2048, .f32⟩
  | .hbm, ⟨20, _⟩ => ⟨S2048x8400, .f32⟩
  | .hbm, ⟨21, _⟩ => ⟨S4x2048x8400, .f32⟩
  | .hbm, ⟨22, _⟩ => ⟨S8192x8400, .f32⟩
  | .hbm, ⟨23, _⟩ => ⟨S8192x3200, .f32⟩
  | .hbm, ⟨24, _⟩ => ⟨S8192x1024, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x1024, .f32⟩
  | .hbm, ⟨30, _⟩ => ⟨S8192x16, .f32⟩
  | .hbm, ⟨31, _⟩ => ⟨S8192x64, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S8192x304, .f32⟩
  | .hbm, ⟨36, _⟩ => ⟨S8192x8704, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== OutProj.lean ====
abbrev S8192x1024 : Shape := ⟨2, ![8192, 1024]⟩
abbrev S8192x512 : Shape := ⟨2, ![8192, 512]⟩
abbrev S4x2048x2048 : Shape := ⟨3, ![4, 2048, 2048]⟩
abbrev S1x2048x2048 : Shape := ⟨3, ![1, 2048, 2048]⟩
abbrev S2048 : Shape := ⟨1, ![2048]⟩
abbrev S2048x2048 : Shape := ⟨2, ![2048, 2048]⟩
abbrev S8192x2048 : Shape := ⟨2, ![8192, 2048]⟩
abbrev S1x2048 : Shape := ⟨2, ![1, 2048]⟩
abbrev S512x1024 : Shape := ⟨2, ![512, 1024]⟩
abbrev S512x512 : Shape := ⟨2, ![512, 512]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S4x2048x2048, .f32⟩
  | .hbm, ⟨4, _⟩ => ⟨S1x2048x2048, .f32⟩
  | .hbm, ⟨5, _⟩ => ⟨S2048, .f32⟩
  | .hbm, ⟨6, _⟩ => ⟨S2048x2048, .f32⟩
  | .hbm, ⟨7, _⟩ => ⟨S2048x2048, .bf16⟩
  | .hbm, ⟨8, _⟩ => ⟨S8192x2048, .f32⟩
  | .hbm, ⟨9, _⟩ => ⟨S1x2048, .f32⟩
  | .hbm, ⟨10, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .f32⟩
  | .local _ .vmem, ⟨7, _⟩ => ⟨S512x2048, .f32⟩
  | .local _ .vmem, ⟨8, _⟩ => ⟨S2048x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutProjRefIdeal.lean ====
abbrev S8192x1024 : Shape := ⟨2, ![8192, 1024]⟩
abbrev S8192x512 : Shape := ⟨2, ![8192, 512]⟩
abbrev S4x2048x2048 : Shape := ⟨3, ![4, 2048, 2048]⟩
abbrev S1x2048x2048 : Shape := ⟨3, ![1, 2048, 2048]⟩
abbrev S2048 : Shape := ⟨1, ![2048]⟩
abbrev S8192x2048 : Shape := ⟨2, ![8192, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x512, .bf16⟩
  | .hbm, ⟨3, _⟩ => ⟨S4x2048x2048, .f32⟩
  | .hbm, ⟨4, _⟩ => ⟨S1x2048x2048, .f32⟩
  | .hbm, ⟨5, _⟩ => ⟨S2048, .f32⟩
  | .hbm, ⟨6, _⟩ => ⟨S8192x1024, .f32⟩
  | .hbm, ⟨7, _⟩ => ⟨S8192x512, .f32⟩
  | .hbm, ⟨8, _⟩ => ⟨S8192x512, .f32⟩
  | .hbm, ⟨9, _⟩ => ⟨S8192x2048, .f32⟩
  | .hbm, ⟨10, _⟩ => ⟨S2048x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S8192x2048, .f32⟩
  | .hbm, ⟨29, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Rope.lean ====
abbrev S8192x8704 : Shape := ⟨2, ![8192, 8704]⟩
abbrev S2048 : Shape := ⟨1, ![2048]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S1x2048x1x128 : Shape := ⟨4, ![1, 2048, 1, 128]⟩
abbrev S32 : Shape := ⟨1, ![32]⟩
abbrev S1x32 : Shape := ⟨2, ![1, 32]⟩
abbrev S2048x32 : Shape := ⟨2, ![2048, 32]⟩
abbrev S1x2048x1x64 : Shape := ⟨4, ![1, 2048, 1, 64]⟩
abbrev S1x2048x2x64 : Shape := ⟨4, ![1, 2048, 2, 64]⟩
abbrev S8192x512 : Shape := ⟨2, ![8192, 512]⟩
abbrev S4x16x64x2048 : Shape := ⟨4, ![4, 16, 64, 2048]⟩
abbrev S4x2048x4x128 : Shape := ⟨4, ![4, 2048, 4, 128]⟩
abbrev S4x512x2048 : Shape := ⟨3, ![4, 512, 2048]⟩
abbrev S4x64x2048 : Shape := ⟨3, ![4, 64, 2048]⟩
abbrev S8192x64 : Shape := ⟨2, ![8192, 64]⟩
abbrev S256x512 : Shape := ⟨2, ![256, 512]⟩
abbrev S256x1024 : Shape := ⟨2, ![256, 1024]⟩
abbrev S256x128 : Shape := ⟨2, ![256, 128]⟩
abbrev S1x16x64x256 : Shape := ⟨4, ![1, 16, 64, 256]⟩
abbrev S1x256x4x128 : Shape := ⟨4, ![1, 256, 4, 128]⟩
abbrev S1x512x256 : Shape := ⟨3, ![1, 512, 256]⟩
abbrev S1x64x256 : Shape := ⟨3, ![1, 64, 256]⟩
abbrev S256x64 : Shape := ⟨2, ![256, 64]⟩
abbrev S1x256x1x128 : Shape := ⟨4, ![1, 256, 1, 128]⟩
abbrev S512x256 : Shape := ⟨2, ![512, 256]⟩
abbrev S128x256 : Shape := ⟨2, ![128, 256]⟩
abbrev S64x256 : Shape := ⟨2, ![64, 256]⟩
abbrev S1x1x64x256 : Shape := ⟨4, ![1, 1, 64, 256]⟩

abbrev nBuf : Space → Nat
  | .hbm => 60
  | .vmem => 34
  | .smem => 0
  | _ => 0

abbrev bufTy : (tb : Table) → Fin (tcTables nBuf tb) → BufTy
  | .hbm, ⟨0, _⟩ => ⟨S8192x8704, .f32⟩
  | .hbm, ⟨1, _⟩ => ⟨S2048, .i32⟩
  | .hbm, ⟨2, _⟩ => ⟨S64, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S2048, .f32⟩
  | .hbm, ⟨11, _⟩ => ⟨S2048x1, .f32⟩
  | .hbm, ⟨12, _⟩ => ⟨S1x64, .f32⟩
  | .hbm, ⟨13, _⟩ => ⟨S2048x64, .f32⟩
  | .hbm, ⟨14, _⟩ => ⟨S2048x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x128, .f32⟩
  | .hbm, ⟨19, _⟩ => ⟨S1x2048x1x128, .f32⟩
  | .hbm, ⟨20, _⟩ => ⟨S1x2048x1x128, .f32⟩
  | .hbm, ⟨21, _⟩ => ⟨S2048x128, .f32⟩
  | .hbm, ⟨22, _⟩ => ⟨S2048x64, .f32⟩
  | .hbm, ⟨23, _⟩ => ⟨S2048x128, .f32⟩
  | .hbm, ⟨24, _⟩ => ⟨S1x2048x1x128, .f32⟩
  | .hbm, ⟨25, _⟩ => ⟨S1x2048x1x128, .f32⟩
  | .hbm, ⟨26, _⟩ => ⟨S2048x128, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S2048, .f32⟩
  | .hbm, ⟨36, _⟩ => ⟨S2048x1, .f32⟩
  | .hbm, ⟨37, _⟩ => ⟨S1x32, .f32⟩
  | .hbm, ⟨38, _⟩ => ⟨S2048x32, .f32⟩
  | .hbm, ⟨39, _⟩ => ⟨S2048x32, .f32⟩
  | .hbm, ⟨40, _⟩ => ⟨S2048x32, .f32⟩
  | .hbm, ⟨41, _⟩ => ⟨S2048x32, .f32⟩
  | .hbm, ⟨42, _⟩ => ⟨S2048x32, .f32⟩
  | .hbm, ⟨43, _⟩ => ⟨S2048x64, .f32⟩
  | .hbm, ⟨44, _⟩ => ⟨S1x2048x1x64, .f32⟩
  | .hbm, ⟨45, _⟩ => ⟨S1x2048x2x64, .f32⟩
  | .hbm, ⟨46, _⟩ => ⟨S2048x128, .f32⟩
  | .hbm, ⟨47, _⟩ => ⟨S2048x32, .f32⟩
  | .hbm, ⟨48, _⟩ => ⟨S2048x64, .f32⟩
  | .hbm, ⟨49, _⟩ => ⟨S1x2048x1x64, .f32⟩
  | .hbm, ⟨50, _⟩ => ⟨S1x2048x2x64, .f32⟩
  | .hbm, ⟨51, _⟩ => ⟨S2048x128, .f32⟩
  | .hbm, ⟨52, _⟩ => ⟨S8192x512, .bf16⟩
  | .hbm, ⟨53, _⟩ => ⟨S4x16x64x2048, .bf16⟩
  | .hbm, ⟨54, _⟩ => ⟨S4x2048x4x128, .f32⟩
  | .hbm, ⟨55, _⟩ => ⟨S8192x512, .bf16⟩
  | .hbm, ⟨56, _⟩ => ⟨S4x2048x4x128, .f32⟩
  | .hbm, ⟨57, _⟩ => ⟨S4x512x2048, .bf16⟩
  | .hbm, ⟨58, _⟩ => ⟨S4x64x2048, .f32⟩
  | .hbm, ⟨59, _⟩ => ⟨S8192x64, .bf16⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x512, .bf16⟩
  | .local _ .vmem, ⟨19, _⟩ => ⟨S256x512, .bf16⟩
  | .local _ .vmem, ⟨20, _⟩ => ⟨S1x16x64x256, .bf16⟩
  | .local _ .vmem, ⟨21, _⟩ => ⟨S1x16x64x256, .bf16⟩
  | .local _ .vmem, ⟨22, _⟩ => ⟨S1x256x4x128, .f32⟩
  | .local _ .vmem, ⟨23, _⟩ => ⟨S1x256x4x128, .f32⟩
  | .local _ .vmem, ⟨24, _⟩ => ⟨S256x512, .bf16⟩
  | .local _ .vmem, ⟨25, _⟩ => ⟨S256x512, .bf16⟩
  | .local _ .vmem, ⟨26, _⟩ => ⟨S1x256x4x128, .f32⟩
  | .local _ .vmem, ⟨27, _⟩ => ⟨S1x256x4x128, .f32⟩
  | .local _ .vmem, ⟨28, _⟩ => ⟨S1x512x256, .bf16⟩
  | .local _ .vmem, ⟨29, _⟩ => ⟨S1x512x256, .bf16⟩
  | .local _ .vmem, ⟨30, _⟩ => ⟨S1x64x256, .f32⟩
  | .local _ .vmem, ⟨31, _⟩ => ⟨S1x64x256, .f32⟩
  | .local _ .vmem, ⟨32, _⟩ => ⟨S256x64, .bf16⟩
  | .local _ .vmem, ⟨33, _⟩ => ⟨S256x64, .bf16⟩
  | _, _ => ⟨S8192x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst_1 : Ref sig .tc := ⟨.hbm, 29, rfl⟩
abbrev main_v26 : Ref sig .tc := ⟨.hbm, 30, rfl⟩
abbrev main_v27 : Ref sig .tc := ⟨.hbm, 31, rfl⟩
abbrev main_cst_2 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47_0 : Ref sig .tc := ⟨.hbm, 52, rfl⟩
abbrev main_v47_1 : Ref sig .tc := ⟨.hbm, 53, rfl⟩
abbrev main_v47_2 : Ref sig .tc := ⟨.hbm, 54, rfl⟩
abbrev main_v47_3 : Ref sig .tc := ⟨.hbm, 55, rfl⟩
abbrev main_v47_4 : Ref sig .tc := ⟨.hbm, 56, rfl⟩
abbrev main_v47_5 : Ref sig .tc := ⟨.hbm, 57, rfl⟩
abbrev main_v47_6 : Ref sig .tc := ⟨.hbm, 58, rfl⟩
abbrev main_v47_7 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_3 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_4 (i : grid0.Coords) : Fin 2 → Nat :=
  let arg0 : BitVec 32 := BitVec.ofNat 32 (i 0).val
  let c33_i32 : BitVec 32 := 33#32
  let c0_i32 : BitVec 32 := 0#32
  ![arg0.toNat, c33_i32.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_11 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_14 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x64x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x4x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x4x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x64x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== RopeRefIdeal.lean ====
abbrev S8192x8704 : Shape := ⟨2, ![8192, 8704]⟩
abbrev S2048 : Shape := ⟨1, ![2048]⟩
abbrev S8192x512 : Shape := ⟨2, ![8192, 512]⟩
abbrev S4x2048x4x128 : Shape := ⟨4, ![4, 2048, 4, 128]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x1x64 : Shape := ⟨3, ![2048, 1, 64]⟩
abbrev S4x2048x4x64 : Shape := ⟨4, ![4, 2048, 4, 64]⟩
abbrev S1x2048x1x64 : Shape := ⟨4, ![1, 2048, 1, 64]⟩
abbrev S8192x1024 : Shape := ⟨2, ![8192, 1024]⟩
abbrev S4x2048x16x64 : Shape := ⟨4, ![4, 2048, 16, 64]⟩
abbrev S32 : Shape := ⟨1, ![32]⟩
abbrev S1x32 : Shape := ⟨2, ![1, 32]⟩
abbrev S2048x32 : Shape := ⟨2, ![2048, 32]⟩
abbrev S2048x1x32 : Shape := ⟨3, ![2048, 1, 32]⟩
abbrev S4x2048x16x32 : Shape := ⟨4, ![4, 2048, 16, 32]⟩
abbrev S1x2048x1x32 : Shape := ⟨4, ![1, 2048, 1, 32]⟩
abbrev S8192x64 : Shape := ⟨2, ![8192, 64]⟩
abbrev S4x2048x1x64 : Shape := ⟨4, ![4, 2048, 1, 64]⟩
abbrev S4x2048x1x32 : Shape := ⟨4, ![4, 2048, 1, 32]⟩
abbrev S4x2048x64 : Shape := ⟨3, ![4, 2048, 64]⟩
abbrev S4x16x64x2048 : Shape := ⟨4, ![4, 16, 64, 2048]⟩
abbrev S4x2048x512 : Shape := ⟨3, ![4, 2048, 512]⟩
abbrev S4x512x2048 : Shape := ⟨3, ![4, 512, 2048]⟩
abbrev S4x64x2048 : Shape := ⟨3, ![4, 64, 2048]⟩

abbrev nBuf : Space → Nat
  | .hbm => 165
  | .vmem => 0
  | .smem => 0
  | _ => 0

abbrev hbmTy0_0 (i : Nat) : BufTy := match i % 128 with
  | 0 => ⟨S8192x8704, .f32⟩
  | 1 => ⟨S2048, .i32⟩
  | 2 => ⟨S8192x512, .f32⟩
  | 3 => ⟨S4x2048x4x128, .f32⟩
  | 4 => ⟨S64, .f32⟩
  | 5 => ⟨S64, .f32⟩
  | 6 => ⟨S_, .f32⟩
  | 7 => ⟨S64, .f32⟩
  | 8 => ⟨S64, .f32⟩
  | 9 => ⟨S_, .f32⟩
  | 10 => ⟨S64, .f32⟩
  | 11 => ⟨S64, .f32⟩
  | 12 => ⟨S2048, .f32⟩
  | 13 => ⟨S2048x1, .f32⟩
  | 14 => ⟨S1x64, .f32⟩
  | 15 => ⟨S2048x64, .f32⟩
  | 16 => ⟨S2048x64, .f32⟩
  | 17 => ⟨S2048x64, .f32⟩
  | 18 => ⟨S2048x64, .f32⟩
  | 19 => ⟨S2048x1x64, .f32⟩
  | 20 => ⟨S2048x64, .f32⟩
  | 21 => ⟨S2048x1x64, .f32⟩
  | 22 => ⟨S4x2048x4x64, .f32⟩
  | 23 => ⟨S4x2048x4x64, .f32⟩
  | 24 => ⟨S1x2048x1x64, .f32⟩
  | 25 => ⟨S4x2048x4x64, .f32⟩
  | 26 => ⟨S4x2048x4x64, .f32⟩
  | 27 => ⟨S1x2048x1x64, .f32⟩
  | 28 => ⟨S4x2048x4x64, .f32⟩
  | 29 => ⟨S4x2048x4x64, .f32⟩
  | 30 => ⟨S4x2048x4x64, .f32⟩
  | 31 => ⟨S1x2048x1x64, .f32⟩
  | 32 => ⟨S4x2048x4x64, .f32⟩
  | 33 => ⟨S4x2048x4x64, .f32⟩
  | 34 => ⟨S1x2048x1x64, .f32⟩
  | 35 => ⟨S4x2048x4x64, .f32⟩
  | 36 => ⟨S4x2048x4x64, .f32⟩
  | 37 => ⟨S4x2048x4x64, .f32⟩
  | 38 => ⟨S4x2048x4x128, .f32⟩
  | 39 => ⟨S8192x1024, .f32⟩
  | 40 => ⟨S4x2048x16x64, .f32⟩
  | 41 => ⟨S32, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S2048, .f32⟩
  | 50 => ⟨S2048x1, .f32⟩
  | 51 => ⟨S1x32, .f32⟩
  | 52 => ⟨S2048x32, .f32⟩
  | 53 => ⟨S2048x32, .f32⟩
  | 54 => ⟨S2048x32, .f32⟩
  | 55 => ⟨S2048x32, .f32⟩
  | 56 => ⟨S2048x1x32, .f32⟩
  | 57 => ⟨S2048x32, .f32⟩
  | 58 => ⟨S2048x1x32, .f32⟩
  | 59 => ⟨S4x2048x16x32, .f32⟩
  | 60 => ⟨S4x2048x16x32, .f32⟩
  | 61 => ⟨S1x2048x1x32, .f32⟩
  | 62 => ⟨S4x2048x16x32, .f32⟩
  | 63 => ⟨S4x2048x16x32, .f32⟩
  | 64 => ⟨S1x2048x1x32, .f32⟩
  | 65 => ⟨S4x2048x16x32, .f32⟩
  | 66 => ⟨S4x2048x16x32, .f32⟩
  | 67 => ⟨S4x2048x16x32, .f32⟩
  | 68 => ⟨S1x2048x1x32, .f32⟩
  | 69 => ⟨S4x2048x16x32, .f32⟩
  | 70 => ⟨S4x2048x16x32, .f32⟩
  | 71 => ⟨S1x2048x1x32, .f32⟩
  | 72 => ⟨S4x2048x16x32, .f32⟩
  | 73 => ⟨S4x2048x16x32, .f32⟩
  | 74 => ⟨S4x2048x16x32, .f32⟩
  | 75 => ⟨S4x2048x16x64, .f32⟩
  | 76 => ⟨S8192x512, .f32⟩
  | 77 => ⟨S4x2048x4x128, .f32⟩
  | 78 => ⟨S64, .f32⟩
  | 79 => ⟨S64, .f32⟩
  | 80 => ⟨S_, .f32⟩
  | 81 => ⟨S64, .f32⟩
  | 82 => ⟨S64, .f32⟩
  | 83 => ⟨S_, .f32⟩
  | 84 => ⟨S64, .f32⟩
  | 85 => ⟨S64, .f32⟩
  | 86 => ⟨S2048, .f32⟩
  | 87 => ⟨S2048x1, .f32⟩
  | 88 => ⟨S1x64, .f32⟩
  | 89 => ⟨S2048x64, .f32⟩
  | 90 => ⟨S2048x64, .f32⟩
  | 91 => ⟨S2048x64, .f32⟩
  | 92 => ⟨S2048x64, .f32⟩
  | 93 => ⟨S2048x1x64, .f32⟩
  | 94 => ⟨S2048x64, .f32⟩
  | 95 => ⟨S2048x1x64, .f32⟩
  | 96 => ⟨S4x2048x4x64, .f32⟩
  | 97 => ⟨S4x2048x4x64, .f32⟩
  | 98 => ⟨S1x2048x1x64, .f32⟩
  | 99 => ⟨S4x2048x4x64, .f32⟩
  | 100 => ⟨S4x2048x4x64, .f32⟩
  | 101 => ⟨S1x2048x1x64, .f32⟩
  | 102 => ⟨S4x2048x4x64, .f32⟩
  | 103 => ⟨S4x2048x4x64, .f32⟩
  | 104 => ⟨S4x2048x4x64, .f32⟩
  | 105 => ⟨S1x2048x1x64, .f32⟩
  | 106 => ⟨S4x2048x4x64, .f32⟩
  | 107 => ⟨S4x2048x4x64, .f32⟩
  | 108 => ⟨S1x2048x1x64, .f32⟩
  | 109 => ⟨S4x2048x4x64, .f32⟩
  | 110 => ⟨S4x2048x4x64, .f32⟩
  | 111 => ⟨S4x2048x4x64, .f32⟩
  | 112 => ⟨S4x2048x4x128, .f32⟩
  | 113 => ⟨S8192x512, .f32⟩
  | 114 => ⟨S4x2048x4x128, .f32⟩
  | 115 => ⟨S8192x64, .f32⟩
  | 116 => ⟨S4x2048x1x64, .f32⟩
  | 117 => ⟨S32, .f32⟩
  | 118 => ⟨S32, .f32⟩
  | 119 => ⟨S_, .f32⟩
  | 120 => ⟨S32, .f32⟩
  | 121 => ⟨S32, .f32⟩
  | 122 => ⟨S_, .f32⟩
  | 123 => ⟨S32, .f32⟩
  | 124 => ⟨S32, .f32⟩
  | 125 => ⟨S2048, .f32⟩
  | 126 => ⟨S2048x1, .f32⟩
  | 127 => ⟨S1x32, .f32⟩
  | _ => ⟨S8192x8704, .f32⟩

abbrev hbmTy0_1 (i : Nat) : BufTy := match i % 128 with
  | 0 => ⟨S2048x32, .f32⟩
  | 1 => ⟨S2048x32, .f32⟩
  | 2 => ⟨S2048x32, .f32⟩
  | 3 => ⟨S2048x32, .f32⟩
  | 4 => ⟨S2048x1x32, .f32⟩
  | 5 => ⟨S2048x32, .f32⟩
  | 6 => ⟨S2048x1x32, .f32⟩
  | 7 => ⟨S4x2048x1x32, .f32⟩
  | 8 => ⟨S4x2048x1x32, .f32⟩
  | 9 => ⟨S1x2048x1x32, .f32⟩
  | 10 => ⟨S4x2048x1x32, .f32⟩
  | 11 => ⟨S4x2048x1x32, .f32⟩
  | 12 => ⟨S1x2048x1x32, .f32⟩
  | 13 => ⟨S4x2048x1x32, .f32⟩
  | 14 => ⟨S4x2048x1x32, .f32⟩
  | 15 => ⟨S4x2048x1x32, .f32⟩
  | 16 => ⟨S1x2048x1x32, .f32⟩
  | 17 => ⟨S4x2048x1x32, .f32⟩
  | 18 => ⟨S4x2048x1x32, .f32⟩
  | 19 => ⟨S1x2048x1x32, .f32⟩
  | 20 => ⟨S4x2048x1x32, .f32⟩
  | 21 => ⟨S4x2048x1x32, .f32⟩
  | 22 => ⟨S4x2048x1x32, .f32⟩
  | 23 => ⟨S4x2048x1x64, .f32⟩
  | 24 => ⟨S4x2048x64, .f32⟩
  | 25 => ⟨S8192x512, .f32⟩
  | 26 => ⟨S8192x512, .bf16⟩
  | 27 => ⟨S4x16x64x2048, .f32⟩
  | 28 => ⟨S4x16x64x2048, .bf16⟩
  | 29 => ⟨S8192x512, .f32⟩
  | 30 => ⟨S8192x512, .bf16⟩
  | 31 => ⟨S4x2048x512, .f32⟩
  | 32 => ⟨S4x512x2048, .f32⟩
  | 33 => ⟨S4x512x2048, .bf16⟩
  | 34 => ⟨S4x64x2048, .f32⟩
  | 35 => ⟨S8192x64, .f32⟩
  | 36 => ⟨S8192x64, .bf16⟩
  | _ => ⟨S8192x8704, .f32⟩

abbrev hbmTy (i : Nat) : BufTy := match i / 128 with
  | 0 => hbmTy0_0 i
  | 1 => hbmTy0_1 i
  | _ => ⟨S8192x8704, .f32⟩

abbrev bufTy : (tb : Table) → Fin (tcTables nBuf tb) → BufTy
  | .hbm, ⟨i, _⟩ => hbmTy i
  | _, _ => ⟨S8192x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_cst_1 : Ref sig .tc := ⟨.hbm, 43, rfl⟩
abbrev main_v40 : Ref sig .tc := ⟨.hbm, 44, rfl⟩
abbrev main_v41 : Ref sig .tc := ⟨.hbm, 45, rfl⟩
abbrev main_cst_2 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_cst_3 : Ref sig .tc := ⟨.hbm, 80, rfl⟩
abbrev main_v75 : Ref sig .tc := ⟨.hbm, 81, rfl⟩
abbrev main_v76 : Ref sig .tc := ⟨.hbm, 82, rfl⟩
abbrev main_cst_4 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_cst_5 : Ref sig .tc := ⟨.hbm, 119, rfl⟩
abbrev main_v112 : Ref sig .tc := ⟨.hbm, 120, rfl⟩
abbrev main_v113 : Ref sig .tc := ⟨.hbm, 121, rfl⟩
abbrev main_cst_6 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩

abbrev nD : Nat := 1
abbrev τ : Topo := Topo.v7x

variable {F : FTy → Type} [FloatOps F]
-- ==== ProjectSample.lean ====
abbrev S32x4x2048 : Shape := ⟨3, ![32, 4, 2048]⟩
abbrev S1x2048 : Shape := ⟨2, ![1, 2048]⟩
abbrev S1x2048x8400 : Shape := ⟨3, ![1, 2048, 8400]⟩
abbrev S2048x8400 : Shape := ⟨2, ![2048, 8400]⟩
abbrev S2048x4224 : Shape := ⟨2, ![2048, 4224]⟩
abbrev S2048x64 : Shape := ⟨2, ![2048, 64]⟩
abbrev S2048x16 : Shape := ⟨2, ![2048, 16]⟩
abbrev S_ : Shape := ⟨0, ![]⟩
abbrev S2048x304 : Shape := ⟨2, ![2048, 304]⟩
abbrev S2048x512 : Shape := ⟨2, ![2048, 512]⟩
abbrev S2048x1024 : Shape := ⟨2, ![2048, 1024]⟩
abbrev S2048x8704 : Shape := ⟨2, ![2048, 8704]⟩
abbrev S32x8x2048 : Shape := ⟨3, ![32, 8, 2048]⟩
abbrev S256x2048 : Shape := ⟨2, ![256, 2048]⟩
abbrev S2048 : Shape := ⟨1, ![2048]⟩
abbrev S256x8704 : Shape := ⟨2, ![256, 8704]⟩
abbrev S2048x2176 : Shape := ⟨2, ![2048, 2176]⟩
abbrev S256x2176 : Shape := ⟨2, ![256, 2176]⟩
abbrev S256 : Shape := ⟨1, ![256]⟩
abbrev S256x1 : Shape := ⟨2, ![256, 1]⟩

abbrev nBuf : Space → Nat
  | .hbm => 24
  | .vmem => 7
  | .smem => 0
  | _ => 0

abbrev bufTy : (tb : Table) → Fin (tcTables nBuf tb) → BufTy
  | .hbm, ⟨0, _⟩ => ⟨S32x4x2048, .f32⟩
  | .hbm, ⟨1, _⟩ => ⟨S1x2048, .f32⟩
  | .hbm, ⟨2, _⟩ => ⟨S1x2048x8400, .f32⟩
  | .hbm, ⟨3, _⟩ => ⟨S2048x8400, .f32⟩
  | .hbm, ⟨4, _⟩ => ⟨S2048x4224, .f32⟩
  | .hbm, ⟨5, _⟩ => ⟨S2048x64, .f32⟩
  | .hbm, ⟨6, _⟩ => ⟨S2048x16, .f32⟩
  | .hbm, ⟨7, _⟩ => ⟨S_, .f32⟩
  | .hbm, ⟨8, _⟩ => ⟨S2048x304, .f32⟩
  | .hbm, ⟨9, _⟩ => ⟨S2048x512, .f32⟩
  | .hbm, ⟨10, _⟩ => ⟨S2048x1024, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S2048x1024, .f32⟩
  | .hbm, ⟨15, _⟩ => ⟨S2048x8704, .f32⟩
  | .hbm, ⟨16, _⟩ => ⟨S2048x8704, .bf16⟩
  | .hbm, ⟨17, _⟩ => ⟨S_, .i32⟩
  | .hbm, ⟨18, _⟩ => ⟨S_, .f32⟩
  | .hbm, ⟨19, _⟩ => ⟨S32x8x2048, .f32⟩
  | .hbm, ⟨20, _⟩ => ⟨S256x2048, .f32⟩
  | .hbm, ⟨21, _⟩ => ⟨S2048, .f32⟩
  | .hbm, ⟨22, _⟩ => ⟨S1x2048, .f32⟩
  | .hbm, ⟨23, _⟩ => ⟨S256x8704, .f32⟩
  | .local _ .vmem, ⟨0, _⟩ => ⟨S256x2048, .f32⟩
  | .local _ .vmem, ⟨1, _⟩ => ⟨S1x2048, .f32⟩
  | .local _ .vmem, ⟨2, _⟩ => ⟨S2048x2176, .bf16⟩
  | .local _ .vmem, ⟨3, _⟩ => ⟨S2048x2176, .bf16⟩
  | .local _ .vmem, ⟨4, _⟩ => ⟨S256x2176, .f32⟩
  | .local _ .vmem, ⟨5, _⟩ => ⟨S256x2176, .f32⟩
  | .local _ .vmem, ⟨6, _⟩ => ⟨S256x2048, .bf16⟩
  | _, _ => ⟨S32x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_call0_v0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2176 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjectSampleRefIdeal.lean ====
abbrev S32x4x2048 : Shape := ⟨3, ![32, 4, 2048]⟩
abbrev S1x2048 : Shape := ⟨2, ![1, 2048]⟩
abbrev S1x2048x8400 : Shape := ⟨3, ![1, 2048, 8400]⟩
abbrev S_ : Shape := ⟨0, ![]⟩
abbrev S32x8x2048 : Shape := ⟨3, ![32, 8, 2048]⟩
abbrev S256x2048 : Shape := ⟨2, ![256, 2048]⟩
abbrev S2048 : Shape := ⟨1, ![2048]⟩
abbrev S256 : Shape := ⟨1, ![256]⟩
abbrev S256x1 : Shape := ⟨2, ![256, 1]⟩
abbrev S2048x8400 : Shape := ⟨2, ![2048, 8400]⟩
abbrev S256x8400 : Shape := ⟨2, ![256, 8400]⟩
abbrev S256x3200 : Shape := ⟨2, ![256, 3200]⟩
abbrev S256x1024 : Shape := ⟨2, ![256, 1024]⟩
abbrev S256x512 : Shape := ⟨2, ![256, 512]⟩
abbrev S256x16 : Shape := ⟨2, ![256, 16]⟩
abbrev S256x64 : Shape := ⟨2, ![256, 64]⟩
abbrev S256x304 : Shape := ⟨2, ![256, 304]⟩
abbrev S256x8704 : Shape := ⟨2, ![256, 8704]⟩

abbrev nBuf : Space → Nat
  | .hbm => 40
  | .vmem => 0
  | .smem => 0
  | _ => 0

abbrev bufTy : (tb : Table) → Fin (tcTables nBuf tb) → BufTy
  | .hbm, ⟨0, _⟩ => ⟨S32x4x2048, .f32⟩
  | .hbm, ⟨1, _⟩ => ⟨S1x2048, .f32⟩
  | .hbm, ⟨2, _⟩ => ⟨S1x2048x8400, .f32⟩
  | .hbm, ⟨3, _⟩ => ⟨S_, .i32⟩
  | .hbm, ⟨4, _⟩ => ⟨S_, .f32⟩
  | .hbm, ⟨5, _⟩ => ⟨S32x8x2048, .f32⟩
  | .hbm, ⟨6, _⟩ => ⟨S256x2048, .f32⟩
  | .hbm, ⟨7, _⟩ => ⟨S2048, .f32⟩
  | .hbm, ⟨8, _⟩ => ⟨S256x2048, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1, .f32⟩
  | .hbm, ⟨19, _⟩ => ⟨S256x2048, .f32⟩
  | .hbm, ⟨20, _⟩ => ⟨S256x2048, .f32⟩
  | .hbm, ⟨21, _⟩ => ⟨S1x2048, .f32⟩
  | .hbm, ⟨22, _⟩ => ⟨S256x2048, .f32⟩
  | .hbm, ⟨23, _⟩ => ⟨S256x2048, .f32⟩
  | .hbm, ⟨24, _⟩ => ⟨S2048x8400, .f32⟩
  | .hbm, ⟨25, _⟩ => ⟨S256x8400, .f32⟩
  | .hbm, ⟨26, _⟩ => ⟨S256x3200, .f32⟩
  | .hbm, ⟨27, _⟩ => ⟨S256x1024, .f32⟩
  | .hbm, ⟨28, _⟩ => ⟨S256x512, .f32⟩
  | .hbm, ⟨29, _⟩ => ⟨S256x512, .f32⟩
  | .hbm, ⟨30, _⟩ => ⟨S256x512, .f32⟩
  | .hbm, ⟨31, _⟩ => ⟨S256x512, .f32⟩
  | .hbm, ⟨32, _⟩ => ⟨S256x1024, .f32⟩
  | .hbm, ⟨33, _⟩ => ⟨S256x16, .f32⟩
  | .hbm, ⟨34, _⟩ => ⟨S256x64, .f32⟩
  | .hbm, ⟨35, _⟩ => ⟨S256x512, .f32⟩
  | .hbm, ⟨36, _⟩ => ⟨S256x512, .f32⟩
  | .hbm, ⟨37, _⟩ => ⟨S_, .f32⟩
  | .hbm, ⟨38, _⟩ => ⟨S256x304, .f32⟩
  | .hbm, ⟨39, _⟩ => ⟨S256x8704, .f32⟩
  | _, _ => ⟨S32x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== OutProjSample.lean ====
abbrev S256x1024 : Shape := ⟨2, ![256, 1024]⟩
abbrev S256x512 : Shape := ⟨2, ![256, 512]⟩
abbrev S32x4x2048 : Shape := ⟨3, ![32, 4, 2048]⟩
abbrev S1x2048x2048 : Shape := ⟨3, ![1, 2048, 2048]⟩
abbrev S2048 : Shape := ⟨1, ![2048]⟩
abbrev S2048x2048 : Shape := ⟨2, ![2048, 2048]⟩
abbrev S_ : Shape := ⟨0, ![]⟩
abbrev S32x8x2048 : Shape := ⟨3, ![32, 8, 2048]⟩
abbrev S256x2048 : Shape := ⟨2, ![256, 2048]⟩
abbrev S1x2048 : Shape := ⟨2, ![1, 2048]⟩
abbrev S1024x2048 : Shape := ⟨2, ![1024, 2048]⟩
abbrev S512x2048 : Shape := ⟨2, ![512, 2048]⟩
abbrev S256 : Shape := ⟨1, ![256]⟩
abbrev S256x1 : Shape := ⟨2, ![256, 1]⟩

abbrev nBuf : Space → Nat
  | .hbm => 14
  | .vmem => 7
  | .smem => 0
  | _ => 0

abbrev bufTy : (tb : Table) → Fin (tcTables nBuf tb) → BufTy
  | .hbm, ⟨0, _⟩ => ⟨S256x1024, .bf16⟩
  | .hbm, ⟨1, _⟩ => ⟨S256x512, .bf16⟩
  | .hbm, ⟨2, _⟩ => ⟨S256x512, .bf16⟩
  | .hbm, ⟨3, _⟩ => ⟨S32x4x2048, .f32⟩
  | .hbm, ⟨4, _⟩ => ⟨S1x2048x2048, .f32⟩
  | .hbm, ⟨5, _⟩ => ⟨S2048, .f32⟩
  | .hbm, ⟨6, _⟩ => ⟨S2048x2048, .f32⟩
  | .hbm, ⟨7, _⟩ => ⟨S2048x2048, .bf16⟩
  | .hbm, ⟨8, _⟩ => ⟨S_, .i32⟩
  | .hbm, ⟨9, _⟩ => ⟨S_, .f32⟩
  | .hbm, ⟨10, _⟩ => ⟨S32x8x2048, .f32⟩
  | .hbm, ⟨11, _⟩ => ⟨S256x2048, .f32⟩
  | .hbm, ⟨12, _⟩ => ⟨S1x2048, .f32⟩
  | .hbm, ⟨13, _⟩ => ⟨S256x2048, .f32⟩
  | .local _ .vmem, ⟨0, _⟩ => ⟨S256x1024, .bf16⟩
  | .local _ .vmem, ⟨1, _⟩ => ⟨S256x512, .bf16⟩
  | .local _ .vmem, ⟨2, _⟩ => ⟨S256x512, .bf16⟩
  | .local _ .vmem, ⟨3, _⟩ => ⟨S256x2048, .f32⟩
  | .local _ .vmem, ⟨4, _⟩ => ⟨S2048x2048, .bf16⟩
  | .local _ .vmem, ⟨5, _⟩ => ⟨S1x2048, .f32⟩
  | .local _ .vmem, ⟨6, _⟩ => ⟨S256x2048, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== OutProjSampleRefIdeal.lean ====
abbrev S256x1024 : Shape := ⟨2, ![256, 1024]⟩
abbrev S256x512 : Shape := ⟨2, ![256, 512]⟩
abbrev S32x4x2048 : Shape := ⟨3, ![32, 4, 2048]⟩
abbrev S1x2048x2048 : Shape := ⟨3, ![1, 2048, 2048]⟩
abbrev S2048 : Shape := ⟨1, ![2048]⟩
abbrev S_ : Shape := ⟨0, ![]⟩
abbrev S32x8x2048 : Shape := ⟨3, ![32, 8, 2048]⟩
abbrev S256x2048 : Shape := ⟨2, ![256, 2048]⟩
abbrev S2048x2048 : Shape := ⟨2, ![2048, 2048]⟩
abbrev S256 : Shape := ⟨1, ![256]⟩
abbrev S256x1 : Shape := ⟨2, ![256, 1]⟩
abbrev S1x2048 : Shape := ⟨2, ![1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x512, .bf16⟩
  | .hbm, ⟨2, _⟩ => ⟨S256x512, .bf16⟩
  | .hbm, ⟨3, _⟩ => ⟨S32x4x2048, .f32⟩
  | .hbm, ⟨4, _⟩ => ⟨S1x2048x2048, .f32⟩
  | .hbm, ⟨5, _⟩ => ⟨S2048, .f32⟩
  | .hbm, ⟨6, _⟩ => ⟨S_, .i32⟩
  | .hbm, ⟨7, _⟩ => ⟨S_, .f32⟩
  | .hbm, ⟨8, _⟩ => ⟨S32x8x2048, .f32⟩
  | .hbm, ⟨9, _⟩ => ⟨S256x2048, .f32⟩
  | .hbm, ⟨10, _⟩ => ⟨S256x1024, .f32⟩
  | .hbm, ⟨11, _⟩ => ⟨S256x512, .f32⟩
  | .hbm, ⟨12, _⟩ => ⟨S256x512, .f32⟩
  | .hbm, ⟨13, _⟩ => ⟨S256x2048, .f32⟩
  | .hbm, ⟨14, _⟩ => ⟨S2048x2048, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256, .f32⟩
  | .hbm, ⟨20, _⟩ => ⟨S256x1, .f32⟩
  | .hbm, ⟨21, _⟩ => ⟨S_, .f32⟩
  | .hbm, ⟨22, _⟩ => ⟨S256x1, .f32⟩
  | .hbm, ⟨23, _⟩ => ⟨S256x1, .f32⟩
  | .hbm, ⟨24, _⟩ => ⟨S_, .f32⟩
  | .hbm, ⟨25, _⟩ => ⟨S256x1, .f32⟩
  | .hbm, ⟨26, _⟩ => ⟨S256x1, .f32⟩
  | .hbm, ⟨27, _⟩ => ⟨S256x1, .f32⟩
  | .hbm, ⟨28, _⟩ => ⟨S256x2048, .f32⟩
  | .hbm, ⟨29, _⟩ => ⟨S256x2048, .f32⟩
  | .hbm, ⟨30, _⟩ => ⟨S1x2048, .f32⟩
  | .hbm, ⟨31, _⟩ => ⟨S256x2048, .f32⟩
  | .hbm, ⟨32, _⟩ => ⟨S256x2048, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== RopeSample.lean ====
abbrev S256x8704 : Shape := ⟨2, ![256, 8704]⟩
abbrev S8 : Shape := ⟨1, ![8]⟩
abbrev S_ : Shape := ⟨0, ![]⟩
abbrev S64 : Shape := ⟨1, ![64]⟩
abbrev S8x1 : Shape := ⟨2, ![8, 1]⟩
abbrev S1x64 : Shape := ⟨2, ![1, 64]⟩
abbrev S8x64 : Shape := ⟨2, ![8, 64]⟩
abbrev S8x128 : Shape := ⟨2, ![8, 128]⟩
abbrev S1x8x1x128 : Shape := ⟨4, ![1, 8, 1, 128]⟩
abbrev S32 : Shape := ⟨1, ![32]⟩
abbrev S1x32 : Shape := ⟨2, ![1, 32]⟩
abbrev S8x32 : Shape := ⟨2, ![8, 32]⟩
abbrev S1x8x1x64 : Shape := ⟨4, ![1, 8, 1, 64]⟩
abbrev S1x8x2x64 : Shape := ⟨4, ![1, 8, 2, 64]⟩
abbrev S32x8x1x128 : Shape := ⟨4, ![32, 8, 1, 128]⟩
abbrev S256x128 : Shape := ⟨2, ![256, 128]⟩
abbrev S256x512 : Shape := ⟨2, ![256, 512]⟩
abbrev S32x16x8x64 : Shape := ⟨4, ![32, 16, 8, 64]⟩
abbrev S256x64 : Shape := ⟨2, ![256, 64]⟩
abbrev S256x1024 : Shape := ⟨2, ![256, 1024]⟩
abbrev S32x8x64 : Shape := ⟨3, ![32, 8, 64]⟩
abbrev S32x1x8x64 : Shape := ⟨4, ![32, 1, 8, 64]⟩

abbrev nBuf : Space → Nat
  | .hbm => 75
  | .vmem => 17
  | .smem => 0
  | _ => 0

abbrev bufTy : (tb : Table) → Fin (tcTables nBuf tb) → BufTy
  | .hbm, ⟨0, _⟩ => ⟨S256x8704, .f32⟩
  | .hbm, ⟨1, _⟩ => ⟨S8, .i32⟩
  | .hbm, ⟨2, _⟩ => ⟨S_, .i32⟩
  | .hbm, ⟨3, _⟩ => ⟨S8, .i32⟩
  | .hbm, ⟨4, _⟩ => ⟨S8, .i32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S8, .f32⟩
  | .hbm, ⟨14, _⟩ => ⟨S8x1, .f32⟩
  | .hbm, ⟨15, _⟩ => ⟨S1x64, .f32⟩
  | .hbm, ⟨16, _⟩ => ⟨S8x64, .f32⟩
  | .hbm, ⟨17, _⟩ => ⟨S8x64, .f32⟩
  | .hbm, ⟨18, _⟩ => ⟨S8x64, .f32⟩
  | .hbm, ⟨19, _⟩ => ⟨S8x64, .f32⟩
  | .hbm, ⟨20, _⟩ => ⟨S8x64, .f32⟩
  | .hbm, ⟨21, _⟩ => ⟨S8x128, .f32⟩
  | .hbm, ⟨22, _⟩ => ⟨S1x8x1x128, .f32⟩
  | .hbm, ⟨23, _⟩ => ⟨S1x8x1x128, .f32⟩
  | .hbm, ⟨24, _⟩ => ⟨S8x128, .f32⟩
  | .hbm, ⟨25, _⟩ => ⟨S8x64, .f32⟩
  | .hbm, ⟨26, _⟩ => ⟨S8x128, .f32⟩
  | .hbm, ⟨27, _⟩ => ⟨S1x8x1x128, .f32⟩
  | .hbm, ⟨28, _⟩ => ⟨S1x8x1x128, .f32⟩
  | .hbm, ⟨29, _⟩ => ⟨S8x128, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S8, .f32⟩
  | .hbm, ⟨39, _⟩ => ⟨S8x1, .f32⟩
  | .hbm, ⟨40, _⟩ => ⟨S1x32, .f32⟩
  | .hbm, ⟨41, _⟩ => ⟨S8x32, .f32⟩
  | .hbm, ⟨42, _⟩ => ⟨S8x32, .f32⟩
  | .hbm, ⟨43, _⟩ => ⟨S8x32, .f32⟩
  | .hbm, ⟨44, _⟩ => ⟨S8x32, .f32⟩
  | .hbm, ⟨45, _⟩ => ⟨S8x32, .f32⟩
  | .hbm, ⟨46, _⟩ => ⟨S8x64, .f32⟩
  | .hbm, ⟨47, _⟩ => ⟨S1x8x1x64, .f32⟩
  | .hbm, ⟨48, _⟩ => ⟨S1x8x2x64, .f32⟩
  | .hbm, ⟨49, _⟩ => ⟨S8x128, .f32⟩
  | .hbm, ⟨50, _⟩ => ⟨S8x32, .f32⟩
  | .hbm, ⟨51, _⟩ => ⟨S8x64, .f32⟩
  | .hbm, ⟨52, _⟩ => ⟨S1x8x1x64, .f32⟩
  | .hbm, ⟨53, _⟩ => ⟨S1x8x2x64, .f32⟩
  | .hbm, ⟨54, _⟩ => ⟨S8x128, .f32⟩
  | .hbm, ⟨55, _⟩ => ⟨S1x8x1x128, .f32⟩
  | .hbm, ⟨56, _⟩ => ⟨S32x8x1x128, .f32⟩
  | .hbm, ⟨57, _⟩ => ⟨S256x128, .f32⟩
  | .hbm, ⟨58, _⟩ => ⟨S1x8x1x128, .f32⟩
  | .hbm, ⟨59, _⟩ => ⟨S32x8x1x128, .f32⟩
  | .hbm, ⟨60, _⟩ => ⟨S256x128, .f32⟩
  | .hbm, ⟨61, _⟩ => ⟨S1x8x1x128, .f32⟩
  | .hbm, ⟨62, _⟩ => ⟨S32x8x1x128, .f32⟩
  | .hbm, ⟨63, _⟩ => ⟨S256x128, .f32⟩
  | .hbm, ⟨64, _⟩ => ⟨S1x8x1x128, .f32⟩
  | .hbm, ⟨65, _⟩ => ⟨S32x8x1x128, .f32⟩
  | .hbm, ⟨66, _⟩ => ⟨S256x128, .f32⟩
  | .hbm, ⟨67, _⟩ => ⟨S256x512, .f32⟩
  | .hbm, ⟨68, _⟩ => ⟨S32x16x8x64, .f32⟩
  | .hbm, ⟨69, _⟩ => ⟨S256x512, .f32⟩
  | .hbm, ⟨70, _⟩ => ⟨S256x512, .bf16⟩
  | .hbm, ⟨71, _⟩ => ⟨S256x512, .f32⟩
  | .hbm, ⟨72, _⟩ => ⟨S256x512, .bf16⟩
  | .hbm, ⟨73, _⟩ => ⟨S256x64, .f32⟩
  | .hbm, ⟨74, _⟩ => ⟨S256x64, .bf16⟩
  | .local _ .vmem, ⟨0, _⟩ => ⟨S256x512, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x512, .f32⟩
  | .local _ .vmem, ⟨10, _⟩ => ⟨S32x16x8x64, .f32⟩
  | .local _ .vmem, ⟨11, _⟩ => ⟨S256x512, .f32⟩
  | .local _ .vmem, ⟨12, _⟩ => ⟨S256x512, .bf16⟩
  | .local _ .vmem, ⟨13, _⟩ => ⟨S256x512, .f32⟩
  | .local _ .vmem, ⟨14, _⟩ => ⟨S256x512, .bf16⟩
  | .local _ .vmem, ⟨15, _⟩ => ⟨S256x64, .f32⟩
  | .local _ .vmem, ⟨16, _⟩ => ⟨S256x64, .bf16⟩
  | _, _ => ⟨S256x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_1 : Ref sig .tc := ⟨.hbm, 32, rfl⟩
abbrev main_v28 : Ref sig .tc := ⟨.hbm, 33, rfl⟩
abbrev main_v29 : Ref sig .tc := ⟨.hbm, 34, rfl⟩
abbrev main_cst_2 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61_0 : Ref sig .tc := ⟨.hbm, 67, rfl⟩
abbrev main_v61_1 : Ref sig .tc := ⟨.hbm, 68, rfl⟩
abbrev main_v61_2 : Ref sig .tc := ⟨.hbm, 69, rfl⟩
abbrev main_v61_3 : Ref sig .tc := ⟨.hbm, 70, rfl⟩
abbrev main_v61_4 : Ref sig .tc := ⟨.hbm, 71, rfl⟩
abbrev main_v61_5 : Ref sig .tc := ⟨.hbm, 72, rfl⟩
abbrev main_v61_6 : Ref sig .tc := ⟨.hbm, 73, rfl⟩
abbrev main_v61_7 : Ref sig .tc := ⟨.hbm, 74, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_3 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_4 (i : grid0.Coords) : Fin 2 → Nat :=
  let arg0 : BitVec 32 := BitVec.ofNat 32 (i 0).val
  let c33_i32 : BitVec 32 := 33#32
  let c0_i32 : BitVec 32 := 0#32
  ![arg0.toNat, c33_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S32x16x8x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S256x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S256x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S256x64 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]
-- ==== RopeSampleRefIdeal.lean ====
abbrev S256x8704 : Shape := ⟨2, ![256, 8704]⟩
abbrev S8 : Shape := ⟨1, ![8]⟩
abbrev S_ : Shape := ⟨0, ![]⟩
abbrev S256x512 : Shape := ⟨2, ![256, 512]⟩
abbrev S32x8x4x128 : Shape := ⟨4, ![32, 8, 4, 128]⟩
abbrev S64 : Shape := ⟨1, ![64]⟩
abbrev S8x1 : Shape := ⟨2, ![8, 1]⟩
abbrev S1x64 : Shape := ⟨2, ![1, 64]⟩
abbrev S8x64 : Shape := ⟨2, ![8, 64]⟩
abbrev S8x1x64 : Shape := ⟨3, ![8, 1, 64]⟩
abbrev S32x8x4x64 : Shape := ⟨4, ![32, 8, 4, 64]⟩
abbrev S1x8x1x64 : Shape := ⟨4, ![1, 8, 1, 64]⟩
abbrev S256x1024 : Shape := ⟨2, ![256, 1024]⟩
abbrev S32x8x16x64 : Shape := ⟨4, ![32, 8, 16, 64]⟩
abbrev S32 : Shape := ⟨1, ![32]⟩
abbrev S1x32 : Shape := ⟨2, ![1, 32]⟩
abbrev S8x32 : Shape := ⟨2, ![8, 32]⟩
abbrev S8x1x32 : Shape := ⟨3, ![8, 1, 32]⟩
abbrev S32x8x16x32 : Shape := ⟨4, ![32, 8, 16, 32]⟩
abbrev S1x8x1x32 : Shape := ⟨4, ![1, 8, 1, 32]⟩
abbrev S256x64 : Shape := ⟨2, ![256, 64]⟩
abbrev S32x8x1x64 : Shape := ⟨4, ![32, 8, 1, 64]⟩
abbrev S32x8x1x32 : Shape := ⟨4, ![32, 8, 1, 32]⟩
abbrev S32x16x8x64 : Shape := ⟨4, ![32, 16, 8, 64]⟩

abbrev nBuf : Space → Nat
  | .hbm => 161
  | .vmem => 0
  | .smem => 0
  | _ => 0

abbrev hbmTy0_0 (i : Nat) : BufTy := match i % 128 with
  | 0 => ⟨S256x8704, .f32⟩
  | 1 => ⟨S8, .i32⟩
  | 2 => ⟨S_, .i32⟩
  | 3 => ⟨S8, .i32⟩
  | 4 => ⟨S8, .i32⟩
  | 5 => ⟨S256x512, .f32⟩
  | 6 => ⟨S32x8x4x128, .f32⟩
  | 7 => ⟨S64, .f32⟩
  | 8 => ⟨S64, .f32⟩
  | 9 => ⟨S_, .f32⟩
  | 10 => ⟨S64, .f32⟩
  | 11 => ⟨S64, .f32⟩
  | 12 => ⟨S_, .f32⟩
  | 13 => ⟨S64, .f32⟩
  | 14 => ⟨S64, .f32⟩
  | 15 => ⟨S8, .f32⟩
  | 16 => ⟨S8x1, .f32⟩
  | 17 => ⟨S1x64, .f32⟩
  | 18 => ⟨S8x64, .f32⟩
  | 19 => ⟨S8x64, .f32⟩
  | 20 => ⟨S8x64, .f32⟩
  | 21 => ⟨S8x64, .f32⟩
  | 22 => ⟨S8x1x64, .f32⟩
  | 23 => ⟨S8x64, .f32⟩
  | 24 => ⟨S8x1x64, .f32⟩
  | 25 => ⟨S32x8x4x64, .f32⟩
  | 26 => ⟨S32x8x4x64, .f32⟩
  | 27 => ⟨S1x8x1x64, .f32⟩
  | 28 => ⟨S32x8x4x64, .f32⟩
  | 29 => ⟨S32x8x4x64, .f32⟩
  | 30 => ⟨S1x8x1x64, .f32⟩
  | 31 => ⟨S32x8x4x64, .f32⟩
  | 32 => ⟨S32x8x4x64, .f32⟩
  | 33 => ⟨S32x8x4x64, .f32⟩
  | 34 => ⟨S1x8x1x64, .f32⟩
  | 35 => ⟨S32x8x4x64, .f32⟩
  | 36 => ⟨S32x8x4x64, .f32⟩
  | 37 => ⟨S1x8x1x64, .f32⟩
  | 38 => ⟨S32x8x4x64, .f32⟩
  | 39 => ⟨S32x8x4x64, .f32⟩
  | 40 => ⟨S32x8x4x64, .f32⟩
  | 41 => ⟨S32x8x4x128, .f32⟩
  | 42 => ⟨S256x512, .f32⟩
  | 43 => ⟨S256x1024, .f32⟩
  | 44 => ⟨S32x8x16x64, .f32⟩
  | 45 => ⟨S32, .f32⟩
  | 46 => ⟨S32, .f32⟩
  | 47 => ⟨S_, .f32⟩
  | 48 => ⟨S32, .f32⟩
  | 49 => ⟨S32, .f32⟩
  | 50 => ⟨S_, .f32⟩
  | 51 => ⟨S32, .f32⟩
  | 52 => ⟨S32, .f32⟩
  | 53 => ⟨S8, .f32⟩
  | 54 => ⟨S8x1, .f32⟩
  | 55 => ⟨S1x32, .f32⟩
  | 56 => ⟨S8x32, .f32⟩
  | 57 => ⟨S8x32, .f32⟩
  | 58 => ⟨S8x32, .f32⟩
  | 59 => ⟨S8x32, .f32⟩
  | 60 => ⟨S8x1x32, .f32⟩
  | 61 => ⟨S8x32, .f32⟩
  | 62 => ⟨S8x1x32, .f32⟩
  | 63 => ⟨S32x8x16x32, .f32⟩
  | 64 => ⟨S32x8x16x32, .f32⟩
  | 65 => ⟨S1x8x1x32, .f32⟩
  | 66 => ⟨S32x8x16x32, .f32⟩
  | 67 => ⟨S32x8x16x32, .f32⟩
  | 68 => ⟨S1x8x1x32, .f32⟩
  | 69 => ⟨S32x8x16x32, .f32⟩
  | 70 => ⟨S32x8x16x32, .f32⟩
  | 71 => ⟨S32x8x16x32, .f32⟩
  | 72 => ⟨S1x8x1x32, .f32⟩
  | 73 => ⟨S32x8x16x32, .f32⟩
  | 74 => ⟨S32x8x16x32, .f32⟩
  | 75 => ⟨S1x8x1x32, .f32⟩
  | 76 => ⟨S32x8x16x32, .f32⟩
  | 77 => ⟨S32x8x16x32, .f32⟩
  | 78 => ⟨S32x8x16x32, .f32⟩
  | 79 => ⟨S32x8x16x64, .f32⟩
  | 80 => ⟨S256x512, .f32⟩
  | 81 => ⟨S32x8x4x128, .f32⟩
  | 82 => ⟨S64, .f32⟩
  | 83 => ⟨S64, .f32⟩
  | 84 => ⟨S_, .f32⟩
  | 85 => ⟨S64, .f32⟩
  | 86 => ⟨S64, .f32⟩
  | 87 => ⟨S_, .f32⟩
  | 88 => ⟨S64, .f32⟩
  | 89 => ⟨S64, .f32⟩
  | 90 => ⟨S8, .f32⟩
  | 91 => ⟨S8x1, .f32⟩
  | 92 => ⟨S1x64, .f32⟩
  | 93 => ⟨S8x64, .f32⟩
  | 94 => ⟨S8x64, .f32⟩
  | 95 => ⟨S8x64, .f32⟩
  | 96 => ⟨S8x64, .f32⟩
  | 97 => ⟨S8x1x64, .f32⟩
  | 98 => ⟨S8x64, .f32⟩
  | 99 => ⟨S8x1x64, .f32⟩
  | 100 => ⟨S32x8x4x64, .f32⟩
  | 101 => ⟨S32x8x4x64, .f32⟩
  | 102 => ⟨S1x8x1x64, .f32⟩
  | 103 => ⟨S32x8x4x64, .f32⟩
  | 104 => ⟨S32x8x4x64, .f32⟩
  | 105 => ⟨S1x8x1x64, .f32⟩
  | 106 => ⟨S32x8x4x64, .f32⟩
  | 107 => ⟨S32x8x4x64, .f32⟩
  | 108 => ⟨S32x8x4x64, .f32⟩
  | 109 => ⟨S1x8x1x64, .f32⟩
  | 110 => ⟨S32x8x4x64, .f32⟩
  | 111 => ⟨S32x8x4x64, .f32⟩
  | 112 => ⟨S1x8x1x64, .f32⟩
  | 113 => ⟨S32x8x4x64, .f32⟩
  | 114 => ⟨S32x8x4x64, .f32⟩
  | 115 => ⟨S32x8x4x64, .f32⟩
  | 116 => ⟨S32x8x4x128, .f32⟩
  | 117 => ⟨S256x512, .f32⟩
  | 118 => ⟨S256x512, .f32⟩
  | 119 => ⟨S256x64, .f32⟩
  | 120 => ⟨S32x8x1x64, .f32⟩
  | 121 => ⟨S32, .f32⟩
  | 122 => ⟨S32, .f32⟩
  | 123 => ⟨S_, .f32⟩
  | 124 => ⟨S32, .f32⟩
  | 125 => ⟨S32, .f32⟩
  | 126 => ⟨S_, .f32⟩
  | 127 => ⟨S32, .f32⟩
  | _ => ⟨S256x8704, .f32⟩

abbrev hbmTy0_1 (i : Nat) : BufTy := match i % 128 with
  | 0 => ⟨S32, .f32⟩
  | 1 => ⟨S8, .f32⟩
  | 2 => ⟨S8x1, .f32⟩
  | 3 => ⟨S1x32, .f32⟩
  | 4 => ⟨S8x32, .f32⟩
  | 5 => ⟨S8x32, .f32⟩
  | 6 => ⟨S8x32, .f32⟩
  | 7 => ⟨S8x32, .f32⟩
  | 8 => ⟨S8x1x32, .f32⟩
  | 9 => ⟨S8x32, .f32⟩
  | 10 => ⟨S8x1x32, .f32⟩
  | 11 => ⟨S32x8x1x32, .f32⟩
  | 12 => ⟨S32x8x1x32, .f32⟩
  | 13 => ⟨S1x8x1x32, .f32⟩
  | 14 => ⟨S32x8x1x32, .f32⟩
  | 15 => ⟨S32x8x1x32, .f32⟩
  | 16 => ⟨S1x8x1x32, .f32⟩
  | 17 => ⟨S32x8x1x32, .f32⟩
  | 18 => ⟨S32x8x1x32, .f32⟩
  | 19 => ⟨S32x8x1x32, .f32⟩
  | 20 => ⟨S1x8x1x32, .f32⟩
  | 21 => ⟨S32x8x1x32, .f32⟩
  | 22 => ⟨S32x8x1x32, .f32⟩
  | 23 => ⟨S1x8x1x32, .f32⟩
  | 24 => ⟨S32x8x1x32, .f32⟩
  | 25 => ⟨S32x8x1x32, .f32⟩
  | 26 => ⟨S32x8x1x32, .f32⟩
  | 27 => ⟨S32x8x1x64, .f32⟩
  | 28 => ⟨S256x64, .f32⟩
  | 29 => ⟨S32x16x8x64, .f32⟩
  | 30 => ⟨S256x512, .bf16⟩
  | 31 => ⟨S256x512, .bf16⟩
  | 32 => ⟨S256x64, .bf16⟩
  | _ => ⟨S256x8704, .f32⟩

abbrev hbmTy (i : Nat) : BufTy := match i / 128 with
  | 0 => hbmTy0_0 i
  | 1 => hbmTy0_1 i
  | _ => ⟨S256x8704, .f32⟩

abbrev bufTy : (tb : Table) → Fin (tcTables nBuf tb) → BufTy
  | .hbm, ⟨i, _⟩ => hbmTy i
  | _, _ => ⟨S256x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_cst_1 : Ref sig .tc := ⟨.hbm, 47, rfl⟩
abbrev main_v43 : Ref sig .tc := ⟨.hbm, 48, rfl⟩
abbrev main_v44 : Ref sig .tc := ⟨.hbm, 49, rfl⟩
abbrev main_cst_2 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_cst_3 : Ref sig .tc := ⟨.hbm, 84, rfl⟩
abbrev main_v78 : Ref sig .tc := ⟨.hbm, 85, rfl⟩
abbrev main_v79 : Ref sig .tc := ⟨.hbm, 86, rfl⟩
abbrev main_cst_4 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_cst_5 : Ref sig .tc := ⟨.hbm, 123, rfl⟩
abbrev main_v115 : Ref sig .tc := ⟨.hbm, 124, rfl⟩
abbrev main_v116 : Ref sig .tc := ⟨.hbm, 125, rfl⟩
abbrev main_cst_6 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩

abbrev nD : Nat := 1
abbrev τ : Topo := Topo.v7x

variable {F : FTy → Type} [FloatOps F]
-- ==== Proof.RowNorm.lean ====
/-
  The root-mean-square norm of a row over the reals, and its product with a column of weights: what the input
  projection, the memory's projection and the output projection have in common.
-/
module

public import Idealize.ShloMosaic.Lib.Pointwise

@[expose] public section

noncomputable section

open Idealize.ShloMosaic

namespace Cert.RowNorm

/-- A row scaled to root mean square one and weighted, at one of its entries. -/
def rowNorm (x w : Fin 2048 → EReal) (k : Fin 2048) : EReal :=
  x k * Ideal.rsqrt (Ideal.div (∑ l, x l * x l) (Ideal.ofBits .f32 0x45000000#32)
    + Ideal.ofBits .f32 0x358637BD#32) * w k

/-- The product of a normalized row with a column of weights. -/
def normProduct (x w W : Fin 2048 → EReal) : EReal := ∑ k, rowNorm x w k * W k

theorem normProduct_congr {x x' w w' W W' : Fin 2048 → EReal} (hx : ∀ l, x l = x' l) (hw : ∀ l, w l = w' l)
    (hW : ∀ l, W l = W' l) : normProduct x w W = normProduct x' w' W' := by
  rw [funext hx, funext hw, funext hW]

end Cert.RowNorm
-- ==== Proof.MemoryKv.lean ====
/-
  The memory's keys and values: a root-mean-square norm of the rows of the memory, then the product with the
  memory's weights. Over the reals the kernel's result array, block by block, is the reference's.
-/
module

public import proofs.«01_k».proof.Proof.RowNorm
public import proofs.«01_k».proof.Proof.Gen.MemoryKvIdeal.Value
public import proofs.«01_k».proof.Proof.Gen.MemoryKvRefIdeal.Run
public import Idealize.ShloMosaic.Lib.Pipeline.ValueKit
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.MemoryKvIdeal.RefValue

open Cert.MemoryKvIdeal Cert.MemoryKvIdeal.Gen Cert.RowNorm

/-- Every row of `X` normalized, times the weights `W`. -/
def rowsProduct (X : FVec Ideal S1024x2048 .f32) (w : FVec Ideal S1x2048 .f32)
    (W : FVec Ideal S2048x1024 .bf16) : FVec Ideal S1024x1024 .f32 := fun i =>
  normProduct (fun l => X (ix2 (i 0) l)) (fun l => w (ix2 0 l)) (fun l => W (ix2 l (i 1)))

/-- What a grid point computes from its blocks of the rows, the norm's weights and the product's. -/
theorem payload (x : FVec Ideal S512x2048 .f32) (w : FVec Ideal S1x2048 .f32) (W : FVec Ideal S2048x1024 .bf16)
    (j : S512x1024.Idx) : k0_pay2 (F := Ideal) (k0_pay1 (F := Ideal) x w) W j
      = normProduct (fun l => x (ix2 (j 0) l)) (fun l => w (ix2 0 l)) (fun l => W (ix2 l (j 1))) := by
  pointwise [k0_pay1, k0_pay2, normProduct, rowNorm]

variable (m : (ℓ : Loc nD τ sig) → Buf (Elt Ideal) ℓ)

/-- The block of each window at a grid point. -/
theorem idx : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

theorem final (c : Dev nD) : (dats m 0 c).arrAt 3 (cfgs 0).N
    = rowsProduct (V m c main_v2) (V m c main_v4) (V m c main_v1) := by
  refine (dats m 0 c).arrAt_eq_of_covers 3 _ (by decide +kernel) fun t _ y => ?_
  blk_simp
  rw [after0_3]
  unfold outsAt0
  frame_out
  rw [payload]
  unfold rowsProduct
  refine normProduct_congr (fun l => ?_) (fun l => ?_) (fun l => ?_)
  · blk_simp [iblk]
    exact congrArg (V m c main_v2) (by blk_ext [idx t])
  · blk_simp [iblk]
    exact congrArg (V m c main_v4) (by blk_ext [idx t])
  · blk_simp [iblk]
    exact congrArg (V m c main_v1) (by blk_ext [idx t])

theorem entry_rows (c : Dev nD) : V m c main_v2 = shapeCast S1024x2048 (m ((c : Thread nD τ).loc main_arg0))
    shapeCasts_S4x256x2048_S1024x2048 := by
  entry_read; rfl

theorem entry_norm (c : Dev nD) : V m c main_v4 = m ((c : Thread nD τ).loc main_arg1) := by
  entry_read
  funext j
  pointwise

theorem entry_weights (c : Dev nD) : V m c main_v1 = truncf (F := Ideal) .bf16 (shapeCast S2048x1024
    (m ((c : Thread nD τ).loc main_arg2)) shapeCasts_S1x2048x1024_S2048x1024) bitsLt_bf16_f32 := by
  entry_read; rfl

end Cert.MemoryKvIdeal.RefValue

namespace Cert.MemoryKvRefIdeal.RefValue

open Cert.MemoryKvRefIdeal Cert.MemoryKvRefIdeal.Gen

/-- The reference, operation by operation. -/
abbrev result (x : FVec Ideal S4x256x2048 .f32) (w : FVec Ideal S1x2048 .f32) (W : FVec Ideal S1x2048x1024 .f32) :
    FVec Ideal S1024x1024 .f32 :=
  shapeCast S1024x1024 (Host.dotGeneral dot_S4x256x2048_S2048x1024_S4x256x1024_2_0_01_1_n_n none
    (mulf
      (mulf x (broadcastInDim S4x256x2048 ![0, 1, 2] bcast_S4x256x1_S4x256x2048_0_1_2
        (Host.rsqrt (addf
          (Host.divf
            (broadcastInDim S4x256x1 ![0, 1] bcast_S4x256_S4x256x1_0_1
              (Host.reduceAdd (mulf x x) (constant S_ .f32 0x00000000#32) reducesTo_S4x256x2048_S4x256_d2 h_S_))
            (broadcastInDim S4x256x1 ![] bcast_S_S4x256x1 (constant S_ .f32 0x45000000#32)))
          (broadcastInDim S4x256x1 ![] bcast_S_S4x256x1 (constant S_ .f32 0x358637BD#32))))))
      (broadcastInDim S4x256x2048 ![0, 1, 2] bcast_S1x1x2048_S4x256x2048_0_1_2
        (broadcastInDim S1x1x2048 ![2] bcast_S2048_S1x1x2048_2
          (shapeCast S2048 w shapeCasts_S1x2048_S2048))))
    (shapeCast S2048x1024 W shapeCasts_S1x2048x1024_S2048x1024)) shapeCasts_S4x256x1024_S1024x1024

open Cert.MemoryKvIdeal.RefValue Cert.RowNorm in
theorem result_eq (x : FVec Ideal S4x256x2048 .f32) (w : FVec Ideal S1x2048 .f32) (W : FVec Ideal S1x2048x1024 .f32) :
    result x w W = rowsProduct (shapeCast _ x Cert.MemoryKvIdeal.Gen.shapeCasts_S4x256x2048_S1024x2048) w
      (truncf .bf16 (shapeCast _ W Cert.MemoryKvIdeal.Gen.shapeCasts_S1x2048x1024_S2048x1024) Cert.MemoryKvIdeal.Gen.bitsLt_bf16_f32) := by
  funext j
  pointwise [result, rowsProduct, normProduct, rowNorm]

end Cert.MemoryKvRefIdeal.RefValue

namespace Cert.Proof.MemoryKvClaims

open Cert.MemoryKvIdeal.RefValue

theorem preserves : Cert.preserves_MemoryKv_MemoryKvIdeal := trivial

/-- The kernel's result is the reference's over the reals. -/
theorem algebraic : Cert.algebraic_MemoryKvIdeal_MemoryKvRefIdeal := by
  intro m ρ m' ρ' _ hagree
  refine ⟨fun c => (Cert.MemoryKvIdeal.Gen.dats m 0 c).arrAt 3 (Cert.MemoryKvIdeal.cfgs 0).N, Cert.MemoryKvIdeal.Value.run_blocks m ρ, ?_⟩
  refine (θ_run Cert.MemoryKvRefIdeal.defs _ _).mono (fun _ h c => ⟨(h c).1.trans ?_, (h c).2⟩)
    (Cert.MemoryKvRefIdeal.Value.run (F := Ideal) m' ρ')
  refine Eq.trans ?_ (final m c).symm
  clear h
  rw [entry_rows, entry_norm, entry_weights, (hagree c).1, (hagree c).2.1, (hagree c).2.2]
  exact Cert.MemoryKvRefIdeal.RefValue.result_eq _ _ _

end Cert.Proof.MemoryKvClaims
-- ==== Proof.OutProj.lean ====
/-
  The output projection: the three branches side by side, times the output weights, added to the input, and the
  root-mean-square norm of the sum. The kernel multiplies each branch with its own rows of the weights and adds the
  three products; over the reals this is the product of the row of all three.
-/
module

public import proofs.«01_k».proof.Proof.RowNorm
public import proofs.«01_k».proof.Proof.Gen.OutProjIdeal.Value
public import proofs.«01_k».proof.Proof.Gen.OutProjRefIdeal.Run
public import Idealize.ShloMosaic.Lib.Pipeline.ValueKit
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.OutProjIdeal.RefValue

open Cert.OutProjIdeal Cert.OutProjIdeal.Gen Cert.RowNorm

/-- One entry before the norm: the input's, and the three branches' products with a column of the weights. -/
def mixed (r : Fin 1024 → EReal) (a b : Fin 512 → EReal) (x : EReal) (W : Fin 2048 → EReal) : EReal :=
  x + ((∑ k : Fin 1024, r k * W ⟨k.val, by omega⟩) + (∑ k : Fin 512, a k * W ⟨1024 + k.val, by omega⟩)
    + ∑ k : Fin 512, b k * W ⟨1536 + k.val, by omega⟩)

/-- One entry of the result, from the rows of the branches and of the input. -/
def outRow (r : Fin 1024 → EReal) (a b : Fin 512 → EReal) (x : Fin 2048 → EReal) (W : Fin 2048 → Fin 2048 → EReal)
    (w : Fin 2048 → EReal) : Fin 2048 → EReal :=
  rowNorm (fun l => mixed r a b (x l) (fun k => W k l)) w

/-- The whole result. -/
def mixedRows (R : FVec Ideal S8192x1024 .bf16) (A B : FVec Ideal S8192x512 .bf16) (X : FVec Ideal S8192x2048 .f32)
    (W : FVec Ideal S2048x2048 .bf16) (w : FVec Ideal S1x2048 .f32) : FVec Ideal S8192x2048 .f32 := fun i =>
  outRow (fun k => R (ix2 (i 0) k)) (fun k => A (ix2 (i 0) k)) (fun k => B (ix2 (i 0) k)) (fun k => X (ix2 (i 0) k))
    (fun k l => W (ix2 k l)) (fun l => w (ix2 0 l)) (i 1)

/-- What a grid point computes from its blocks. -/
theorem payload (R : FVec Ideal S512x1024 .bf16) (A B : FVec Ideal S512x512 .bf16) (X : FVec Ideal S512x2048 .f32)
    (W : FVec Ideal S2048x2048 .bf16) (w : FVec Ideal S1x2048 .f32) (j : S512x2048.Idx) :
    out0_6 (F := Ideal) R A B X W w j
      = outRow (fun k => R (ix2 (j 0) k)) (fun k => A (ix2 (j 0) k)) (fun k => B (ix2 (j 0) k))
          (fun k => X (ix2 (j 0) k)) (fun k l => W (ix2 k l)) (fun l => w (ix2 0 l)) (j 1) := by
  frame_out
  pointwise [k0_pay1, outRow, rowNorm, mixed]

theorem outRow_congr {r r' : Fin 1024 → EReal} {a a' b b' : Fin 512 → EReal} {x x' : Fin 2048 → EReal}
    {W W' : Fin 2048 → Fin 2048 → EReal} {w w' : Fin 2048 → EReal} {n n' : Fin 2048} (hr : ∀ k, r k = r' k)
    (ha : ∀ k, a k = a' k) (hb : ∀ k, b k = b' k) (hx : ∀ k, x k = x' k) (hW : ∀ k l, W k l = W' k l)
    (hw : ∀ k, w k = w' k) (hn : n = n') : outRow r a b x W w n = outRow r' a' b' x' W' w' n' := by
  rw [funext hr, funext ha, funext hb, funext hx, funext fun k => funext (hW k), funext hw, hn]

variable (m : (ℓ : Loc nD τ sig) → Buf (Elt Ideal) ℓ)

/-- The block of each window at a grid point. -/
theorem idx : ∀ t : Fin cfg0.N, win0_0.index t = ![t.val, 0] ∧ win0_1.index t = ![t.val, 0]
    ∧ win0_2.index t = ![t.val, 0] ∧ win0_3.index t = ![t.val, 0] ∧ win0_4.index t = ![0, 0]
    ∧ win0_5.index t = ![0, 0] ∧ win0_6.index t = ![t.val, 0] :=
  (by decide +kernel : ∀ t : Fin grid0.N, _)

/-- The result array after the run, from the arrays as the grid finds them. -/
theorem final (c : Dev nD) : (dats m 0 c).arrAt 6 (cfgs 0).N
    = mixedRows (V m c main_arg0) (V m c main_arg1) (V m c main_arg2) (V m c main_v2) (V m c main_v1)
        (V m c main_v3) := by
  refine (dats m 0 c).arrAt_eq_of_covers 6 _ (by decide +kernel) fun t _ y => ?_
  blk_simp
  rw [after0_6, payload]
  unfold mixedRows
  refine outRow_congr (fun k => ?_) (fun k => ?_) (fun k => ?_) (fun k => ?_) (fun k l => ?_) (fun k => ?_) ?_
  · blk_simp [iblk]
    exact congrArg (V m c main_arg0) (by blk_ext [idx t])
  · blk_simp [iblk]
    exact congrArg (V m c main_arg1) (by blk_ext [idx t])
  · blk_simp [iblk]
    exact congrArg (V m c main_arg2) (by blk_ext [idx t])
  · blk_simp [iblk]
    exact congrArg (V m c main_v2) (by blk_ext [idx t])
  · blk_simp [iblk]
    exact congrArg (V m c main_v1) (by blk_ext [idx t])
  · blk_simp [iblk]
    exact congrArg (V m c main_v3) (by blk_ext [idx t])
  · refine Fin.ext ?_
    blk_simp [idx t]

theorem entry_input (c : Dev nD) : V m c main_v2 = shapeCast S8192x2048 (m ((c : Thread nD τ).loc main_arg3))
    shapeCasts_S4x2048x2048_S8192x2048 := by
  entry_read; rfl

theorem entry_norm (c : Dev nD) : V m c main_v3 = shapeCast S1x2048 (m ((c : Thread nD τ).loc main_arg5))
    shapeCasts_S2048_S1x2048 := by
  entry_read; rfl

theorem entry_weights (c : Dev nD) : V m c main_v1 = truncf (F := Ideal) .bf16 (shapeCast S2048x2048
    (m ((c : Thread nD τ).loc main_arg4)) shapeCasts_S1x2048x2048_S2048x2048) bitsLt_bf16_f32 := by
  entry_read; rfl

end Cert.OutProjIdeal.RefValue

namespace Cert.OutProjRefIdeal.RefValue

open Cert.OutProjRefIdeal Cert.OutProjRefIdeal.Gen

/-- The reference before its norm. -/
def summed (R : FVec Ideal S8192x1024 .bf16) (A B : FVec Ideal S8192x512 .bf16) (X : FVec Ideal S4x2048x2048 .f32)
    (W : FVec Ideal S1x2048x2048 .f32) : FVec Ideal S8192x2048 .f32 :=
  addf (shapeCast _ X shapeCasts_S4x2048x2048_S8192x2048)
    (Host.dotGeneral (φ₁ := .f32) (φ₂ := .f32) dot_S8192x2048_S2048x2048_S8192x2048_1_0_0_1_n_n none
      (concatenate S8192x2048 1 [⟨S8192x1024, extf (F := Ideal) .f32 R bitsLt_bf16_f32⟩,
        ⟨S8192x512, extf (F := Ideal) .f32 A bitsLt_bf16_f32⟩, ⟨S8192x512, extf (F := Ideal) .f32 B bitsLt_bf16_f32⟩]
        concatenates_S8192x1024_S8192x512_S8192x512_S8192x2048_d1)
      (shapeCast S2048x2048 W shapeCasts_S1x2048x2048_S2048x2048))

/-- The reference, operation by operation. -/
abbrev result (R : FVec Ideal S8192x1024 .bf16) (A B : FVec Ideal S8192x512 .bf16) (X : FVec Ideal S4x2048x2048 .f32)
    (W : FVec Ideal S1x2048x2048 .f32) (w : FVec Ideal S2048 .f32) : FVec Ideal S8192x2048 .f32 :=
  mulf (mulf (summed R A B X W) (broadcastInDim S8192x2048 ![0, 1] bcast_S8192x1_S8192x2048_0_1
      (Host.rsqrt (addf
        (Host.divf
          (broadcastInDim S8192x1 ![0] bcast_S8192_S8192x1_0
            (Host.reduceAdd (mulf (summed R A B X W) (summed R A B X W)) (constant S_ .f32 0x00000000#32)
              reducesTo_S8192x2048_S8192_d1 h_S_))
          (broadcastInDim S8192x1 ![] bcast_S_S8192x1 (constant S_ .f32 0x45000000#32)))
        (broadcastInDim S8192x1 ![] bcast_S_S8192x1 (constant S_ .f32 0x358637BD#32))))))
    (broadcastInDim S8192x2048 ![0, 1] bcast_S1x2048_S8192x2048_0_1
      (broadcastInDim S1x2048 ![1] bcast_S2048_S1x2048_1 w))

open Cert.OutProjIdeal.RefValue Cert.RowNorm in
theorem summed_eq (R : FVec Ideal S8192x1024 .bf16) (A B : FVec Ideal S8192x512 .bf16)
    (X : FVec Ideal S4x2048x2048 .f32) (W : FVec Ideal S1x2048x2048 .f32) (j : S8192x2048.Idx) :
    summed R A B X W j = mixed (fun k => R (ix2 (j 0) k)) (fun k => A (ix2 (j 0) k)) (fun k => B (ix2 (j 0) k))
      ((shapeCast S8192x2048 X shapeCasts_S4x2048x2048_S8192x2048 : FVec Ideal S8192x2048 .f32) j)
      (fun k => (shapeCast S2048x2048 W shapeCasts_S1x2048x2048_S2048x2048 : FVec Ideal S2048x2048 .f32) (ix2 k (j 1))) := by
  pointwise [summed, mixed, sumSplitAll]
  simp only [← add_assoc, Nat.reduceAdd]

open Cert.OutProjIdeal.RefValue Cert.RowNorm in
theorem result_eq (R : FVec Ideal S8192x1024 .bf16) (A B : FVec Ideal S8192x512 .bf16)
    (X : FVec Ideal S4x2048x2048 .f32) (W : FVec Ideal S1x2048x2048 .f32) (w : FVec Ideal S2048 .f32) :
    result R A B X W w = mixedRows R A B (shapeCast _ X Cert.OutProjIdeal.Gen.shapeCasts_S4x2048x2048_S8192x2048)
      (truncf .bf16 (shapeCast _ W Cert.OutProjIdeal.Gen.shapeCasts_S1x2048x2048_S2048x2048)
        Cert.OutProjIdeal.Gen.bitsLt_bf16_f32)
      (shapeCast _ w Cert.OutProjIdeal.Gen.shapeCasts_S2048_S1x2048) := by
  funext j
  pointwise [result]
  simp only [summed_eq]
  pointwise [mixedRows, outRow, rowNorm]

end Cert.OutProjRefIdeal.RefValue

namespace Cert.Proof.OutProjClaims

open Cert.OutProjIdeal.RefValue

theorem preserves : Cert.preserves_OutProj_OutProjIdeal := trivial

/-- The kernel's result is the reference's over the reals. -/
theorem algebraic : Cert.algebraic_OutProjIdeal_OutProjRefIdeal := by
  intro m ρ m' ρ' _ hagree
  refine ⟨fun c => (Cert.OutProjIdeal.Gen.dats m 0 c).arrAt 6 (Cert.OutProjIdeal.cfgs 0).N,
    Cert.OutProjIdeal.Value.run_blocks m ρ, ?_⟩
  refine (θ_run Cert.OutProjRefIdeal.defs _ _).mono (fun _ h c => ⟨(h c).1.trans ?_, (h c).2⟩)
    (Cert.OutProjRefIdeal.Value.run (F := Ideal) m' ρ')
  refine Eq.trans ?_ (final m c).symm
  clear h
  rw [entry_input, entry_norm, entry_weights, (hagree c).1, (hagree c).2.1, (hagree c).2.2.1, (hagree c).2.2.2.1,
    (hagree c).2.2.2.2.1, (hagree c).2.2.2.2.2]
  exact Cert.OutProjRefIdeal.RefValue.result_eq _ _ _ _ _ _

end Cert.Proof.OutProjClaims
-- ==== Proof.Rope.lean ====
/-
  The rotary embedding of the prompt's keys, values and indexer's keys. The kernel turns a block of rows by two tables,
  multiplying it by the cosines and a rotated copy of it by the sines with their signs; the reference turns each pair of
  lanes. The values are copied.
-/
module

public import proofs.«01_k».proof.Proof.Gen.RopeIdeal.Value
public import proofs.«01_k».proof.Proof.Gen.RopeRefIdeal.Run
public import Idealize.ShloMosaic.Lib.Pipeline.ValueKit
public import Idealize.ShloMosaic.Lib.Pipeline.ReadBack
public import Idealize.ShloMosaic.Lib.WritesUnit
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.RopeIdeal.Rotary

open Cert.RopeIdeal Cert.RopeIdeal.Gen

variable (m : (ℓ : Loc nD τ sig) → Buf (Elt Ideal) ℓ)

/-- The block of each window at a grid point. -/
theorem idx : ∀ t : Fin cfg0.N, win0_2.index t = ![t.val, 12] ∧ win0_3.index t = ![t.val, 13]
    ∧ win0_4.index t = ![t.val, 33] ∧ win0_5.index t = ![t.val % 8, 0] ∧ win0_6.index t = ![t.val % 8, 0]
    ∧ win0_7.index t = ![t.val % 8, 0] ∧ win0_8.index t = ![t.val % 8, 0]
    ∧ win0_11.index t = ![t.val / 8, t.val % 8, 0, 0] ∧ win0_13.index t = ![t.val / 8, t.val % 8, 0, 0]
    ∧ win0_15.index t = ![t.val / 8, 0, t.val % 8] :=
  (by decide +kernel : ∀ t : Fin grid0.N, _)

/-- The slab of a block of rows turned by the tables, each of its columns a row. -/
theorem turned_slab (c s x : FVec Ideal S256x128 .f32) (r : Fin 256) (d : Fin 64) :
    k0_pay60 (F := Ideal) c s x (ix3 0 d r) = x (ix2 r ⟨d.val, by omega⟩) * c (ix2 r ⟨d.val, by omega⟩)
      + x (ix2 r ⟨(if d.val < 32 then d.val + 32 else d.val - 32), by split <;> omega⟩) * s (ix2 r ⟨d.val, by omega⟩) := by
  have hsel : ∀ d : Fin 64, IntOp.cmpi CmpIPredicate.slt (IntOp.andi (BitVec.ofNat 32 d.val) 63#32) 32#32
      = if d.val < 32 then 1#1 else 0#1 := by decide
  pointwise [k0_pay60, k0_pay58]
  rw [hsel d]
  by_cases h : d.val < 32
  · simp only [if_pos h]
    refine congrArg (fun e => x (ix2 r ⟨d.val, _⟩) * c (ix2 r ⟨d.val, _⟩) + x (ix2 r e) * s (ix2 r ⟨d.val, _⟩)) (Fin.ext ?_)
    show (d.val + 128 - 96) % 128 = d.val + 32
    omega
  · simp only [if_neg h]
    refine congrArg (fun e => x (ix2 r ⟨d.val, _⟩) * c (ix2 r ⟨d.val, _⟩) + x (ix2 r e) * s (ix2 r ⟨d.val, _⟩)) (Fin.ext ?_)
    show (d.val + 128 - 32) % 128 = d.val - 32
    omega

/-- Four stores, one for each head, that fill a block. -/
theorem four (G : FVec Ideal S1x256x4x128 .f32) (P0 P1 P2 P3 : FVec Ideal S1x256x1x128 .f32)
    (h0 : ∀ (r : Fin 256) (d : Fin 128), P0 (ix4 0 r 0 d) = G (ix4 0 r 0 d))
    (h1 : ∀ (r : Fin 256) (d : Fin 128), P1 (ix4 0 r 0 d) = G (ix4 0 r 1 d))
    (h2 : ∀ (r : Fin 256) (d : Fin 128), P2 (ix4 0 r 0 d) = G (ix4 0 r 2 d))
    (h3 : ∀ (r : Fin 256) (d : Fin 128), P3 (ix4 0 r 0 d) = G (ix4 0 r 3 d)) :
    View.canon (Val := Elt Ideal) (s := S1x256x4x128) (e := .f32)
      [⟨Rect.unit ![0, 0, 3, 0] ![1, 256, 1, 128] inb_S1x256x4x128_S1x256x1x128_0_0_3_0, P3⟩,
        ⟨Rect.unit ![0, 0, 2, 0] ![1, 256, 1, 128] inb_S1x256x4x128_S1x256x1x128_0_0_2_0, P2⟩,
        ⟨Rect.unit ![0, 0, 1, 0] ![1, 256, 1, 128] inb_S1x256x4x128_S1x256x1x128_0_0_1_0, P1⟩,
        ⟨Rect.unit ![0, 0, 0, 0] ![1, 256, 1, 128] inb_S1x256x4x128_S1x256x1x128_0_0_0_0, P0⟩] = G := by
  have hx : ∀ x : S1x256x1x128.Idx, x = ix4 0 (x 1) 0 (x 3) := fun x => funext fun a => match a with
    | ⟨0, _⟩ => Fin.ext (by have h : (x 0).val < 1 := (x 0).isLt; show (x 0).val = 0; omega)
    | ⟨1, _⟩ => rfl
    | ⟨2, _⟩ => Fin.ext (by have h : (x 2).val < 1 := (x 2).isLt; show (x 2).val = 0; omega)
    | ⟨3, _⟩ => rfl
  have key : ∀ (P : FVec Ideal S1x256x1x128 .f32) (h : Fin 4) (inb)
      (_ : ∀ (r : Fin 256) (d : Fin 128), P (ix4 0 r 0 d) = G (ix4 0 r h d)) (x : S1x256x1x128.Idx),
      P x = G ((Rect.unit (s := S1x256x4x128) ![0, 0, h.val, 0] ![1, 256, 1, 128] inb).idx x) := fun P h inb hP x => by
    have h0 : (x 0).val < 1 := (x 0).isLt
    have h2 : (x 2).val < 1 := (x 2).isLt
    refine (congrArg P (hx x)).trans ((hP _ _).trans (congrArg G (funext fun a => ?_)))
    match a with
    | ⟨0, _⟩ => apply Fin.ext; show 0 = 0 + 1 * (x 0).val; omega
    | ⟨1, _⟩ => apply Fin.ext; show (x 1).val = 0 + 1 * (x 1).val; omega
    | ⟨2, _⟩ => apply Fin.ext; show h.val = h.val + 1 * (x 2).val; omega
    | ⟨3, _⟩ => apply Fin.ext; show (x 3).val = 0 + 1 * (x 3).val; omega
  funext y
  have hy : ∀ (h : Fin 4) (inb), (y 2).val = h.val →
      y ∈ (Rect.unit (s := S1x256x4x128) ![0, 0, h.val, 0] ![1, 256, 1, 128] inb).set := fun h inb hy => by
    have hy0 : (y 0).val < 1 := (y 0).isLt
    have hy1 : (y 1).val < 256 := (y 1).isLt
    have hy3 : (y 3).val < 128 := (y 3).isLt
    rw [Rect.mem_set_unit]
    intro a
    match a with
    | ⟨0, _⟩ => show 0 ≤ (y 0).val ∧ (y 0).val < 0 + 1; omega
    | ⟨1, _⟩ => show 0 ≤ (y 1).val ∧ (y 1).val < 0 + 256; omega
    | ⟨2, _⟩ => show h.val ≤ (y 2).val ∧ (y 2).val < h.val + 1; omega
    | ⟨3, _⟩ => show 0 ≤ (y 3).val ∧ (y 3).val < 0 + 128; omega
  refine View.canon_apply_of_pieces (Val := Elt Ideal) (e := .f32) G _ ?_ y ?_
  · intro pc hpc x
    rcases List.mem_cons.mp hpc with rfl | hpc
    · exact key P3 3 inb_S1x256x4x128_S1x256x1x128_0_0_3_0 h3 x
    rcases List.mem_cons.mp hpc with rfl | hpc
    · exact key P2 2 inb_S1x256x4x128_S1x256x1x128_0_0_2_0 h2 x
    rcases List.mem_cons.mp hpc with rfl | hpc
    · exact key P1 1 inb_S1x256x4x128_S1x256x1x128_0_0_1_0 h1 x
    rcases List.mem_cons.mp hpc with rfl | hpc
    · exact key P0 0 inb_S1x256x4x128_S1x256x1x128_0_0_0_0 h0 x
    nomatch hpc
  · have hy2 : (y 2).val < 4 := (y 2).isLt
    rcases (by omega : (y 2).val = 0 ∨ (y 2).val = 1 ∨ (y 2).val = 2 ∨ (y 2).val = 3) with h | h | h | h
    · exact ⟨_, List.mem_cons_of_mem _ (List.mem_cons_of_mem _ (List.mem_cons_of_mem _ List.mem_cons_self)),
        hy 0 inb_S1x256x4x128_S1x256x1x128_0_0_0_0 h⟩
    · exact ⟨_, List.mem_cons_of_mem _ (List.mem_cons_of_mem _ List.mem_cons_self),
        hy 1 inb_S1x256x4x128_S1x256x1x128_0_0_1_0 h⟩
    · exact ⟨_, List.mem_cons_of_mem _ List.mem_cons_self, hy 2 inb_S1x256x4x128_S1x256x1x128_0_0_2_0 h⟩
    · exact ⟨_, List.mem_cons_self, hy 3 inb_S1x256x4x128_S1x256x1x128_0_0_3_0 h⟩

/-- The angle of a position and a pair of lanes, for a width of 128. -/
def angle : FVec Ideal S2048x64 .f32 :=
  mulf (broadcastInDim S2048x64 ![0, 1] bcast_S2048x1_S2048x64_0_1
      (broadcastInDim S2048x1 ![0] bcast_S2048_S2048x1_0 (sitofp .f32 (iotaInDim S2048 32 0))))
    (broadcastInDim S2048x64 ![0, 1] bcast_S1x64_S2048x64_0_1 (broadcastInDim S1x64 ![1] bcast_S64_S1x64_1
      (Host.powf (broadcastInDim S64 ![] bcast_S_S64 (constant S_ .f32 0x461C4000#32))
        (mulf (Host.negf (sitofp .f32 (iotaInDim S64 32 0))) (broadcastInDim S64 ![] bcast_S_S64 (constant S_ .f32 0x3C800000#32))))))

/-- The angle of a position and a pair of lanes, for a width of 64. -/
def angleSlab : FVec Ideal S2048x32 .f32 :=
  mulf (broadcastInDim S2048x32 ![0, 1] bcast_S2048x1_S2048x32_0_1
      (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1
      (Host.powf (broadcastInDim S32 ![] bcast_S_S32 (constant S_ .f32 0x461C4000#32))
        (mulf (Host.negf (sitofp .f32 (iotaInDim S32 32 0))) (broadcastInDim S32 ![] bcast_S_S32 (constant S_ .f32 0x3D000000#32))))))

/-- A table of 128 lanes from its two halves. -/
def table (C D : FVec Ideal S2048x64 .f32) : FVec Ideal S2048x128 .f32 :=
  shapeCast S2048x128 (broadcastInDim S1x2048x1x128 ![0, 1, 2, 3] bcast_S1x2048x1x128_S1x2048x1x128_0_1_2_3
    (shapeCast S1x2048x1x128 (concatenate S2048x128 1 [⟨S2048x64, C⟩, ⟨S2048x64, D⟩] concatenates_S2048x64_S2048x64_S2048x128_d1)
      shapeCasts_S2048x128_S1x2048x1x128)) shapeCasts_S1x2048x1x128_S2048x128

/-- A table of 64 lanes, twice, from its two halves. -/
def tableSlab (C D : FVec Ideal S2048x32 .f32) : FVec Ideal S2048x128 .f32 :=
  shapeCast S2048x128 (broadcastInDim S1x2048x2x64 ![0, 1, 2, 3] bcast_S1x2048x1x64_S1x2048x2x64_0_1_2_3
    (shapeCast S1x2048x1x64 (concatenate S2048x64 1 [⟨S2048x32, C⟩, ⟨S2048x32, D⟩] concatenates_S2048x32_S2048x32_S2048x64_d1)
      shapeCasts_S2048x64_S1x2048x1x64)) shapeCasts_S1x2048x2x64_S2048x128

theorem entry_cos (c : Dev nD) : V m c main_v18 = table (Host.cos angle) (Host.cos angle) := by
  entry_read
  rfl

theorem entry_sin (c : Dev nD) : V m c main_v23 = table (Host.negf (Host.sin angle)) (Host.sin angle) := by
  entry_read
  rfl

theorem entry_cosSlab (c : Dev nD) : V m c main_v41 = tableSlab (Host.cos angleSlab) (Host.cos angleSlab) := by
  entry_read
  rfl

theorem entry_sinSlab (c : Dev nD) : V m c main_v46 = tableSlab (Host.negf (Host.sin angleSlab)) (Host.sin angleSlab) := by
  entry_read
  rfl

theorem table_at (C D : FVec Ideal S2048x64 .f32) (r : Fin 2048) (d : Fin 128) :
    table C D (ix2 r d) = if h : d.val < 64 then C (ix2 r ⟨d.val, h⟩) else D (ix2 r ⟨d.val - 64, by omega⟩) := by
  pointwise [table]

theorem tableSlab_at (C D : FVec Ideal S2048x32 .f32) (r : Fin 2048) (d : Fin 64) :
    tableSlab C D (ix2 r ⟨d.val, by omega⟩) = if h : d.val < 32 then C (ix2 r ⟨d.val, h⟩) else D (ix2 r ⟨d.val - 32, by omega⟩) := by
  pointwise [tableSlab]
  simp only [Nat.mod_eq_of_lt d.isLt]

/-- The heads of a block of rows, turned by the tables. -/
def heads (X : FVec Ideal S256x512 .f32) (c s : FVec Ideal S256x128 .f32) : FVec Ideal S1x256x4x128 .f32 := fun y =>
  X (ix2 (y 1) ⟨(y 2).val * 128 + (y 3).val, by
      have h2 : (y 2).val < 4 := (y 2).isLt
      have h3 : (y 3).val < 128 := (y 3).isLt
      omega⟩) * c (ix2 (y 1) (y 3))
    + X (ix2 (y 1) ⟨(y 2).val * 128 + ((y 3).val + 128 - 64) % 128, by
      have h2 : (y 2).val < 4 := (y 2).isLt
      omega⟩) * s (ix2 (y 1) (y 3))

/-- The heads of a block of rows. -/
def plain (X : FVec Ideal S256x512 .f32) : FVec Ideal S1x256x4x128 .f32 := fun y =>
  X (ix2 (y 1) ⟨(y 2).val * 128 + (y 3).val, by
      have h2 : (y 2).val < 4 := (y 2).isLt
      have h3 : (y 3).val < 128 := (y 3).isLt
      omega⟩)

/-- The slab of a block of rows, turned by the tables. -/
def slab (X c s : FVec Ideal S256x128 .f32) : FVec Ideal S1x64x256 .f32 := fun y =>
  X (ix2 (y 2) ⟨(y 1).val, by have h : (y 1).val < 64 := (y 1).isLt; omega⟩)
      * c (ix2 (y 2) ⟨(y 1).val, by have h : (y 1).val < 64 := (y 1).isLt; omega⟩)
    + X (ix2 (y 2) ⟨(if (y 1).val < 32 then (y 1).val + 32 else (y 1).val - 32), by
          have h : (y 1).val < 64 := (y 1).isLt
          split <;> omega⟩)
      * s (ix2 (y 2) ⟨(y 1).val, by have h : (y 1).val < 64 := (y 1).isLt; omega⟩)

theorem slab_eq (X c s : FVec Ideal S256x128 .f32) (y : S1x64x256.Idx) :
    k0_pay60 (F := Ideal) (k0_pay4 c) (k0_pay5 s) X y = slab X c s y := by
  have hc : k0_pay4 (F := Ideal) c = c := by funext j; pointwise [k0_pay4]
  have hs : k0_pay5 (F := Ideal) s = s := by funext j; pointwise [k0_pay5]
  rw [hc, hs]
  have hy : y = ix3 0 (y 1) (y 2) := funext fun a => match a with
    | ⟨0, _⟩ => Fin.ext (by have h : (y 0).val < 1 := (y 0).isLt; show (y 0).val = 0; omega)
    | ⟨1, _⟩ => rfl
    | ⟨2, _⟩ => rfl
  exact (congrArg (k0_pay60 (F := Ideal) c s X) hy).trans (turned_slab c s X (y 2) (y 1))

theorem stored_keys (c : Dev nD) (t : Fin cfg0.N) (y : S1x256x4x128.Idx) :
    (outsAt0 m c t).2.2.1 y = heads (iblk m c 2 t) (iblk m c 5 t) (iblk m c 6 t) y := by
  rw [outsAt0]
  frame_out
  generalize iblk m c 2 t = X
  generalize iblk m c 5 t = a
  generalize iblk m c 6 t = b
  refine congrFun (four _ _ _ _ _ ?_ ?_ ?_ ?_) y
  all_goals
    intro r d
    pointwise [k0_pay9, k0_pay14, k0_pay19, k0_pay24, k0_pay7, k0_pay12, k0_pay17, k0_pay22, k0_pay2, k0_pay3, heads]

theorem stored_values (c : Dev nD) (t : Fin cfg0.N) (y : S1x256x4x128.Idx) :
    (outsAt0 m c t).2.2.2.2.1 y = plain (iblk m c 3 t) y := by
  rw [outsAt0]
  frame_out
  generalize iblk m c 3 t = X
  refine congrFun (four _ _ _ _ _ ?_ ?_ ?_ ?_) y
  all_goals
    intro r d
    pointwise [k0_pay10, k0_pay15, k0_pay20, k0_pay25, plain]

theorem stored_index (c : Dev nD) (t : Fin cfg0.N) (y : S1x64x256.Idx) :
    (outsAt0 m c t).2.2.2.2.2.2.1 y = slab (iblk m c 4 t) (iblk m c 7 t) (iblk m c 8 t) y := by
  rw [outsAt0]
  frame_out
  exact slab_eq _ _ _ y

theorem read_k (c : Dev nD) (t : Fin cfg0.N) (a : Fin 256) (b : Fin 512) (r : Fin 8192) (d : Fin 8704)
    (hr : r.val = t.val * 256 + a.val) (hd : d.val = 6144 + b.val) :
    iblk m c 2 t (ix2 a b) = V m c main_arg0 (ix2 r d) := by
  blk_simp [iblk]
  exact congrArg (V m c main_arg0) (by blk_ext [idx t])

theorem read_v (c : Dev nD) (t : Fin cfg0.N) (a : Fin 256) (b : Fin 512) (r : Fin 8192) (d : Fin 8704)
    (hr : r.val = t.val * 256 + a.val) (hd : d.val = 6656 + b.val) :
    iblk m c 3 t (ix2 a b) = V m c main_arg0 (ix2 r d) := by
  blk_simp [iblk]
  exact congrArg (V m c main_arg0) (by blk_ext [idx t])

theorem read_slab (c : Dev nD) (t : Fin cfg0.N) (a : Fin 256) (b : Fin 128) (r : Fin 8192) (d : Fin 8704)
    (hr : r.val = t.val * 256 + a.val) (hd : d.val = 4224 + b.val) :
    iblk m c 4 t (ix2 a b) = V m c main_arg0 (ix2 r d) := by
  blk_simp [iblk]
  exact congrArg (V m c main_arg0) (by blk_ext [idx t])

theorem read_cos (c : Dev nD) (t : Fin cfg0.N) (a : Fin 256) (b : Fin 128) (r : Fin 2048) (d : Fin 128)
    (hr : r.val = t.val % 8 * 256 + a.val) (hd : d.val = b.val) :
    iblk m c 5 t (ix2 a b) = V m c main_v18 (ix2 r d) := by
  blk_simp [iblk]
  exact congrArg (V m c main_v18) (by blk_ext [idx t])

theorem read_sin (c : Dev nD) (t : Fin cfg0.N) (a : Fin 256) (b : Fin 128) (r : Fin 2048) (d : Fin 128)
    (hr : r.val = t.val % 8 * 256 + a.val) (hd : d.val = b.val) :
    iblk m c 6 t (ix2 a b) = V m c main_v23 (ix2 r d) := by
  blk_simp [iblk]
  exact congrArg (V m c main_v23) (by blk_ext [idx t])

theorem read_cosSlab (c : Dev nD) (t : Fin cfg0.N) (a : Fin 256) (b : Fin 128) (r : Fin 2048) (d : Fin 128)
    (hr : r.val = t.val % 8 * 256 + a.val) (hd : d.val = b.val) :
    iblk m c 7 t (ix2 a b) = V m c main_v41 (ix2 r d) := by
  blk_simp [iblk]
  exact congrArg (V m c main_v41) (by blk_ext [idx t])

theorem read_sinSlab (c : Dev nD) (t : Fin cfg0.N) (a : Fin 256) (b : Fin 128) (r : Fin 2048) (d : Fin 128)
    (hr : r.val = t.val % 8 * 256 + a.val) (hd : d.val = b.val) :
    iblk m c 8 t (ix2 a b) = V m c main_v46 (ix2 r d) := by
  blk_simp [iblk]
  exact congrArg (V m c main_v46) (by blk_ext [idx t])

/-- The row of a batch and a position. -/
def row (b : Fin 4) (r : Fin 2048) : Fin 8192 := ⟨b.val * 2048 + r.val, by omega⟩

/-- Four heads: the projection's columns from `o` on, turned by the tables. The keys lie from 6144 on. -/
def turned (o : ℕ) (ho : o ≤ 8192) (A : FVec Ideal S8192x8704 .f32) (c s : FVec Ideal S2048x128 .f32) :
    FVec Ideal S4x2048x4x128 .f32 := fun i =>
  A (ix2 (row (i 0) (i 1)) ⟨o + ((i 2).val * 128 + (i 3).val), by
      have h2 : (i 2).val < 4 := (i 2).isLt
      have h3 : (i 3).val < 128 := (i 3).isLt
      omega⟩) * c (ix2 (i 1) (i 3))
    + A (ix2 (row (i 0) (i 1)) ⟨o + ((i 2).val * 128 + ((i 3).val + 128 - 64) % 128), by
      have h2 : (i 2).val < 4 := (i 2).isLt
      omega⟩) * s (ix2 (i 1) (i 3))

/-- The values: the heads of the projection's columns from 6656 on. -/
def values (A : FVec Ideal S8192x8704 .f32) : FVec Ideal S4x2048x4x128 .f32 := fun i =>
  A (ix2 (row (i 0) (i 1)) ⟨6656 + ((i 2).val * 128 + (i 3).val), by
      have h2 : (i 2).val < 4 := (i 2).isLt
      have h3 : (i 3).val < 128 := (i 3).isLt
      omega⟩)

/-- The indexer's keys: the projection's columns 4224 to 4287, turned by the tables, positions last. -/
def indexKeys (A : FVec Ideal S8192x8704 .f32) (c s : FVec Ideal S2048x128 .f32) : FVec Ideal S4x64x2048 .f32 := fun i =>
  A (ix2 (row (i 0) (i 2)) ⟨4224 + (i 1).val, by have h : (i 1).val < 64 := (i 1).isLt; omega⟩)
      * c (ix2 (i 2) ⟨(i 1).val, by have h : (i 1).val < 64 := (i 1).isLt; omega⟩)
    + A (ix2 (row (i 0) (i 2)) ⟨4224 + (if (i 1).val < 32 then (i 1).val + 32 else (i 1).val - 32), by
          have h : (i 1).val < 64 := (i 1).isLt
          split <;> omega⟩)
      * s (ix2 (i 2) ⟨(i 1).val, by have h : (i 1).val < 64 := (i 1).isLt; omega⟩)

/-- Two products and their sum, factor by factor. -/
theorem sum_congr {a b c d a' b' c' d' : EReal} (ha : a = a') (hb : b = b') (hc : c = c') (hd : d = d') :
    a * b + c * d = a' * b' + c' * d' := by rw [ha, hb, hc, hd]

theorem turned_at (c : Dev nD) (t : Fin cfg0.N) (X : FVec Ideal S256x512 .f32) (o : ℕ) (ho : o ≤ 8192)
    (hX : ∀ (a : Fin 256) (b : Fin 512) (r : Fin 8192) (d : Fin 8704) (_ : r.val = t.val * 256 + a.val) (_ : d.val = o + b.val),
      X (ix2 a b) = V m c main_arg0 (ix2 r d)) (y : S1x256x4x128.Idx) (i : S4x2048x4x128.Idx)
    (h0 : (i 0).val = t.val / 8) (h1 : (i 1).val = t.val % 8 * 256 + (y 1).val) (h2 : (i 2).val = (y 2).val)
    (h3 : (i 3).val = (y 3).val) : heads X (iblk m c 5 t) (iblk m c 6 t) y
      = turned o ho (V m c main_arg0) (V m c main_v18) (V m c main_v23) i := by
  have hr : (row (i 0) (i 1)).val = t.val * 256 + (y 1).val := by
    show (i 0).val * 2048 + (i 1).val = _
    omega
  exact sum_congr
    (hX _ _ _ _ hr (by show o + ((i 2).val * 128 + (i 3).val) = o + ((y 2).val * 128 + (y 3).val); rw [h2, h3]))
    (read_cos m c t _ _ _ _ h1 h3)
    (hX _ _ _ _ hr (by
      show o + ((i 2).val * 128 + ((i 3).val + 128 - 64) % 128) = o + ((y 2).val * 128 + ((y 3).val + 128 - 64) % 128)
      rw [h2, h3]))
    (read_sin m c t _ _ _ _ h1 h3)

theorem values_at (c : Dev nD) (t : Fin cfg0.N) (y : S1x256x4x128.Idx) (i : S4x2048x4x128.Idx)
    (h0 : (i 0).val = t.val / 8) (h1 : (i 1).val = t.val % 8 * 256 + (y 1).val) (h2 : (i 2).val = (y 2).val)
    (h3 : (i 3).val = (y 3).val) : plain (iblk m c 3 t) y = values (V m c main_arg0) i := by
  have hr : (row (i 0) (i 1)).val = t.val * 256 + (y 1).val := by
    show (i 0).val * 2048 + (i 1).val = _
    omega
  exact read_v m c t _ _ _ _ hr (by
    show 6656 + ((i 2).val * 128 + (i 3).val) = 6656 + ((y 2).val * 128 + (y 3).val)
    rw [h2, h3])

theorem index_at (c : Dev nD) (t : Fin cfg0.N) (y : S1x64x256.Idx) (i : S4x64x2048.Idx)
    (h0 : (i 0).val = t.val / 8) (h1 : (i 1).val = (y 1).val) (h2 : (i 2).val = t.val % 8 * 256 + (y 2).val) :
    slab (iblk m c 4 t) (iblk m c 7 t) (iblk m c 8 t) y
      = indexKeys (V m c main_arg0) (V m c main_v41) (V m c main_v46) i := by
  have hr : (row (i 0) (i 2)).val = t.val * 256 + (y 2).val := by
    show (i 0).val * 2048 + (i 2).val = _
    omega
  exact sum_congr
    (read_slab m c t _ _ _ _ hr (by show 4224 + (i 1).val = 4224 + (y 1).val; rw [h1]))
    (read_cosSlab m c t _ _ _ _ h2 h1)
    (read_slab m c t _ _ _ _ hr (by
      show 4224 + (if (i 1).val < 32 then (i 1).val + 32 else (i 1).val - 32)
        = 4224 + (if (y 1).val < 32 then (y 1).val + 32 else (y 1).val - 32)
      rw [h1]))
    (read_sinSlab m c t _ _ _ _ h2 h1)

/-- The keys after the run, from the arrays as the grid finds them. -/
theorem final_keys (c : Dev nD) : (dats m 0 c).arrAt 11 (cfgs 0).N
    = turned 6144 (by decide) (V m c main_arg0) (V m c main_v18) (V m c main_v23) := by
  refine (dats m 0 c).arrAt_eq_of_covers 11 _ (by decide +kernel) fun t _ y => ?_
  blk_simp
  rw [after0_11]
  refine (stored_keys m c t y).trans (turned_at m c t _ 6144 _ (read_k m c t) y _ ?_ ?_ ?_ ?_)
  all_goals blk_simp [idx t]

/-- The values after the run. -/
theorem final_values (c : Dev nD) : (dats m 0 c).arrAt 13 (cfgs 0).N = values (V m c main_arg0) := by
  refine (dats m 0 c).arrAt_eq_of_covers 13 _ (by decide +kernel) fun t _ y => ?_
  blk_simp
  rw [after0_13]
  refine (stored_values m c t y).trans (values_at m c t y _ ?_ ?_ ?_ ?_)
  all_goals blk_simp [idx t]

/-- The indexer's keys after the run. -/
theorem final_index (c : Dev nD) : (dats m 0 c).arrAt 15 (cfgs 0).N
    = indexKeys (V m c main_arg0) (V m c main_v41) (V m c main_v46) := by
  refine (dats m 0 c).arrAt_eq_of_covers 15 _ (by decide +kernel) fun t _ y => ?_
  blk_simp
  rw [after0_15]
  refine (stored_index m c t y).trans (index_at m c t y _ ?_ ?_ ?_)
  all_goals blk_simp [idx t]

end Cert.RopeIdeal.Rotary

namespace Cert.RopeRefIdeal.Rotary

open Cert.RopeRefIdeal Cert.RopeRefIdeal.Gen

/-- The columns from 6144 on, by heads. -/
def headsOf (A : FVec Ideal S8192x8704 .f32) : FVec Ideal S4x2048x4x128 .f32 :=
  shapeCast S4x2048x4x128 (extractStridedSlice S8192x512 ![0, 6144] A slices_S8192x8704_S8192x512_0_6144)
    shapeCasts_S8192x512_S4x2048x4x128

def first (X : FVec Ideal S4x2048x4x128 .f32) : FVec Ideal S4x2048x4x64 .f32 :=
  extractStridedSlice S4x2048x4x64 ![0, 0, 0, 0] X slices_S4x2048x4x128_S4x2048x4x64_0_0_0_0

def second (X : FVec Ideal S4x2048x4x128 .f32) : FVec Ideal S4x2048x4x64 .f32 :=
  extractStridedSlice S4x2048x4x64 ![0, 0, 0, 64] X slices_S4x2048x4x128_S4x2048x4x64_0_0_0_64

def spread (C : FVec Ideal S2048x64 .f32) : FVec Ideal S4x2048x4x64 .f32 :=
  broadcastInDim S4x2048x4x64 ![0, 1, 2, 3] bcast_S1x2048x1x64_S4x2048x4x64_0_1_2_3
    (broadcastInDim S1x2048x1x64 ![1, 2, 3] bcast_S2048x1x64_S1x2048x1x64_1_2_3
      (broadcastInDim S2048x1x64 ![0, 2] bcast_S2048x64_S2048x1x64_0_2 C))

/-- The reference's rotation of four heads, operation by operation. -/
def rotated (X : FVec Ideal S4x2048x4x128 .f32) (C S : FVec Ideal S2048x64 .f32) : FVec Ideal S4x2048x4x128 .f32 :=
  concatenate S4x2048x4x128 3
    [⟨S4x2048x4x64, subf (mulf (first X) (spread C)) (mulf (second X) (spread S))⟩,
      ⟨S4x2048x4x64, addf (mulf (second X) (spread C)) (mulf (first X) (spread S))⟩]
    concatenates_S4x2048x4x64_S4x2048x4x64_S4x2048x4x128_d3

def slabOf (A : FVec Ideal S8192x8704 .f32) : FVec Ideal S4x2048x1x64 .f32 :=
  shapeCast S4x2048x1x64 (extractStridedSlice S8192x64 ![0, 4224] A slices_S8192x8704_S8192x64_0_4224)
    shapeCasts_S8192x64_S4x2048x1x64

def firstSlab (X : FVec Ideal S4x2048x1x64 .f32) : FVec Ideal S4x2048x1x32 .f32 :=
  extractStridedSlice S4x2048x1x32 ![0, 0, 0, 0] X slices_S4x2048x1x64_S4x2048x1x32_0_0_0_0

def secondSlab (X : FVec Ideal S4x2048x1x64 .f32) : FVec Ideal S4x2048x1x32 .f32 :=
  extractStridedSlice S4x2048x1x32 ![0, 0, 0, 32] X slices_S4x2048x1x64_S4x2048x1x32_0_0_0_32

def spreadSlab (C : FVec Ideal S2048x32 .f32) : FVec Ideal S4x2048x1x32 .f32 :=
  broadcastInDim S4x2048x1x32 ![0, 1, 2, 3] bcast_S1x2048x1x32_S4x2048x1x32_0_1_2_3
    (broadcastInDim S1x2048x1x32 ![1, 2, 3] bcast_S2048x1x32_S1x2048x1x32_1_2_3
      (broadcastInDim S2048x1x32 ![0, 2] bcast_S2048x32_S2048x1x32_0_2 C))

/-- The reference's indexer's keys, operation by operation, positions first and positions last. -/
def indexRows (A : FVec Ideal S8192x8704 .f32) (C S : FVec Ideal S2048x32 .f32) : FVec Ideal S4x2048x64 .f32 :=
  shapeCast S4x2048x64 (concatenate S4x2048x1x64 3
    [⟨S4x2048x1x32, subf (mulf (firstSlab (slabOf A)) (spreadSlab C)) (mulf (secondSlab (slabOf A)) (spreadSlab S))⟩,
      ⟨S4x2048x1x32, addf (mulf (secondSlab (slabOf A)) (spreadSlab C)) (mulf (firstSlab (slabOf A)) (spreadSlab S))⟩]
    concatenates_S4x2048x1x32_S4x2048x1x32_S4x2048x1x64_d3) shapeCasts_S4x2048x1x64_S4x2048x64

def indexRef (A : FVec Ideal S8192x8704 .f32) (C S : FVec Ideal S2048x32 .f32) : FVec Ideal S4x64x2048 .f32 :=
  transpose S4x64x2048 [0, 2, 1] (indexRows A C S) transposes_S4x2048x64_S4x64x2048_0_2_1

/-- The reference's values, operation by operation. -/
def valuesRef (A : FVec Ideal S8192x8704 .f32) : FVec Ideal S4x2048x4x128 .f32 :=
  shapeCast S4x2048x4x128 (extractStridedSlice S8192x512 ![0, 6656] A slices_S8192x8704_S8192x512_0_6656)
    shapeCasts_S8192x512_S4x2048x4x128

open Cert.RopeIdeal.Rotary

theorem turn_sub {a b c d a' b' c' d' : EReal} (ha : a = a') (hb : b = b') (hc : c = c') (hd : -d = d') :
    a * b - c * d = a' * b' + c' * d' := by rw [ha, hb, hc, ← hd, mul_neg, sub_eq_add_neg]

theorem values_eq (A : FVec Ideal S8192x8704 .f32) : valuesRef A = values A := by
  funext i
  idx_vars i
  pointwise [valuesRef, values, row]

/-- The lane of the other half. -/
def opposite (d : Fin 128) : Fin 128 := ⟨(d.val + 128 - 64) % 128, by omega⟩

theorem rotated_at (X : FVec Ideal S4x2048x4x128 .f32) (C S : FVec Ideal S2048x64 .f32) (b : Fin 4) (r : Fin 2048) (h : Fin 4)
    (d : Fin 128) : rotated X C S (ix4 b r h d)
      = X (ix4 b r h d) * table C C (ix2 r d) + X (ix4 b r h (opposite d)) * table (Host.negf S) S (ix2 r d) := by
  pointwise [rotated, first, second, spread]
  have at_col : ∀ {e e' : Fin 128} (_ : e.val = e'.val), X (ix4 b r h e) = X (ix4 b r h e') :=
    fun hh => congrArg (fun e => X (ix4 b r h e)) (Fin.ext hh)
  by_cases hd : d.val < 64
  · rw [dif_pos hd]
    exact turn_sub rfl ((table_at C C r d).trans (dif_pos hd)).symm
      (at_col (by show 64 + d.val = (d.val + 128 - 64) % 128; omega))
      ((table_at (Host.negf S) S r d).trans ((dif_pos hd).trans rfl)).symm
  · rw [dif_neg hd]
    exact sum_congr (at_col (by show 64 + (d.val - 64) = d.val; omega)) ((table_at C C r d).trans (dif_neg hd)).symm
      (at_col (by show d.val - 64 = (d.val + 128 - 64) % 128; omega))
      ((table_at (Host.negf S) S r d).trans (dif_neg hd)).symm

theorem keys_eq (A : FVec Ideal S8192x8704 .f32) (C S : FVec Ideal S2048x64 .f32) :
    rotated (headsOf A) C S = turned 6144 (by decide) A (table C C) (table (Host.negf S) S) := by
  funext i
  idx_vars i
  refine (rotated_at _ C S i0 i1 i2 i3).trans (sum_congr ?_ rfl ?_ rfl)
  all_goals pointwise [headsOf, opposite, row]

theorem index_eq (A : FVec Ideal S8192x8704 .f32) (C S : FVec Ideal S2048x32 .f32) :
    indexRef A C S = indexKeys A (tableSlab C C) (tableSlab (Host.negf S) S) := by
  funext i
  idx_vars i
  pointwise [indexRef, indexRows, slabOf, firstSlab, secondSlab, spreadSlab]
  have at_col : ∀ {e e' : Fin 8704} (_ : e.val = e'.val), A (ix2 (row i0 i2) e) = A (ix2 (row i0 i2) e') :=
    fun h => congrArg (fun e => A (ix2 (row i0 i2) e)) (Fin.ext h)
  by_cases h : i1.val < 32
  · rw [dif_pos h]
    exact turn_sub rfl ((tableSlab_at C C i2 i1).trans (dif_pos h)).symm (at_col (by show 4224 + (32 + i1.val) = 4224 + (if i1.val < 32 then i1.val + 32 else i1.val - 32); rw [if_pos h]; omega))
      ((tableSlab_at (Host.negf S) S i2 i1).trans ((dif_pos h).trans rfl)).symm
  · rw [dif_neg h]
    exact sum_congr (at_col (by show 4224 + (32 + (i1.val - 32)) = 4224 + i1.val; omega)) ((tableSlab_at C C i2 i1).trans (dif_neg h)).symm (at_col (by show 4224 + (i1.val - 32) = 4224 + (if i1.val < 32 then i1.val + 32 else i1.val - 32); rw [if_neg h]))
      ((tableSlab_at (Host.negf S) S i2 i1).trans (dif_neg h)).symm

end Cert.RopeRefIdeal.Rotary

end
-- ==== Proof.Project.lean ====
/-
  The input projection: a root-mean-square norm of the rows, then the product with the projection's weights, tile by
  tile. The kernel normalizes a tile of rows once, at the first tile of columns, and keeps it for the other sixteen;
  the columns of its result are those of the reference in another order, with columns of zeros among them.
-/
module

public import proofs.«01_k».proof.Proof.RowNorm
public import proofs.«01_k».proof.Proof.Gen.ProjectIdeal.Value
public import proofs.«01_k».proof.Proof.Gen.ProjectRefIdeal.Run
public import Idealize.ShloMosaic.Lib.Pipeline.ValueKit
public import Idealize.ShloMosaic.Lib.Pipeline.ReadBack
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.ProjectIdeal.RefValue

open Cert.ProjectIdeal Cert.ProjectIdeal.Gen Cert.RowNorm

/-- Every row of `X` normalized, times the weights `W`. -/
def rowsProduct (X : FVec Ideal S8192x2048 .f32) (w : FVec Ideal S1x2048 .f32)
    (W : FVec Ideal S2048x8704 .bf16) : FVec Ideal S8192x8704 .f32 := fun i =>
  normProduct (fun l => X (ix2 (i 0) l)) (fun l => w (ix2 0 l)) (fun l => W (ix2 l (i 1)))

/-- The normalized tile of rows. -/
theorem normed (x : FVec Ideal S1024x2048 .f32) (w : FVec Ideal S1x2048 .f32) (a : Fin 1024) (k : Fin 2048) :
    k0_pay1 (F := Ideal) x w (ix2 a k) = rowNorm (fun l => x (ix2 a l)) (fun l => w (ix2 0 l)) k := by
  pointwise [k0_pay1, rowNorm]

/-- The product of a tile of rows with a tile of columns. -/
theorem product (x : FVec Ideal S1024x2048 .bf16) (W : FVec Ideal S2048x512 .bf16) (j : S1024x512.Idx)
    (f : Fin 2048 → EReal) (hf : ∀ k, x (ix2 (j 0) k) = f k) :
    k0_pay2 (F := Ideal) x W j = ∑ k : Fin 2048, f k * W (ix2 k (j 1)) := by
  pointwise [k0_pay2]
  exact Finset.sum_congr rfl fun k _ => by rw [← hf k]

variable (m : (ℓ : Loc nD τ sig) → Buf (Elt Ideal) ℓ)

/-- The block of each window at a grid point. -/
theorem idx : ∀ t : Fin cfg0.N, win0_0.index t = ![t.val / 17, 0] ∧ win0_1.index t = ![0, 0]
    ∧ win0_2.index t = ![0, t.val % 17] ∧ win0_3.index t = ![t.val / 17, t.val % 17] :=
  (by decide +kernel : ∀ t : Fin grid0.N, _)

theorem read_rows (c : Dev nD) (t : Fin cfg0.N) (a : Fin 1024) (l : Fin 2048) (r : Fin 8192)
    (h : r.val = t.val / 17 * 1024 + a.val) : iblk m c 0 t (ix2 a l) = V m c main_v13 (ix2 r l) := by
  blk_simp [iblk]
  exact congrArg (V m c main_v13) (by blk_ext [idx t])

theorem read_norm (c : Dev nD) (t : Fin cfg0.N) (l : Fin 2048) :
    iblk m c 1 t (ix2 0 l) = V m c main_v15 (ix2 0 l) := by
  blk_simp [iblk]
  exact congrArg (V m c main_v15) (by blk_ext [idx t])

/-- The normalized tile, from its first point on. -/
theorem kept (c : Dev nD) (n : ℕ) (hn : n < cfg0.N) (a : Fin 1024) (k : Fin 2048) (r : Fin 8192)
    (h : r.val = n / 17 * 1024 + a.val) : (outsAt0 m c n hn).2 (ix2 a k)
      = rowNorm (fun l => V m c main_v13 (ix2 r l)) (fun l => V m c main_v15 (ix2 0 l)) k := by
  induction n with
  | zero =>
    rw [outsAt0_A m c ⟨0, hn⟩ rfl]
    frame_out
    rw [normed, funext fun l => read_rows m c ⟨0, hn⟩ a l r h, funext (read_norm m c ⟨0, hn⟩)]
  | succ n ih =>
    by_cases h0 : (n + 1) % 17 = 0
    · rw [outsAt0_A m c ⟨n + 1, hn⟩ h0]
      frame_out
      rw [normed, funext fun l => read_rows m c ⟨n + 1, hn⟩ a l r h, funext (read_norm m c ⟨n + 1, hn⟩)]
    · rw [outsAt0_B m c ⟨n + 1, hn⟩ h0]
      frame_out
      exact ih _ (by omega)

theorem read_weights (c : Dev nD) (t : Fin cfg0.N) (k : Fin 2048) (b : Fin 512) (d : Fin 8704)
    (h : d.val = t.val % 17 * 512 + b.val) : iblk m c 2 t (ix2 k b) = V m c main_v12 (ix2 k d) := by
  blk_simp [iblk]
  exact congrArg (V m c main_v12) (by blk_ext [idx t])

/-- What a grid point writes into its tile of the result. -/
theorem stored (c : Dev nD) (t : Fin cfg0.N) (y : S1024x512.Idx) (r : Fin 8192) (d : Fin 8704)
    (hr : r.val = t.val / 17 * 1024 + (y 0).val) (hd : d.val = t.val % 17 * 512 + (y 1).val) :
    (outsAt0 m c t.val t.isLt).1 y = normProduct (fun l => V m c main_v13 (ix2 r l))
      (fun l => V m c main_v15 (ix2 0 l)) (fun l => V m c main_v12 (ix2 l d)) := by
  have hw := fun k => read_weights m c t k (y 1) d hd
  by_cases h0 : t.val % 17 = 0
  · rw [outsAt0_A m c t h0]
    frame_out
    refine (product _ _ y _ fun k => ?_).trans (Finset.sum_congr rfl fun k _ => congrArg _ (hw k))
    refine (normed _ _ _ _).trans ?_
    rw [funext fun l => read_rows m c t (y 0) l r hr, funext (read_norm m c t)]
  · have hk := fun k => kept m c (t.val - 1) (by omega) (y 0) k r (by omega)
    rw [outsAt0_B m c t h0]
    frame_out
    simp only [read_unread_whole]
    exact (product _ _ y _ hk).trans (Finset.sum_congr rfl fun k _ => congrArg _ (hw k))

/-- The result array after the run, from the arrays as the grid finds them. -/
theorem final (c : Dev nD) : (dats m 0 c).arrAt 3 (cfgs 0).N
    = rowsProduct (V m c main_v13) (V m c main_v15) (V m c main_v12) := by
  refine (dats m 0 c).arrAt_eq_of_covers 3 _ (by decide +kernel) fun t _ y => ?_
  blk_simp
  rw [after0_3]
  refine stored m c t y _ _ ?_ ?_
  · blk_simp [idx t]
  · blk_simp [idx t]

theorem entry_rows (c : Dev nD) : V m c main_v13
    = shapeCast S8192x2048 (m ((c.tc : Thread nD τ).loc main_arg0)) shapeCasts_S4x2048x2048_S8192x2048 := by
  entry_read
  rfl

theorem entry_norm (c : Dev nD) : V m c main_v15 = m ((c.tc : Thread nD τ).loc main_arg1) := by
  entry_read
  funext j
  pointwise

/-- Ten blocks of columns side by side. -/
def joined (u0 : FVec Ideal S2048x4224 .f32) (u1 : FVec Ideal S2048x64 .f32) (u2 : FVec Ideal S2048x16 .f32) (u3 : FVec Ideal S2048x304 .f32) (u4 : FVec Ideal S2048x512 .f32) (u5 : FVec Ideal S2048x1024 .f32) (u6 : FVec Ideal S2048x512 .f32) (u7 : FVec Ideal S2048x512 .f32) (u8 : FVec Ideal S2048x512 .f32) (u9 : FVec Ideal S2048x1024 .f32) :
    FVec Ideal S2048x8704 .f32 :=
  concatenate S2048x8704 1 [⟨S2048x4224, u0⟩, ⟨S2048x64, u1⟩, ⟨S2048x16, u2⟩, ⟨S2048x304, u3⟩, ⟨S2048x512, u4⟩, ⟨S2048x1024, u5⟩, ⟨S2048x512, u6⟩, ⟨S2048x512, u7⟩, ⟨S2048x512, u8⟩, ⟨S2048x1024, u9⟩]
    concatenates_S2048x4224_S2048x64_S2048x16_S2048x304_S2048x512_S2048x1024_S2048x512_S2048x512_S2048x512_S2048x1024_S2048x8704_d1

/-- The projection's weights in the order of the kernel's columns. -/
def ordered (W : FVec Ideal S2048x8400 .f32) : FVec Ideal S2048x8704 .bf16 :=
  truncf (F := Ideal) .bf16 (joined
    (extractStridedSlice S2048x4224 ![0, 0] W slices_S2048x8400_S2048x4224_0_0)
    (extractStridedSlice S2048x64 ![0, 7312] W slices_S2048x8400_S2048x64_0_7312)
    (extractStridedSlice S2048x16 ![0, 7296] W slices_S2048x8400_S2048x16_0_7296)
    (broadcastInDim S2048x304 ![] bcast_S_S2048x304 (constant (F := Ideal) S_ .f32 0x00000000#32))
    (extractStridedSlice S2048x512 ![0, 4224] W slices_S2048x8400_S2048x512_0_4224)
    (extractStridedSlice S2048x1024 ![0, 6272] W slices_S2048x8400_S2048x1024_0_6272)
    (extractStridedSlice S2048x512 ![0, 4736] W slices_S2048x8400_S2048x512_0_4736)
    (extractStridedSlice S2048x512 ![0, 5248] W slices_S2048x8400_S2048x512_0_5248)
    (extractStridedSlice S2048x512 ![0, 5760] W slices_S2048x8400_S2048x512_0_5760)
    (extractStridedSlice S2048x1024 ![0, 7376] W slices_S2048x8400_S2048x1024_0_7376))
    bitsLt_bf16_f32

/-- Column `d` of the kernel is column `e` of the weights. -/
def Column (d e : ℕ) : Prop :=
  d < 4224 ∧ e = d ∨ 4224 ≤ d ∧ d < 4288 ∧ e = d + 3088 ∨ 4288 ≤ d ∧ d < 4304 ∧ e = d + 3008
    ∨ 4608 ≤ d ∧ d < 5120 ∧ d = e + 384 ∨ 5120 ≤ d ∧ d < 6144 ∧ e = d + 1152
    ∨ 6144 ≤ d ∧ d < 7680 ∧ d = e + 1408 ∨ 7680 ≤ d ∧ d = e + 304

theorem ordered_at (W : FVec Ideal S2048x8400 .f32) (l : Fin 2048) (d : Fin 8704) (e : Fin 8400)
    (h : Column d.val e.val) : ordered W (ix2 l d) = W (ix2 l e) := by
  unfold Column at h
  pointwise [ordered, joined]
  repeat' split
  all_goals first
    | (exfalso; omega)
    | exact congrArg (fun e => W (ix2 l e)) (Fin.ext (by dsimp only; omega))

/-- The columns of zeros. -/
theorem ordered_zero (W : FVec Ideal S2048x8400 .f32) (l : Fin 2048) (d : Fin 8704) (h₁ : 4304 ≤ d.val)
    (h₂ : d.val < 4608) : ordered W (ix2 l d) = (0 : EReal) := by
  pointwise [ordered, joined]
  repeat' split
  all_goals first
    | (exfalso; omega)
    | rfl

/-- Twelve ranges of columns of a row of the reference's product, and zeros among them, in the order of the kernel. -/
def picked (P : Fin 8400 → EReal) (d : Fin 8704) : EReal :=
  if h : d.val < 3200 then P ⟨d.val, by omega⟩
  else if h : d.val - 3200 < 1024 then P ⟨3200 + (d.val - 3200), by omega⟩
  else if h : d.val - 3200 - 1024 < 64 then P ⟨7312 + (d.val - 3200 - 1024), by omega⟩
  else if h : d.val - 3200 - 1024 - 64 < 16 then P ⟨7296 + (d.val - 3200 - 1024 - 64), by omega⟩
  else if h : d.val - 3200 - 1024 - 64 - 16 < 304 then 0
  else if h : d.val - 3200 - 1024 - 64 - 16 - 304 < 512 then P ⟨4224 + (d.val - 3200 - 1024 - 64 - 16 - 304), by omega⟩
  else if h : d.val - 3200 - 1024 - 64 - 16 - 304 - 512 < 1024 then
    P ⟨6272 + (d.val - 3200 - 1024 - 64 - 16 - 304 - 512), by omega⟩
  else if h : d.val - 3200 - 1024 - 64 - 16 - 304 - 512 - 1024 < 512 then
    P ⟨4736 + (d.val - 3200 - 1024 - 64 - 16 - 304 - 512 - 1024), by omega⟩
  else if h : d.val - 3200 - 1024 - 64 - 16 - 304 - 512 - 1024 - 512 < 512 then
    P ⟨5248 + (d.val - 3200 - 1024 - 64 - 16 - 304 - 512 - 1024 - 512), by omega⟩
  else if h : d.val - 3200 - 1024 - 64 - 16 - 304 - 512 - 1024 - 512 - 512 < 512 then
    P ⟨5760 + (d.val - 3200 - 1024 - 64 - 16 - 304 - 512 - 1024 - 512 - 512), by omega⟩
  else if h : d.val - 3200 - 1024 - 64 - 16 - 304 - 512 - 1024 - 512 - 512 - 512 < 512 then
    P ⟨7376 + (d.val - 3200 - 1024 - 64 - 16 - 304 - 512 - 1024 - 512 - 512 - 512), by omega⟩
  else P ⟨7888 + (d.val - 3200 - 1024 - 64 - 16 - 304 - 512 - 1024 - 512 - 512 - 512 - 512), by omega⟩

set_option maxHeartbeats 1600000 in
theorem picked_eq {P : Fin 8400 → EReal} {d : Fin 8704} {q : EReal} (hcol : ∀ e : Fin 8400, Column d.val e.val → P e = q)
    (hzero : 4304 ≤ d.val → d.val < 4608 → q = 0) : picked P d = q := by
  unfold picked
  by_cases h0 : d.val < 3200
  · rw [dif_pos h0]; exact hcol _ (by unfold Column; dsimp only; omega)
  rw [dif_neg h0]
  by_cases h1 : d.val - 3200 < 1024
  · rw [dif_pos h1]; exact hcol _ (by unfold Column; dsimp only; omega)
  rw [dif_neg h1]
  by_cases h2 : d.val - 3200 - 1024 < 64
  · rw [dif_pos h2]; exact hcol _ (by unfold Column; dsimp only; omega)
  rw [dif_neg h2]
  by_cases h3 : d.val - 3200 - 1024 - 64 < 16
  · rw [dif_pos h3]; exact hcol _ (by unfold Column; dsimp only; omega)
  rw [dif_neg h3]
  by_cases h4 : d.val - 3200 - 1024 - 64 - 16 < 304
  · rw [dif_pos h4]; exact (hzero (by omega) (by omega)).symm
  rw [dif_neg h4]
  by_cases h5 : d.val - 3200 - 1024 - 64 - 16 - 304 < 512
  · rw [dif_pos h5]; exact hcol _ (by unfold Column; dsimp only; omega)
  rw [dif_neg h5]
  by_cases h6 : d.val - 3200 - 1024 - 64 - 16 - 304 - 512 < 1024
  · rw [dif_pos h6]; exact hcol _ (by unfold Column; dsimp only; omega)
  rw [dif_neg h6]
  by_cases h7 : d.val - 3200 - 1024 - 64 - 16 - 304 - 512 - 1024 < 512
  · rw [dif_pos h7]; exact hcol _ (by unfold Column; dsimp only; omega)
  rw [dif_neg h7]
  by_cases h8 : d.val - 3200 - 1024 - 64 - 16 - 304 - 512 - 1024 - 512 < 512
  · rw [dif_pos h8]; exact hcol _ (by unfold Column; dsimp only; omega)
  rw [dif_neg h8]
  by_cases h9 : d.val - 3200 - 1024 - 64 - 16 - 304 - 512 - 1024 - 512 - 512 < 512
  · rw [dif_pos h9]; exact hcol _ (by unfold Column; dsimp only; omega)
  rw [dif_neg h9]
  by_cases h10 : d.val - 3200 - 1024 - 64 - 16 - 304 - 512 - 1024 - 512 - 512 - 512 < 512
  · rw [dif_pos h10]; exact hcol _ (by unfold Column; dsimp only; omega)
  rw [dif_neg h10]
  exact hcol _ (by unfold Column; dsimp only; omega)

/-- A row of the reference's product, its columns picked, is the row's product with the ordered weights. -/
theorem picked_product (x w : Fin 2048 → EReal) (W : FVec Ideal S2048x8400 .f32) (d : Fin 8704) :
    picked (fun e => normProduct x w fun l => W (ix2 l e)) d = normProduct x w fun l => ordered W (ix2 l d) := by
  refine picked_eq (fun e h => normProduct_congr (fun _ => rfl) (fun _ => rfl) fun l => (ordered_at W l d e h).symm)
    fun h₁ h₂ => ?_
  refine show (∑ l : Fin 2048, (rowNorm x w l * ordered W (ix2 l d) : EReal)) = 0 from Finset.sum_eq_zero fun l _ => ?_
  rw [ordered_zero W l d h₁ h₂, mul_zero]

set_option maxHeartbeats 1000000 in
theorem entry_weights (c : Dev nD) : V m c main_v12 = ordered (shapeCast S2048x8400
    (m ((c.tc : Thread nD τ).loc main_arg2)) shapeCasts_S1x2048x8400_S2048x8400) := by
  generalize hW : shapeCast S2048x8400 (m ((c.tc : Thread nD τ).loc main_arg2)) shapeCasts_S1x2048x8400_S2048x8400 = W
  unfold V
  simp only [StableHlo.after_cons, StableHlo.after_nil]
  rw [StableHlo.reshape_result_ne]; rotate_left; decide
  rw [StableHlo.reshape_result_ne]; rotate_left; decide
  rw [StableHlo.reshape_result_ne]; rotate_left; decide
  rw [StableHlo.unary_result, StableHlo.nary_result]
  generalize hF : HloOp.result _ _ = F
  have h0 : F (Proc.devRef .tc main_v1) = extractStridedSlice S2048x4224 ![0, 0] W slices_S2048x8400_S2048x4224_0_0 := by
    subst hF hW; after_results_simp; rfl
  have h1 : F (Proc.devRef .tc main_v2) = extractStridedSlice S2048x64 ![0, 7312] W slices_S2048x8400_S2048x64_0_7312 := by
    subst hF hW; after_results_simp; rfl
  have h2 : F (Proc.devRef .tc main_v3) = extractStridedSlice S2048x16 ![0, 7296] W slices_S2048x8400_S2048x16_0_7296 := by
    subst hF hW; after_results_simp; rfl
  have h3 : F (Proc.devRef .tc main_v4) = broadcastInDim S2048x304 ![] bcast_S_S2048x304 (constant (F := Ideal) S_ .f32 0x00000000#32) := by
    subst hF hW; after_results_simp
  have h4 : F (Proc.devRef .tc main_v5) = extractStridedSlice S2048x512 ![0, 4224] W slices_S2048x8400_S2048x512_0_4224 := by
    subst hF hW; after_results_simp; rfl
  have h5 : F (Proc.devRef .tc main_v6) = extractStridedSlice S2048x1024 ![0, 6272] W slices_S2048x8400_S2048x1024_0_6272 := by
    subst hF hW; after_results_simp; rfl
  have h6 : F (Proc.devRef .tc main_v7) = extractStridedSlice S2048x512 ![0, 4736] W slices_S2048x8400_S2048x512_0_4736 := by
    subst hF hW; after_results_simp; rfl
  have h7 : F (Proc.devRef .tc main_v8) = extractStridedSlice S2048x512 ![0, 5248] W slices_S2048x8400_S2048x512_0_5248 := by
    subst hF hW; after_results_simp; rfl
  have h8 : F (Proc.devRef .tc main_v9) = extractStridedSlice S2048x512 ![0, 5760] W slices_S2048x8400_S2048x512_0_5760 := by
    subst hF hW; after_results_simp; rfl
  have h9 : F (Proc.devRef .tc main_v10) = extractStridedSlice S2048x1024 ![0, 7376] W slices_S2048x8400_S2048x1024_0_7376 := by
    subst hF hW; after_results_simp; rfl
  unfold ordered
  rw [← h0, ← h1, ← h2, ← h3, ← h4, ← h5, ← h6, ← h7, ← h8, ← h9]
  rfl

end Cert.ProjectIdeal.RefValue

namespace Cert.ProjectRefIdeal.RefValue

open Cert.ProjectRefIdeal Cert.ProjectRefIdeal.Gen

/-- The reference's product, its columns in the order of the weights. -/
def product (X : FVec Ideal S4x2048x2048 .f32) (w : FVec Ideal S1x2048 .f32) (W : FVec Ideal S1x2048x8400 .f32) :
    FVec Ideal S8192x8400 .f32 :=
  shapeCast S8192x8400 (Host.dotGeneral (φ₁ := .f32) (φ₂ := .f32) dot_S4x2048x2048_S2048x8400_S4x2048x8400_2_0_01_1_n_n none
    (mulf (mulf X (broadcastInDim S4x2048x2048 ![0, 1, 2] bcast_S4x2048x1_S4x2048x2048_0_1_2
        (Host.rsqrt (addf
          (Host.divf
            (broadcastInDim S4x2048x1 ![0, 1] bcast_S4x2048_S4x2048x1_0_1
              (Host.reduceAdd (mulf X X) (constant S_ .f32 0x00000000#32) reducesTo_S4x2048x2048_S4x2048_d2 h_S_))
            (broadcastInDim S4x2048x1 ![] bcast_S_S4x2048x1 (constant S_ .f32 0x45000000#32)))
          (broadcastInDim S4x2048x1 ![] bcast_S_S4x2048x1 (constant S_ .f32 0x358637BD#32))))))
      (broadcastInDim S4x2048x2048 ![0, 1, 2] bcast_S1x1x2048_S4x2048x2048_0_1_2
        (broadcastInDim S1x1x2048 ![2] bcast_S2048_S1x1x2048_2 (shapeCast S2048 w shapeCasts_S1x2048_S2048))))
    (shapeCast S2048x8400 W shapeCasts_S1x2048x8400_S2048x8400)) shapeCasts_S4x2048x8400_S8192x8400

/-- The reference, operation by operation. -/
abbrev result (X : FVec Ideal S4x2048x2048 .f32) (w : FVec Ideal S1x2048 .f32) (W : FVec Ideal S1x2048x8400 .f32) :
    FVec Ideal S8192x8704 .f32 :=
  concatenate S8192x8704 1
    [⟨S8192x3200, extractStridedSlice S8192x3200 ![0, 0] (product X w W) slices_S8192x8400_S8192x3200_0_0⟩,
      ⟨S8192x1024, extractStridedSlice S8192x1024 ![0, 3200] (product X w W) slices_S8192x8400_S8192x1024_0_3200⟩,
      ⟨S8192x64, extractStridedSlice S8192x64 ![0, 7312] (product X w W) slices_S8192x8400_S8192x64_0_7312⟩,
      ⟨S8192x16, extractStridedSlice S8192x16 ![0, 7296] (product X w W) slices_S8192x8400_S8192x16_0_7296⟩,
      ⟨S8192x304, broadcastInDim S8192x304 ![] bcast_S_S8192x304 (constant (F := Ideal) S_ .f32 0x00000000#32)⟩,
      ⟨S8192x512, extractStridedSlice S8192x512 ![0, 4224] (product X w W) slices_S8192x8400_S8192x512_0_4224⟩,
      ⟨S8192x1024, extractStridedSlice S8192x1024 ![0, 6272] (product X w W) slices_S8192x8400_S8192x1024_0_6272⟩,
      ⟨S8192x512, extractStridedSlice S8192x512 ![0, 4736] (product X w W) slices_S8192x8400_S8192x512_0_4736⟩,
      ⟨S8192x512, extractStridedSlice S8192x512 ![0, 5248] (product X w W) slices_S8192x8400_S8192x512_0_5248⟩,
      ⟨S8192x512, extractStridedSlice S8192x512 ![0, 5760] (product X w W) slices_S8192x8400_S8192x512_0_5760⟩,
      ⟨S8192x512, extractStridedSlice S8192x512 ![0, 7376] (product X w W) slices_S8192x8400_S8192x512_0_7376⟩,
      ⟨S8192x512, extractStridedSlice S8192x512 ![0, 7888] (product X w W) slices_S8192x8400_S8192x512_0_7888⟩]
    concatenates_S8192x3200_S8192x1024_S8192x64_S8192x16_S8192x304_S8192x512_S8192x1024_S8192x512_S8192x512_S8192x512_S8192x512_S8192x512_S8192x8704_d1

open Cert.ProjectIdeal.RefValue Cert.RowNorm in
theorem product_eq (X : FVec Ideal S4x2048x2048 .f32) (w : FVec Ideal S1x2048 .f32) (W : FVec Ideal S1x2048x8400 .f32)
    (r : Fin 8192) (d : Fin 8400) : product X w W (ix2 r d)
      = normProduct (fun l => shapeCast Cert.ProjectIdeal.S8192x2048 X Cert.ProjectIdeal.Gen.shapeCasts_S4x2048x2048_S8192x2048 (ix2 r l))
        (fun l => w (ix2 0 l))
        (fun l => shapeCast S2048x8400 W Cert.ProjectIdeal.Gen.shapeCasts_S1x2048x8400_S2048x8400 (ix2 l d)) := by
  pointwise [product, normProduct, rowNorm]

open Cert.ProjectIdeal.RefValue Cert.RowNorm in
set_option maxHeartbeats 1600000 in
theorem result_eq (X : FVec Ideal S4x2048x2048 .f32) (w : FVec Ideal S1x2048 .f32) (W : FVec Ideal S1x2048x8400 .f32) :
    result X w W = rowsProduct (shapeCast Cert.ProjectIdeal.S8192x2048 X Cert.ProjectIdeal.Gen.shapeCasts_S4x2048x2048_S8192x2048) w
      (ordered (shapeCast S2048x8400 W Cert.ProjectIdeal.Gen.shapeCasts_S1x2048x8400_S2048x8400)) := by
  funext j
  idx_vars j
  unfold rowsProduct
  generalize hX : shapeCast Cert.ProjectIdeal.S8192x2048 X Cert.ProjectIdeal.Gen.shapeCasts_S4x2048x2048_S8192x2048 = X'
  generalize hW : shapeCast S2048x8400 W Cert.ProjectIdeal.Gen.shapeCasts_S1x2048x8400_S2048x8400 = W'
  pointwise [result]
  simp only [product_eq, hX, hW]
  exact picked_product _ _ W' j1

end Cert.ProjectRefIdeal.RefValue

namespace Cert.Proof.ProjectClaims

open Cert.ProjectIdeal.RefValue

theorem preserves : Cert.preserves_Project_ProjectIdeal := trivial

/-- The kernel's result is the reference's over the reals. -/
theorem algebraic : Cert.algebraic_ProjectIdeal_ProjectRefIdeal := by
  intro m ρ m' ρ' _ hagree
  refine ⟨fun c => (Cert.ProjectIdeal.Gen.dats m 0 c).arrAt 3 (Cert.ProjectIdeal.cfgs 0).N,
    Cert.ProjectIdeal.Value.run_blocks m ρ, ?_⟩
  refine (θ_run Cert.ProjectRefIdeal.defs _ _).mono (fun _ h c => ⟨(h c).1.trans ?_, (h c).2⟩)
    (Cert.ProjectRefIdeal.Value.run (F := Ideal) m' ρ')
  refine Eq.trans ?_ (final m c).symm
  clear h
  rw [entry_rows, entry_norm, entry_weights, ← (hagree c).1, ← (hagree c).2.1, ← (hagree c).2.2]
  refine Eq.trans ?_ (Cert.ProjectRefIdeal.RefValue.result_eq _ _ _)
  rfl

end Cert.Proof.ProjectClaims
-- ==== Proof.ProjectSample.lean ====
/-
  The input projection of the sample group: the prompt's over 256 rows, padded from four to eight a sequence, in four tiles
  of columns. The order of the columns is the prompt's, and so are the weights.
-/
module

public import proofs.«01_k».proof.Proof.Project
public import proofs.«01_k».proof.Proof.Gen.ProjectSampleIdeal.Value
public import proofs.«01_k».proof.Proof.Gen.ProjectSampleRefIdeal.Run
public import Idealize.ShloMosaic.Lib.Pipeline.ValueKit
public import Idealize.ShloMosaic.Lib.Pipeline.ReadBack
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.ProjectSampleIdeal.RefValue

open Cert.ProjectSampleIdeal Cert.ProjectSampleIdeal.Gen Cert.RowNorm
open Cert.ProjectIdeal.RefValue (ordered joined picked picked_product)

/-- Every row of `X` normalized, times the weights `W`. -/
def rowsProduct (X : FVec Ideal S256x2048 .f32) (w : FVec Ideal S1x2048 .f32)
    (W : FVec Ideal S2048x8704 .bf16) : FVec Ideal S256x8704 .f32 := fun i =>
  normProduct (fun l => X (ix2 (i 0) l)) (fun l => w (ix2 0 l)) (fun l => W (ix2 l (i 1)))

/-- The normalized tile of rows. -/
theorem normed (x : FVec Ideal S256x2048 .f32) (w : FVec Ideal S1x2048 .f32) (a : Fin 256) (k : Fin 2048) :
    k0_pay1 (F := Ideal) x w (ix2 a k) = rowNorm (fun l => x (ix2 a l)) (fun l => w (ix2 0 l)) k := by
  pointwise [k0_pay1, rowNorm]

/-- The product of a tile of rows with a tile of columns. -/
theorem product (x : FVec Ideal S256x2048 .bf16) (W : FVec Ideal S2048x2176 .bf16) (j : S256x2176.Idx)
    (f : Fin 2048 → EReal) (hf : ∀ k, x (ix2 (j 0) k) = f k) :
    k0_pay2 (F := Ideal) x W j = ∑ k : Fin 2048, f k * W (ix2 k (j 1)) := by
  pointwise [k0_pay2]
  exact Finset.sum_congr rfl fun k _ => by rw [← hf k]

variable (m : (ℓ : Loc nD τ sig) → Buf (Elt Ideal) ℓ)

/-- The block of each window at a grid point. -/
theorem idx : ∀ t : Fin cfg0.N, win0_0.index t = ![t.val / 4, 0] ∧ win0_1.index t = ![0, 0]
    ∧ win0_2.index t = ![0, t.val % 4] ∧ win0_3.index t = ![t.val / 4, t.val % 4] :=
  (by decide +kernel : ∀ t : Fin grid0.N, _)

theorem read_rows (c : Dev nD) (t : Fin cfg0.N) (a : Fin 256) (l : Fin 2048) (r : Fin 256)
    (h : r.val = t.val / 4 * 256 + a.val) : iblk m c 0 t (ix2 a l) = V m c main_v14 (ix2 r l) := by
  blk_simp [iblk]
  exact congrArg (V m c main_v14) (by blk_ext [idx t])

theorem read_norm (c : Dev nD) (t : Fin cfg0.N) (l : Fin 2048) :
    iblk m c 1 t (ix2 0 l) = V m c main_v16 (ix2 0 l) := by
  blk_simp [iblk]
  exact congrArg (V m c main_v16) (by blk_ext [idx t])

/-- The normalized tile, from its first point on. -/
theorem kept (c : Dev nD) (n : ℕ) (hn : n < cfg0.N) (a : Fin 256) (k : Fin 2048) (r : Fin 256)
    (h : r.val = n / 4 * 256 + a.val) : (outsAt0 m c n hn).2 (ix2 a k)
      = rowNorm (fun l => V m c main_v14 (ix2 r l)) (fun l => V m c main_v16 (ix2 0 l)) k := by
  induction n with
  | zero =>
    rw [outsAt0_A m c ⟨0, hn⟩ rfl]
    frame_out
    rw [normed, funext fun l => read_rows m c ⟨0, hn⟩ a l r h, funext (read_norm m c ⟨0, hn⟩)]
  | succ n ih =>
    by_cases h0 : (n + 1) % 4 = 0
    · rw [outsAt0_A m c ⟨n + 1, hn⟩ h0]
      frame_out
      rw [normed, funext fun l => read_rows m c ⟨n + 1, hn⟩ a l r h, funext (read_norm m c ⟨n + 1, hn⟩)]
    · rw [outsAt0_B m c ⟨n + 1, hn⟩ h0]
      frame_out
      exact ih _ (by omega)

theorem read_weights (c : Dev nD) (t : Fin cfg0.N) (k : Fin 2048) (b : Fin 2176) (d : Fin 8704)
    (h : d.val = t.val % 4 * 2176 + b.val) : iblk m c 2 t (ix2 k b) = V m c main_v12 (ix2 k d) := by
  blk_simp [iblk]
  exact congrArg (V m c main_v12) (by blk_ext [idx t])

/-- What a grid point writes into its tile of the result. -/
theorem stored (c : Dev nD) (t : Fin cfg0.N) (y : S256x2176.Idx) (r : Fin 256) (d : Fin 8704)
    (hr : r.val = t.val / 4 * 256 + (y 0).val) (hd : d.val = t.val % 4 * 2176 + (y 1).val) :
    (outsAt0 m c t.val t.isLt).1 y = normProduct (fun l => V m c main_v14 (ix2 r l))
      (fun l => V m c main_v16 (ix2 0 l)) (fun l => V m c main_v12 (ix2 l d)) := by
  have hw := fun k => read_weights m c t k (y 1) d hd
  by_cases h0 : t.val % 4 = 0
  · rw [outsAt0_A m c t h0]
    frame_out
    refine (product _ _ y _ fun k => ?_).trans (Finset.sum_congr rfl fun k _ => congrArg _ (hw k))
    refine (normed _ _ _ _).trans ?_
    rw [funext fun l => read_rows m c t (y 0) l r hr, funext (read_norm m c t)]
  · have hk := fun k => kept m c (t.val - 1) (by omega) (y 0) k r (by omega)
    rw [outsAt0_B m c t h0]
    frame_out
    simp only [read_unread_whole]
    exact (product _ _ y _ hk).trans (Finset.sum_congr rfl fun k _ => congrArg _ (hw k))

/-- The result array after the run, from the arrays as the grid finds them. -/
theorem final (c : Dev nD) : (dats m 0 c).arrAt 3 (cfgs 0).N
    = rowsProduct (V m c main_v14) (V m c main_v16) (V m c main_v12) := by
  refine (dats m 0 c).arrAt_eq_of_covers 3 _ (by decide +kernel) fun t _ y => ?_
  blk_simp
  rw [after0_3]
  refine stored m c t y _ _ ?_ ?_
  · blk_simp [idx t]
  · blk_simp [idx t]

/-- The sequences padded from four rows to eight, one under the other. -/
def padded (X : FVec Ideal S32x4x2048 .f32) : FVec Ideal S256x2048 .f32 :=
  shapeCast S256x2048 (pad S32x8x2048 ![0, 0, 0] ![0, 4, 0] ![0, 0, 0] X (sitofp (F := Ideal) .f32 (constantI S_ 32 0#32))
    pads_S32x4x2048_S32x8x2048_000_040_000 h_S_) shapeCasts_S32x8x2048_S256x2048

theorem entry_rows (c : Dev nD) : V m c main_v14 = padded (m ((c.tc : Thread nD τ).loc main_arg0)) := by
  entry_read
  rfl

theorem entry_norm (c : Dev nD) : V m c main_v16 = m ((c.tc : Thread nD τ).loc main_arg1) := by
  refine Eq.trans (show _ = shapeCast S1x2048 (shapeCast S2048 (m ((c.tc : Thread nD τ).loc main_arg1))
    shapeCasts_S1x2048_S2048) shapeCasts_S2048_S1x2048 from ?_) ?_
  · entry_read
    rfl
  · funext j
    pointwise

set_option maxHeartbeats 1000000 in
theorem entry_weights (c : Dev nD) : V m c main_v12 = ordered (shapeCast S2048x8400
    (m ((c.tc : Thread nD τ).loc main_arg2)) shapeCasts_S1x2048x8400_S2048x8400) := by
  generalize hW : shapeCast S2048x8400 (m ((c.tc : Thread nD τ).loc main_arg2)) shapeCasts_S1x2048x8400_S2048x8400 = W
  unfold V
  simp only [hostOps0, hostOps0_1, hostOps0_2, List.flatten_cons, List.flatten_nil, List.append_nil, List.cons_append, List.nil_append, StableHlo.after_cons, StableHlo.after_nil]
  iterate 3 (rw [StableHlo.reshape_result_ne]; rotate_left; decide)
  rw [StableHlo.binary_result_ne]; rotate_left; decide
  rw [StableHlo.unary_result_ne]; rotate_left; decide
  rw [StableHlo.nullary_result_ne]; rotate_left; decide
  rw [StableHlo.unary_result, StableHlo.nary_result]
  generalize hF : HloOp.result _ _ = F
  unfold ordered
  refine congrArg (fun u => truncf (F := Ideal) .bf16 u _) (show joined (F (Proc.devRef .tc main_v1))
    (F (Proc.devRef .tc main_v2)) (F (Proc.devRef .tc main_v3)) (F (Proc.devRef .tc main_v4)) (F (Proc.devRef .tc main_v5))
    (F (Proc.devRef .tc main_v6)) (F (Proc.devRef .tc main_v7)) (F (Proc.devRef .tc main_v8)) (F (Proc.devRef .tc main_v9))
    (F (Proc.devRef .tc main_v10)) = _ from ?_)
  congr 1
  all_goals
    subst hF hW
    after_results_simp
    try rfl

end Cert.ProjectSampleIdeal.RefValue

namespace Cert.ProjectSampleRefIdeal.RefValue

open Cert.ProjectSampleRefIdeal Cert.ProjectSampleRefIdeal.Gen

/-- The reference's product of its padded rows, its columns in the order of the weights. -/
def product (X : FVec Ideal S256x2048 .f32) (w : FVec Ideal S1x2048 .f32) (W : FVec Ideal S1x2048x8400 .f32) :
    FVec Ideal S256x8400 .f32 :=
  Host.dotGeneral (φ₁ := .f32) (φ₂ := .f32) dot_S256x2048_S2048x8400_S256x8400_1_0_0_1_n_n none
    (mulf (mulf X (broadcastInDim S256x2048 ![0, 1] bcast_S256x1_S256x2048_0_1
        (Host.rsqrt (addf
          (Host.divf
            (broadcastInDim S256x1 ![0] bcast_S256_S256x1_0
              (Host.reduceAdd (mulf X X) (constant S_ .f32 0x00000000#32) reducesTo_S256x2048_S256_d1 h_S_))
            (broadcastInDim S256x1 ![] bcast_S_S256x1 (constant S_ .f32 0x45000000#32)))
          (broadcastInDim S256x1 ![] bcast_S_S256x1 (constant S_ .f32 0x358637BD#32))))))
      (broadcastInDim S256x2048 ![0, 1] bcast_S1x2048_S256x2048_0_1
        (broadcastInDim S1x2048 ![1] bcast_S2048_S1x2048_1 (shapeCast S2048 w shapeCasts_S1x2048_S2048))))
    (shapeCast S2048x8400 W shapeCasts_S1x2048x8400_S2048x8400)

/-- The reference, operation by operation. -/
abbrev result (X : FVec Ideal S256x2048 .f32) (w : FVec Ideal S1x2048 .f32) (W : FVec Ideal S1x2048x8400 .f32) :
    FVec Ideal S256x8704 .f32 :=
  concatenate S256x8704 1
    [⟨S256x3200, extractStridedSlice S256x3200 ![0, 0] (product X w W) slices_S256x8400_S256x3200_0_0⟩,
      ⟨S256x1024, extractStridedSlice S256x1024 ![0, 3200] (product X w W) slices_S256x8400_S256x1024_0_3200⟩,
      ⟨S256x64, extractStridedSlice S256x64 ![0, 7312] (product X w W) slices_S256x8400_S256x64_0_7312⟩,
      ⟨S256x16, extractStridedSlice S256x16 ![0, 7296] (product X w W) slices_S256x8400_S256x16_0_7296⟩,
      ⟨S256x304, broadcastInDim S256x304 ![] bcast_S_S256x304 (constant (F := Ideal) S_ .f32 0x00000000#32)⟩,
      ⟨S256x512, extractStridedSlice S256x512 ![0, 4224] (product X w W) slices_S256x8400_S256x512_0_4224⟩,
      ⟨S256x1024, extractStridedSlice S256x1024 ![0, 6272] (product X w W) slices_S256x8400_S256x1024_0_6272⟩,
      ⟨S256x512, extractStridedSlice S256x512 ![0, 4736] (product X w W) slices_S256x8400_S256x512_0_4736⟩,
      ⟨S256x512, extractStridedSlice S256x512 ![0, 5248] (product X w W) slices_S256x8400_S256x512_0_5248⟩,
      ⟨S256x512, extractStridedSlice S256x512 ![0, 5760] (product X w W) slices_S256x8400_S256x512_0_5760⟩,
      ⟨S256x512, extractStridedSlice S256x512 ![0, 7376] (product X w W) slices_S256x8400_S256x512_0_7376⟩,
      ⟨S256x512, extractStridedSlice S256x512 ![0, 7888] (product X w W) slices_S256x8400_S256x512_0_7888⟩]
    concatenates_S256x3200_S256x1024_S256x64_S256x16_S256x304_S256x512_S256x1024_S256x512_S256x512_S256x512_S256x512_S256x512_S256x8704_d1

open Cert.RowNorm Cert.ProjectSampleIdeal.RefValue
open Cert.ProjectIdeal.RefValue (ordered joined picked picked_product)

theorem product_eq (X : FVec Ideal S256x2048 .f32) (w : FVec Ideal S1x2048 .f32) (W : FVec Ideal S1x2048x8400 .f32)
    (r : Fin 256) (d : Fin 8400) : product X w W (ix2 r d)
      = normProduct (fun l => X (ix2 r l)) (fun l => w (ix2 0 l))
        (fun l => shapeCast S2048x8400 W Cert.ProjectSampleIdeal.Gen.shapeCasts_S1x2048x8400_S2048x8400 (ix2 l d)) := by
  pointwise [product, normProduct, rowNorm]

set_option maxHeartbeats 1600000 in
theorem result_eq (X : FVec Ideal S256x2048 .f32) (w : FVec Ideal S1x2048 .f32) (W : FVec Ideal S1x2048x8400 .f32) :
    result X w W = rowsProduct X w
      (ordered (shapeCast S2048x8400 W Cert.ProjectSampleIdeal.Gen.shapeCasts_S1x2048x8400_S2048x8400)) := by
  funext j
  idx_vars j
  unfold rowsProduct
  generalize hW : shapeCast S2048x8400 W Cert.ProjectSampleIdeal.Gen.shapeCasts_S1x2048x8400_S2048x8400 = W'
  pointwise [result]
  simp only [product_eq, hW]
  exact picked_product _ _ W' j1

end Cert.ProjectSampleRefIdeal.RefValue

namespace Cert.Proof.ProjectSampleClaims

open Cert.ProjectSampleIdeal.RefValue

theorem preserves : Cert.preserves_ProjectSample_ProjectSampleIdeal := trivial

/-- The kernel's result is the reference's over the reals. -/
theorem algebraic : Cert.algebraic_ProjectSampleIdeal_ProjectSampleRefIdeal := by
  intro m ρ m' ρ' _ hagree
  refine ⟨fun c => (Cert.ProjectSampleIdeal.Gen.dats m 0 c).arrAt 3 (Cert.ProjectSampleIdeal.cfgs 0).N,
    Cert.ProjectSampleIdeal.Value.run_blocks m ρ, ?_⟩
  refine (θ_run Cert.ProjectSampleRefIdeal.defs _ _).mono (fun _ h c => ⟨(h c).1.trans ?_, (h c).2⟩)
    (Cert.ProjectSampleRefIdeal.Value.run (F := Ideal) m' ρ')
  refine Eq.trans ?_ (final m c).symm
  clear h
  rw [entry_rows, entry_norm, entry_weights, ← (hagree c).1, ← (hagree c).2.1, ← (hagree c).2.2]
  refine Eq.trans ?_ (Cert.ProjectSampleRefIdeal.RefValue.result_eq _ _ _)
  rfl

end Cert.Proof.ProjectSampleClaims
-- ==== Proof.OutProjSample.lean ====
/-
  The output projection of the sample group: the prompt's over 256 rows, which one grid point computes whole. The rows of
  the input are padded from four to eight a sequence.
-/
module

public import proofs.«01_k».proof.Proof.OutProj
public import proofs.«01_k».proof.Proof.Gen.OutProjSampleIdeal.Value
public import proofs.«01_k».proof.Proof.Gen.OutProjSampleRefIdeal.Run
public import Idealize.ShloMosaic.Lib.Pipeline.ValueKit
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.OutProjSampleIdeal.RefValue

open Cert.OutProjSampleIdeal Cert.OutProjSampleIdeal.Gen Cert.RowNorm
open Cert.OutProjIdeal.RefValue (mixed outRow outRow_congr)

/-- The whole result. -/
def mixedRows (R : FVec Ideal S256x1024 .bf16) (A B : FVec Ideal S256x512 .bf16) (X : FVec Ideal S256x2048 .f32)
    (W : FVec Ideal S2048x2048 .bf16) (w : FVec Ideal S1x2048 .f32) : FVec Ideal S256x2048 .f32 := fun i =>
  outRow (fun k => R (ix2 (i 0) k)) (fun k => A (ix2 (i 0) k)) (fun k => B (ix2 (i 0) k)) (fun k => X (ix2 (i 0) k))
    (fun k l => W (ix2 k l)) (fun l => w (ix2 0 l)) (i 1)

/-- What the grid point computes from its blocks. -/
theorem payload (R : FVec Ideal S256x1024 .bf16) (A B : FVec Ideal S256x512 .bf16) (X : FVec Ideal S256x2048 .f32)
    (W : FVec Ideal S2048x2048 .bf16) (w : FVec Ideal S1x2048 .f32) (j : S256x2048.Idx) :
    out0_6 (F := Ideal) R A B X W w j = mixedRows R A B X W w j := by
  frame_out
  pointwise [k0_pay1, mixedRows, outRow, rowNorm, mixed]

variable (m : (ℓ : Loc nD τ sig) → Buf (Elt Ideal) ℓ)

/-- The block of each window at the grid point. -/
theorem idx : ∀ t : Fin cfg0.N, win0_0.index t = ![0, 0] ∧ win0_1.index t = ![0, 0]
    ∧ win0_2.index t = ![0, 0] ∧ win0_3.index t = ![0, 0] ∧ win0_4.index t = ![0, 0]
    ∧ win0_5.index t = ![0, 0] ∧ win0_6.index t = ![0, 0] :=
  (by decide +kernel : ∀ t : Fin grid0.N, _)

/-- The result array after the run, from the arrays as the grid finds them. -/
theorem final (c : Dev nD) : (dats m 0 c).arrAt 6 (cfgs 0).N
    = mixedRows (V m c main_arg0) (V m c main_arg1) (V m c main_arg2) (V m c main_v3) (V m c main_v1)
        (V m c main_v4) := by
  refine (dats m 0 c).arrAt_eq_of_covers 6 _ (by decide +kernel) fun t _ y => ?_
  blk_simp
  rw [after0_6, payload]
  unfold mixedRows
  refine outRow_congr (fun k => ?_) (fun k => ?_) (fun k => ?_) (fun k => ?_) (fun k l => ?_) (fun k => ?_) ?_
  · blk_simp [iblk]
    exact congrArg (V m c main_arg0) (by blk_ext [idx t])
  · blk_simp [iblk]
    exact congrArg (V m c main_arg1) (by blk_ext [idx t])
  · blk_simp [iblk]
    exact congrArg (V m c main_arg2) (by blk_ext [idx t])
  · blk_simp [iblk]
    exact congrArg (V m c main_v3) (by blk_ext [idx t])
  · blk_simp [iblk]
    exact congrArg (V m c main_v1) (by blk_ext [idx t])
  · blk_simp [iblk]
    exact congrArg (V m c main_v4) (by blk_ext [idx t])
  · refine Fin.ext ?_
    blk_simp [idx t]

/-- The sequences padded from four rows to eight, one under the other. -/
def padded (X : FVec Ideal S32x4x2048 .f32) : FVec Ideal S256x2048 .f32 :=
  shapeCast S256x2048 (pad S32x8x2048 ![0, 0, 0] ![0, 4, 0] ![0, 0, 0] X (sitofp (F := Ideal) .f32 (constantI S_ 32 0#32))
    pads_S32x4x2048_S32x8x2048_000_040_000 h_S_) shapeCasts_S32x8x2048_S256x2048

theorem entry_input (c : Dev nD) : V m c main_v3 = padded (m ((c : Thread nD τ).loc main_arg3)) := by
  entry_read; rfl

theorem entry_norm (c : Dev nD) : V m c main_v4 = shapeCast S1x2048 (m ((c : Thread nD τ).loc main_arg5))
    shapeCasts_S2048_S1x2048 := by
  entry_read; rfl

theorem entry_weights (c : Dev nD) : V m c main_v1 = truncf (F := Ideal) .bf16 (shapeCast S2048x2048
    (m ((c : Thread nD τ).loc main_arg4)) shapeCasts_S1x2048x2048_S2048x2048) bitsLt_bf16_f32 := by
  entry_read; rfl

end Cert.OutProjSampleIdeal.RefValue

namespace Cert.OutProjSampleRefIdeal.RefValue

open Cert.OutProjSampleRefIdeal Cert.OutProjSampleRefIdeal.Gen

/-- The reference before its norm. -/
def summed (R : FVec Ideal S256x1024 .bf16) (A B : FVec Ideal S256x512 .bf16) (X : FVec Ideal S256x2048 .f32)
    (W : FVec Ideal S1x2048x2048 .f32) : FVec Ideal S256x2048 .f32 :=
  addf X
    (Host.dotGeneral (φ₁ := .f32) (φ₂ := .f32) dot_S256x2048_S2048x2048_S256x2048_1_0_0_1_n_n none
      (concatenate S256x2048 1 [⟨S256x1024, extf (F := Ideal) .f32 R bitsLt_bf16_f32⟩,
        ⟨S256x512, extf (F := Ideal) .f32 A bitsLt_bf16_f32⟩, ⟨S256x512, extf (F := Ideal) .f32 B bitsLt_bf16_f32⟩]
        concatenates_S256x1024_S256x512_S256x512_S256x2048_d1)
      (shapeCast S2048x2048 W shapeCasts_S1x2048x2048_S2048x2048))

/-- The reference from its padded rows on, operation by operation. -/
abbrev result (R : FVec Ideal S256x1024 .bf16) (A B : FVec Ideal S256x512 .bf16) (X : FVec Ideal S256x2048 .f32)
    (W : FVec Ideal S1x2048x2048 .f32) (w : FVec Ideal S2048 .f32) : FVec Ideal S256x2048 .f32 :=
  mulf (mulf (summed R A B X W) (broadcastInDim S256x2048 ![0, 1] bcast_S256x1_S256x2048_0_1
      (Host.rsqrt (addf
        (Host.divf
          (broadcastInDim S256x1 ![0] bcast_S256_S256x1_0
            (Host.reduceAdd (mulf (summed R A B X W) (summed R A B X W)) (constant S_ .f32 0x00000000#32)
              reducesTo_S256x2048_S256_d1 h_S_))
          (broadcastInDim S256x1 ![] bcast_S_S256x1 (constant S_ .f32 0x45000000#32)))
        (broadcastInDim S256x1 ![] bcast_S_S256x1 (constant S_ .f32 0x358637BD#32))))))
    (broadcastInDim S256x2048 ![0, 1] bcast_S1x2048_S256x2048_0_1
      (broadcastInDim S1x2048 ![1] bcast_S2048_S1x2048_1 w))

open Cert.RowNorm
open Cert.OutProjIdeal.RefValue (mixed outRow outRow_congr)
open Cert.OutProjSampleIdeal.RefValue

theorem summed_eq (R : FVec Ideal S256x1024 .bf16) (A B : FVec Ideal S256x512 .bf16) (X : FVec Ideal S256x2048 .f32)
    (W : FVec Ideal S1x2048x2048 .f32) (j : S256x2048.Idx) :
    summed R A B X W j = mixed (fun k => R (ix2 (j 0) k)) (fun k => A (ix2 (j 0) k)) (fun k => B (ix2 (j 0) k)) (X j)
      (fun k => (shapeCast S2048x2048 W shapeCasts_S1x2048x2048_S2048x2048 : FVec Ideal S2048x2048 .f32) (ix2 k (j 1))) := by
  pointwise [summed, mixed, sumSplitAll]
  simp only [← add_assoc, Nat.reduceAdd]

theorem result_eq (R : FVec Ideal S256x1024 .bf16) (A B : FVec Ideal S256x512 .bf16) (X : FVec Ideal S256x2048 .f32)
    (W : FVec Ideal S1x2048x2048 .f32) (w : FVec Ideal S2048 .f32) :
    result R A B X W w = mixedRows R A B X
      (truncf .bf16 (shapeCast _ W Cert.OutProjSampleIdeal.Gen.shapeCasts_S1x2048x2048_S2048x2048)
        Cert.OutProjSampleIdeal.Gen.bitsLt_bf16_f32)
      (shapeCast _ w Cert.OutProjSampleIdeal.Gen.shapeCasts_S2048_S1x2048) := by
  funext j
  pointwise [result]
  simp only [summed_eq]
  pointwise [mixedRows, outRow, rowNorm]

end Cert.OutProjSampleRefIdeal.RefValue

namespace Cert.Proof.OutProjSampleClaims

open Cert.OutProjSampleIdeal.RefValue

theorem preserves : Cert.preserves_OutProjSample_OutProjSampleIdeal := trivial

/-- The kernel's result is the reference's over the reals. -/
theorem algebraic : Cert.algebraic_OutProjSampleIdeal_OutProjSampleRefIdeal := by
  intro m ρ m' ρ' _ hagree
  refine ⟨fun c => (Cert.OutProjSampleIdeal.Gen.dats m 0 c).arrAt 6 (Cert.OutProjSampleIdeal.cfgs 0).N,
    Cert.OutProjSampleIdeal.Value.run_blocks m ρ, ?_⟩
  refine (θ_run Cert.OutProjSampleRefIdeal.defs _ _).mono (fun _ h c => ⟨(h c).1.trans ?_, (h c).2⟩)
    (Cert.OutProjSampleRefIdeal.Value.run (F := Ideal) m' ρ')
  refine Eq.trans ?_ (final m c).symm
  clear h
  rw [entry_input, entry_norm, entry_weights, (hagree c).1, (hagree c).2.1, (hagree c).2.2.1, (hagree c).2.2.2.1,
    (hagree c).2.2.2.2.1, (hagree c).2.2.2.2.2]
  exact Cert.OutProjSampleRefIdeal.RefValue.result_eq _ _ _ _ _ _

end Cert.Proof.OutProjSampleClaims
-- ==== Proof.RopeSample.lean ====
/-
  The rotary embedding of the sample group's keys, values and indexer's keys: one grid point turns all 256 rows by tables
  of eight positions, one after the other for the 32 sequences. Each head is a range of 128 columns of the result.
-/
module

public import proofs.«01_k».proof.Proof.Rope
public import proofs.«01_k».proof.Proof.Gen.RopeSampleIdeal.Value
public import proofs.«01_k».proof.Proof.Gen.RopeSampleRefIdeal.Run
public import Idealize.ShloMosaic.Lib.Pipeline.ValueKit
public import Idealize.ShloMosaic.Lib.Pipeline.ReadBack
public import Idealize.ShloMosaic.Lib.WritesUnit
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.RopeSampleIdeal.Rotary

open Cert.RopeSampleIdeal Cert.RopeSampleIdeal.Gen
open Cert.RopeIdeal.Rotary (sum_congr)

variable (m : (ℓ : Loc nD τ sig) → Buf (Elt Ideal) ℓ)

/-- The block of each window at the grid point. -/
theorem idx : ∀ t : Fin cfg0.N, win0_2.index t = ![0, 12] ∧ win0_3.index t = ![0, 13]
    ∧ win0_4.index t = ![0, 33] ∧ win0_5.index t = ![0, 0] ∧ win0_6.index t = ![0, 0]
    ∧ win0_7.index t = ![0, 0] ∧ win0_8.index t = ![0, 0]
    ∧ win0_11.index t = ![0, 0] ∧ win0_13.index t = ![0, 0] ∧ win0_15.index t = ![0, 0] :=
  (by decide +kernel : ∀ t : Fin grid0.N, _)

/-- The lane of the other half, in a width of 128 and in a width of 64. -/
def across (d : Fin 512) : Fin 512 := ⟨d.val / 128 * 128 + (d.val % 128 + 128 - 64) % 128, by omega⟩

def acrossSlab (d : Fin 64) : Fin 64 := ⟨if d.val < 32 then d.val + 32 else d.val - 32, by split <;> omega⟩

/-- The lane of a column of the heads. -/
def lane (d : Fin 512) : Fin 128 := ⟨d.val % 128, by omega⟩

def wide (d : Fin 64) : Fin 128 := ⟨d.val, by omega⟩

/-- The slab of the rows turned by the tables. -/
theorem turned_slab (c s x : FVec Ideal S256x128 .f32) (r : Fin 256) (d : Fin 64) :
    k0_pay48 (F := Ideal) c s x (ix2 r d)
      = x (ix2 r (wide d)) * c (ix2 r (wide d)) + x (ix2 r (wide (acrossSlab d))) * s (ix2 r (wide d)) := by
  have hsel : ∀ d : Fin 64, IntOp.cmpi CmpIPredicate.slt (IntOp.andi (BitVec.ofNat 32 d.val) 63#32) 32#32
      = if d.val < 32 then 1#1 else 0#1 := by decide
  unfold wide acrossSlab
  pointwise [k0_pay48]
  rw [hsel d]
  by_cases h : d.val < 32
  · simp only [if_pos h]
    refine congrArg (fun e => x (ix2 r ⟨d.val, _⟩) * c (ix2 r ⟨d.val, _⟩) + x (ix2 r e) * s (ix2 r ⟨d.val, _⟩)) (Fin.ext ?_)
    show (d.val + 128 - 96) % 128 = d.val + 32
    omega
  · simp only [if_neg h]
    refine congrArg (fun e => x (ix2 r ⟨d.val, _⟩) * c (ix2 r ⟨d.val, _⟩) + x (ix2 r e) * s (ix2 r ⟨d.val, _⟩)) (Fin.ext ?_)
    show (d.val + 128 - 32) % 128 = d.val - 32
    omega

/-- Four stores, one for each head, that fill the block. -/
theorem four {e : EltTy} (G : Vec Ideal S256x512 e) (P0 P1 P2 P3 : Vec Ideal S256x128 e)
    (h0 : ∀ (r : Fin 256) (d : Fin 128), P0 (ix2 r d) = G (ix2 r ⟨0 + d.val, by omega⟩))
    (h1 : ∀ (r : Fin 256) (d : Fin 128), P1 (ix2 r d) = G (ix2 r ⟨128 + d.val, by omega⟩))
    (h2 : ∀ (r : Fin 256) (d : Fin 128), P2 (ix2 r d) = G (ix2 r ⟨256 + d.val, by omega⟩))
    (h3 : ∀ (r : Fin 256) (d : Fin 128), P3 (ix2 r d) = G (ix2 r ⟨384 + d.val, by omega⟩)) :
    View.canon (Val := Elt Ideal) (s := S256x512) (e := e)
      [⟨Rect.unit ![0, 384] ![256, 128] inb_S256x512_S256x128_0_384, P3⟩,
        ⟨Rect.unit ![0, 256] ![256, 128] inb_S256x512_S256x128_0_256, P2⟩,
        ⟨Rect.unit ![0, 128] ![256, 128] inb_S256x512_S256x128_0_128, P1⟩,
        ⟨Rect.unit ![0, 0] ![256, 128] inb_S256x512_S256x128_0_0, P0⟩] = G := by
  have key : ∀ (P : Vec Ideal S256x128 e) (o : ℕ) (ho : o ≤ 384) (inb)
      (_ : ∀ (r : Fin 256) (d : Fin 128), P (ix2 r d) = G (ix2 r ⟨o + d.val, by omega⟩)) (x : S256x128.Idx),
      P x = G ((Rect.unit (s := S256x512) ![0, o] ![256, 128] inb).idx x) := fun P o ho inb hP x => by
    have hx : x = ix2 (x 0) (x 1) := funext fun a => match a with
      | ⟨0, _⟩ => rfl
      | ⟨1, _⟩ => rfl
    refine (congrArg P hx).trans ((hP _ _).trans (congrArg G (funext fun a => ?_)))
    match a with
    | ⟨0, _⟩ => apply Fin.ext; show (x 0).val = 0 + 1 * (x 0).val; omega
    | ⟨1, _⟩ => apply Fin.ext; show o + (x 1).val = o + 1 * (x 1).val; omega
  funext y
  have hy : ∀ (o : ℕ) (inb), o ≤ (y 1).val → (y 1).val < o + 128 →
      y ∈ (Rect.unit (s := S256x512) ![0, o] ![256, 128] inb).set := fun o inb hy hy' => by
    have hy0 : (y 0).val < 256 := (y 0).isLt
    rw [Rect.mem_set_unit]
    intro a
    match a with
    | ⟨0, _⟩ => show 0 ≤ (y 0).val ∧ (y 0).val < 0 + 256; omega
    | ⟨1, _⟩ => show o ≤ (y 1).val ∧ (y 1).val < o + 128; omega
  refine View.canon_apply_of_pieces (Val := Elt Ideal) (e := e) G _ ?_ y ?_
  · intro pc hpc x
    rcases List.mem_cons.mp hpc with rfl | hpc
    · exact key P3 384 (by omega) inb_S256x512_S256x128_0_384 h3 x
    rcases List.mem_cons.mp hpc with rfl | hpc
    · exact key P2 256 (by omega) inb_S256x512_S256x128_0_256 h2 x
    rcases List.mem_cons.mp hpc with rfl | hpc
    · exact key P1 128 (by omega) inb_S256x512_S256x128_0_128 h1 x
    rcases List.mem_cons.mp hpc with rfl | hpc
    · exact key P0 0 (by omega) inb_S256x512_S256x128_0_0 h0 x
    nomatch hpc
  · have hy2 : (y 1).val < 512 := (y 1).isLt
    by_cases h3 : 384 ≤ (y 1).val
    · exact ⟨_, List.mem_cons_self, hy 384 inb_S256x512_S256x128_0_384 h3 (by omega)⟩
    by_cases h2 : 256 ≤ (y 1).val
    · exact ⟨_, List.mem_cons_of_mem _ List.mem_cons_self, hy 256 inb_S256x512_S256x128_0_256 h2 (by omega)⟩
    by_cases h1 : 128 ≤ (y 1).val
    · exact ⟨_, List.mem_cons_of_mem _ (List.mem_cons_of_mem _ List.mem_cons_self),
        hy 128 inb_S256x512_S256x128_0_128 h1 (by omega)⟩
    · exact ⟨_, List.mem_cons_of_mem _ (List.mem_cons_of_mem _ (List.mem_cons_of_mem _ List.mem_cons_self)),
        hy 0 inb_S256x512_S256x128_0_0 (by omega) (by omega)⟩

/-- The positions: eight from 8192 on. -/
def positions : FVec Ideal S8 .f32 :=
  sitofp .f32 (addi (broadcastInDim S8 ![] bcast_S_S8 (constantI S_ 32 8192#32)) (iotaInDim S8 32 0))

/-- The angle of a position and a pair of lanes, for a width of 128. -/
def angle : FVec Ideal S8x64 .f32 :=
  mulf (broadcastInDim S8x64 ![0, 1] bcast_S8x1_S8x64_0_1 (broadcastInDim S8x1 ![0] bcast_S8_S8x1_0 positions))
    (broadcastInDim S8x64 ![0, 1] bcast_S1x64_S8x64_0_1 (broadcastInDim S1x64 ![1] bcast_S64_S1x64_1
      (Host.powf (broadcastInDim S64 ![] bcast_S_S64 (constant S_ .f32 0x461C4000#32))
        (mulf (Host.negf (sitofp .f32 (iotaInDim S64 32 0))) (broadcastInDim S64 ![] bcast_S_S64 (constant S_ .f32 0x3C800000#32))))))

/-- The angle of a position and a pair of lanes, for a width of 64. -/
def angleSlab : FVec Ideal S8x32 .f32 :=
  mulf (broadcastInDim S8x32 ![0, 1] bcast_S8x1_S8x32_0_1 (broadcastInDim S8x1 ![0] bcast_S8_S8x1_0 positions))
    (broadcastInDim S8x32 ![0, 1] bcast_S1x32_S8x32_0_1 (broadcastInDim S1x32 ![1] bcast_S32_S1x32_1
      (Host.powf (broadcastInDim S32 ![] bcast_S_S32 (constant S_ .f32 0x461C4000#32))
        (mulf (Host.negf (sitofp .f32 (iotaInDim S32 32 0))) (broadcastInDim S32 ![] bcast_S_S32 (constant S_ .f32 0x3D000000#32))))))

/-- A table of eight rows, once for each of the 32 sequences. -/
def tiled (T : FVec Ideal S8x128 .f32) : FVec Ideal S256x128 .f32 :=
  shapeCast S256x128 (broadcastInDim S32x8x1x128 ![0, 1, 2, 3] bcast_S1x8x1x128_S32x8x1x128_0_1_2_3
    (shapeCast S1x8x1x128 T shapeCasts_S8x128_S1x8x1x128)) shapeCasts_S32x8x1x128_S256x128

/-- A table of 128 lanes from its two halves. -/
def table (C D : FVec Ideal S8x64 .f32) : FVec Ideal S8x128 .f32 :=
  shapeCast S8x128 (broadcastInDim S1x8x1x128 ![0, 1, 2, 3] bcast_S1x8x1x128_S1x8x1x128_0_1_2_3
    (shapeCast S1x8x1x128 (concatenate S8x128 1 [⟨S8x64, C⟩, ⟨S8x64, D⟩] concatenates_S8x64_S8x64_S8x128_d1)
      shapeCasts_S8x128_S1x8x1x128)) shapeCasts_S1x8x1x128_S8x128

/-- A table of 64 lanes, twice, from its two halves. -/
def tableSlab (C D : FVec Ideal S8x32 .f32) : FVec Ideal S8x128 .f32 :=
  shapeCast S8x128 (broadcastInDim S1x8x2x64 ![0, 1, 2, 3] bcast_S1x8x1x64_S1x8x2x64_0_1_2_3
    (shapeCast S1x8x1x64 (concatenate S8x64 1 [⟨S8x32, C⟩, ⟨S8x32, D⟩] concatenates_S8x32_S8x32_S8x64_d1)
      shapeCasts_S8x64_S1x8x1x64)) shapeCasts_S1x8x2x64_S8x128

theorem entry_cos (c : Dev nD) : V m c main_v51 = tiled (table (Host.cos angle) (Host.cos angle)) := by
  entry_read
  rfl

theorem entry_sin (c : Dev nD) : V m c main_v54 = tiled (table (Host.negf (Host.sin angle)) (Host.sin angle)) := by
  entry_read
  rfl

theorem entry_cosSlab (c : Dev nD) : V m c main_v57 = tiled (tableSlab (Host.cos angleSlab) (Host.cos angleSlab)) := by
  entry_read
  rfl

theorem entry_sinSlab (c : Dev nD) :
    V m c main_v60 = tiled (tableSlab (Host.negf (Host.sin angleSlab)) (Host.sin angleSlab)) := by
  entry_read
  rfl

/-- The position of a row in its sequence. -/
def place (r : Fin 256) : Fin 8 := ⟨r.val % 8, by omega⟩

theorem tiled_at (T : FVec Ideal S8x128 .f32) (r : Fin 256) (d : Fin 128) : tiled T (ix2 r d) = T (ix2 (place r) d) := by
  pointwise [tiled, place]

theorem table_at (C D : FVec Ideal S8x64 .f32) (r : Fin 256) (d : Fin 128) : tiled (table C D) (ix2 r d)
    = if h : d.val < 64 then C (ix2 (place r) ⟨d.val, h⟩) else D (ix2 (place r) ⟨d.val - 64, by omega⟩) := by
  rw [tiled_at]
  generalize place r = r
  pointwise [table]

theorem tableSlab_at (C D : FVec Ideal S8x32 .f32) (r : Fin 256) (d : Fin 64) : tiled (tableSlab C D) (ix2 r (wide d))
    = if h : d.val < 32 then C (ix2 (place r) ⟨d.val, h⟩) else D (ix2 (place r) ⟨d.val - 32, by omega⟩) := by
  rw [tiled_at]
  generalize place r = r
  unfold wide
  pointwise [tableSlab]
  simp only [Nat.mod_eq_of_lt d.isLt]

/-- The heads of the rows, turned by the tables. -/
def heads (X : FVec Ideal S256x512 .f32) (c s : FVec Ideal S256x128 .f32) : FVec Ideal S256x512 .f32 := fun y =>
  X (ix2 (y 0) (y 1)) * c (ix2 (y 0) (lane (y 1))) + X (ix2 (y 0) (across (y 1))) * s (ix2 (y 0) (lane (y 1)))

/-- One head of the rows, turned by the tables. -/
theorem turned_head (X : FVec Ideal S256x512 .f32) (c s x : FVec Ideal S256x128 .f32) (o : ℕ) (ho : o ≤ 384) (h : o % 128 = 0)
    (hx : ∀ (r : Fin 256) (d : Fin 128), x (ix2 r d) = X (ix2 r ⟨o + d.val, by omega⟩)) (r : Fin 256) (d : Fin 128) :
    x (ix2 r d) * c (ix2 r d) + x (ix2 r ⟨(d.val + 128 - 64) % 128, by omega⟩) * s (ix2 r d)
      = heads X c s (ix2 r ⟨o + d.val, by omega⟩) := by
  have hl : d = lane ⟨o + d.val, by omega⟩ := Fin.ext (by show d.val = (o + d.val) % 128; omega)
  refine sum_congr (hx r d) (congrArg (fun e => c (ix2 r e)) hl) ((hx r _).trans ?_) (congrArg (fun e => s (ix2 r e)) hl)
  refine congrArg (fun e => X (ix2 r e)) (Fin.ext ?_)
  show o + (d.val + 128 - 64) % 128 = (o + d.val) / 128 * 128 + ((o + d.val) % 128 + 128 - 64) % 128
  omega

/-- The slab of the rows, turned by the tables. -/
def slab (X c s : FVec Ideal S256x128 .f32) : FVec Ideal S256x64 .f32 := fun y =>
  X (ix2 (y 0) (wide (y 1))) * c (ix2 (y 0) (wide (y 1))) + X (ix2 (y 0) (wide (acrossSlab (y 1)))) * s (ix2 (y 0) (wide (y 1)))

theorem slab_eq (X c s : FVec Ideal S256x128 .f32) (y : S256x64.Idx) :
    k0_pay48 (F := Ideal) (k0_pay3 c) (k0_pay4 s) X y = slab X c s y := by
  have hc : k0_pay3 (F := Ideal) c = c := by funext j; pointwise [k0_pay3]
  have hs : k0_pay4 (F := Ideal) s = s := by funext j; pointwise [k0_pay4]
  rw [hc, hs]
  have hy : y = ix2 (y 0) (y 1) := funext fun a => match a with
    | ⟨0, _⟩ => rfl
    | ⟨1, _⟩ => rfl
  exact (congrArg (k0_pay48 (F := Ideal) c s X) hy).trans (turned_slab c s X (y 0) (y 1))

/-- What is stored for a head, from the head `x` of the rows. -/
theorem stored_head (a b x : FVec Ideal S256x128 .f32) (r : Fin 256) (d : Fin 128) (v : EReal)
    (hv : x (ix2 r d) * a (ix2 r d) + x (ix2 r ⟨(d.val + 128 - 64) % 128, by omega⟩) * b (ix2 r d) = v) :
    k0_pay6 (F := Ideal) a b x (ix2 r d) = v ∧ k0_pay9 (F := Ideal) (k0_pay1 a) (k0_pay2 b) x (ix2 r d) = v
      ∧ k0_pay12 (F := Ideal) (k0_pay1 a) (k0_pay2 b) x (ix2 r d) = v
      ∧ k0_pay16 (F := Ideal) (k0_pay2 b) x (k0_pay15 (k0_pay1 a) x) (ix2 r d) = v := by
  rw [← hv]
  refine ⟨?_, ?_, ?_, ?_⟩
  all_goals pointwise [k0_pay6, k0_pay9, k0_pay12, k0_pay16, k0_pay15, k0_pay1, k0_pay2]

/-- A range of 128 columns of the block. -/
theorem loaded_head (X : FVec Ideal S256x512 .f32) (o : ℕ) (ho : o ≤ 384) (inb) (r : Fin 256) (d : Fin 128) :
    View.ld (Val := Elt Ideal) (e' := .f32) X (Rect.unit (s := S256x512) ![0, o] ![256, 128] inb) (ix2 r d)
      = X (ix2 r ⟨o + d.val, by omega⟩) :=
  congrArg X (funext fun a => match a with
    | ⟨0, _⟩ => Fin.ext (by show 0 + 1 * r.val = r.val; omega)
    | ⟨1, _⟩ => Fin.ext (by show o + 1 * d.val = o + d.val; omega))

theorem stored_keys (c : Dev nD) (t : Fin cfg0.N) (y : S256x512.Idx) :
    (outsAt0 m c t).2.2.1 y = heads (iblk m c 2 t) (iblk m c 5 t) (iblk m c 6 t) y := by
  rw [outsAt0]
  frame_out
  generalize iblk m c 2 t = X
  generalize iblk m c 5 t = a
  generalize iblk m c 6 t = b
  have key := fun (o : ℕ) (ho : o ≤ 384) (h : o % 128 = 0) (inb) (r : Fin 256) (d : Fin 128) =>
    stored_head a b _ r d _ (turned_head X a b _ o ho h (loaded_head X o ho inb) r d)
  refine congrFun (four _ _ _ _ _ ?_ ?_ ?_ ?_) y
  · exact fun r d => (key 0 (by omega) rfl inb_S256x512_S256x128_0_0 r d).1
  · exact fun r d => (key 128 (by omega) rfl inb_S256x512_S256x128_0_128 r d).2.1
  · exact fun r d => (key 256 (by omega) rfl inb_S256x512_S256x128_0_256 r d).2.2.1
  · exact fun r d => (key 384 (by omega) rfl inb_S256x512_S256x128_0_384 r d).2.2.2

theorem stored_values (c : Dev nD) (t : Fin cfg0.N) (y : S256x512.Idx) :
    (outsAt0 m c t).2.2.2.2.1 y = iblk m c 3 t y := by
  rw [outsAt0]
  frame_out

theorem stored_index (c : Dev nD) (t : Fin cfg0.N) (y : S256x64.Idx) :
    (outsAt0 m c t).2.2.2.2.2.2.1 y = slab (iblk m c 4 t) (iblk m c 7 t) (iblk m c 8 t) y := by
  rw [outsAt0]
  frame_out
  exact slab_eq _ _ _ y

/-- The columns of the projection: the keys', the values' and the slab of the indexer's keys. -/
def keyCol (d : Fin 512) : Fin 8704 := ⟨6144 + d.val, by omega⟩

def valueCol (d : Fin 512) : Fin 8704 := ⟨6656 + d.val, by omega⟩

def slabCol (d : Fin 128) : Fin 8704 := ⟨4224 + d.val, by omega⟩

theorem read_k (c : Dev nD) (t : Fin cfg0.N) (a : Fin 256) (b : Fin 512) :
    iblk m c 2 t (ix2 a b) = V m c main_arg0 (ix2 a (keyCol b)) := by
  unfold keyCol
  blk_simp [iblk]
  exact congrArg (V m c main_arg0) (by blk_ext [idx t])

theorem read_v (c : Dev nD) (t : Fin cfg0.N) (a : Fin 256) (b : Fin 512) :
    iblk m c 3 t (ix2 a b) = V m c main_arg0 (ix2 a (valueCol b)) := by
  unfold valueCol
  blk_simp [iblk]
  exact congrArg (V m c main_arg0) (by blk_ext [idx t])

theorem read_slab (c : Dev nD) (t : Fin cfg0.N) (a : Fin 256) (b : Fin 128) :
    iblk m c 4 t (ix2 a b) = V m c main_arg0 (ix2 a (slabCol b)) := by
  unfold slabCol
  blk_simp [iblk]
  exact congrArg (V m c main_arg0) (by blk_ext [idx t])

theorem read_cos (c : Dev nD) (t : Fin cfg0.N) (a : Fin 256) (b : Fin 128) :
    iblk m c 5 t (ix2 a b) = V m c main_v51 (ix2 a b) := by
  blk_simp [iblk]
  exact congrArg (V m c main_v51) (by blk_ext [idx t])

theorem read_sin (c : Dev nD) (t : Fin cfg0.N) (a : Fin 256) (b : Fin 128) :
    iblk m c 6 t (ix2 a b) = V m c main_v54 (ix2 a b) := by
  blk_simp [iblk]
  exact congrArg (V m c main_v54) (by blk_ext [idx t])

theorem read_cosSlab (c : Dev nD) (t : Fin cfg0.N) (a : Fin 256) (b : Fin 128) :
    iblk m c 7 t (ix2 a b) = V m c main_v57 (ix2 a b) := by
  blk_simp [iblk]
  exact congrArg (V m c main_v57) (by blk_ext [idx t])

theorem read_sinSlab (c : Dev nD) (t : Fin cfg0.N) (a : Fin 256) (b : Fin 128) :
    iblk m c 8 t (ix2 a b) = V m c main_v60 (ix2 a b) := by
  blk_simp [iblk]
  exact congrArg (V m c main_v60) (by blk_ext [idx t])

/-- The 512 columns of the projection from a column on. -/
def cut (o : ℕ) (ho : o + 512 ≤ 8704) (A : FVec Ideal S256x8704 .f32) : FVec Ideal S256x512 .f32 := fun i =>
  A (ix2 (i 0) ⟨o + (i 1).val, by have h : (i 1).val < 512 := (i 1).isLt; omega⟩)

/-- The same, turned by the tables: the keys from 6144 on, the queries from 4608 on. -/
def columns (o : ℕ) (ho : o + 512 ≤ 8704) (A : FVec Ideal S256x8704 .f32) (c s : FVec Ideal S256x128 .f32) :
    FVec Ideal S256x512 .f32 := heads (cut o ho A) c s

/-- The values: the projection's columns from 6656 on. -/
def values (A : FVec Ideal S256x8704 .f32) : FVec Ideal S256x512 .f32 := fun i => A (ix2 (i 0) (valueCol (i 1)))

/-- The indexer's keys: the projection's columns 4224 to 4287, turned by the tables. -/
def indexKeys (A : FVec Ideal S256x8704 .f32) (c s : FVec Ideal S256x128 .f32) : FVec Ideal S256x64 .f32 := fun i =>
  A (ix2 (i 0) (slabCol (wide (i 1)))) * c (ix2 (i 0) (wide (i 1)))
    + A (ix2 (i 0) (slabCol (wide (acrossSlab (i 1))))) * s (ix2 (i 0) (wide (i 1)))

theorem columns_at (c : Dev nD) (t : Fin cfg0.N) (X : FVec Ideal S256x512 .f32) (o : ℕ) (ho : o + 512 ≤ 8704)
    (hX : ∀ (a : Fin 256) (b : Fin 512), X (ix2 a b) = V m c main_arg0 (ix2 a ⟨o + b.val, by omega⟩))
    (y i : S256x512.Idx) (h0 : i 0 = y 0) (h1 : i 1 = y 1) :
    heads X (iblk m c 5 t) (iblk m c 6 t) y = columns o ho (V m c main_arg0) (V m c main_v51) (V m c main_v54) i := by
  unfold columns heads
  rw [h0, h1]
  exact sum_congr (hX _ _) (read_cos m c t _ _) (hX _ _) (read_sin m c t _ _)

theorem values_at (c : Dev nD) (t : Fin cfg0.N) (y i : S256x512.Idx) (h0 : i 0 = y 0) (h1 : i 1 = y 1) :
    iblk m c 3 t y = values (V m c main_arg0) i := by
  unfold values
  rw [h0, h1]
  refine Eq.trans (congrArg (iblk m c 3 t) (funext fun a => ?_)) (read_v m c t (y 0) (y 1))
  match a with
  | ⟨0, _⟩ => rfl
  | ⟨1, _⟩ => rfl

theorem index_at (c : Dev nD) (t : Fin cfg0.N) (y i : S256x64.Idx) (h0 : i 0 = y 0) (h1 : i 1 = y 1) :
    slab (iblk m c 4 t) (iblk m c 7 t) (iblk m c 8 t) y
      = indexKeys (V m c main_arg0) (V m c main_v57) (V m c main_v60) i := by
  unfold indexKeys
  rw [h0, h1]
  exact sum_congr (read_slab m c t _ _) (read_cosSlab m c t _ _) (read_slab m c t _ _) (read_sinSlab m c t _ _)

/-- The keys after the run, from the arrays as the grid finds them. -/
theorem final_keys (c : Dev nD) : (dats m 0 c).arrAt 11 (cfgs 0).N
    = columns 6144 (by decide) (V m c main_arg0) (V m c main_v51) (V m c main_v54) := by
  refine (dats m 0 c).arrAt_eq_of_covers 11 _ (by decide +kernel) fun t _ y => ?_
  blk_simp
  rw [after0_11]
  refine (stored_keys m c t y).trans (columns_at m c t _ 6144 _ (read_k m c t) y _ (Fin.ext ?_) (Fin.ext ?_))
  all_goals blk_simp [idx t]

/-- The values after the run. -/
theorem final_values (c : Dev nD) : (dats m 0 c).arrAt 13 (cfgs 0).N = values (V m c main_arg0) := by
  refine (dats m 0 c).arrAt_eq_of_covers 13 _ (by decide +kernel) fun t _ y => ?_
  blk_simp
  rw [after0_13]
  refine (stored_values m c t y).trans (values_at m c t y _ (Fin.ext ?_) (Fin.ext ?_))
  all_goals blk_simp [idx t]

/-- The indexer's keys after the run. -/
theorem final_index (c : Dev nD) : (dats m 0 c).arrAt 15 (cfgs 0).N
    = indexKeys (V m c main_arg0) (V m c main_v57) (V m c main_v60) := by
  refine (dats m 0 c).arrAt_eq_of_covers 15 _ (by decide +kernel) fun t _ y => ?_
  blk_simp
  rw [after0_15]
  refine (stored_index m c t y).trans (index_at m c t y _ (Fin.ext ?_) (Fin.ext ?_))
  all_goals blk_simp [idx t]

end Cert.RopeSampleIdeal.Rotary

namespace Cert.RopeSampleRefIdeal.Rotary

open Cert.RopeSampleRefIdeal Cert.RopeSampleRefIdeal.Gen

/-- Columns of the projection, by heads. -/
def headsOf (X : FVec Ideal S256x512 .f32) : FVec Ideal S32x8x4x128 .f32 :=
  shapeCast S32x8x4x128 X shapeCasts_S256x512_S32x8x4x128

def first (X : FVec Ideal S32x8x4x128 .f32) : FVec Ideal S32x8x4x64 .f32 :=
  extractStridedSlice S32x8x4x64 ![0, 0, 0, 0] X slices_S32x8x4x128_S32x8x4x64_0_0_0_0

def second (X : FVec Ideal S32x8x4x128 .f32) : FVec Ideal S32x8x4x64 .f32 :=
  extractStridedSlice S32x8x4x64 ![0, 0, 0, 64] X slices_S32x8x4x128_S32x8x4x64_0_0_0_64

def spread (C : FVec Ideal S8x64 .f32) : FVec Ideal S32x8x4x64 .f32 :=
  broadcastInDim S32x8x4x64 ![0, 1, 2, 3] bcast_S1x8x1x64_S32x8x4x64_0_1_2_3
    (broadcastInDim S1x8x1x64 ![1, 2, 3] bcast_S8x1x64_S1x8x1x64_1_2_3
      (broadcastInDim S8x1x64 ![0, 2] bcast_S8x64_S8x1x64_0_2 C))

/-- The reference's rotation of columns by heads of 128, operation by operation. -/
def rotated (X : FVec Ideal S256x512 .f32) (C S : FVec Ideal S8x64 .f32) : FVec Ideal S256x512 .f32 :=
  shapeCast S256x512 (concatenate S32x8x4x128 3
    [⟨S32x8x4x64, subf (mulf (first (headsOf X)) (spread C)) (mulf (second (headsOf X)) (spread S))⟩,
      ⟨S32x8x4x64, addf (mulf (second (headsOf X)) (spread C)) (mulf (first (headsOf X)) (spread S))⟩]
    concatenates_S32x8x4x64_S32x8x4x64_S32x8x4x128_d3) shapeCasts_S32x8x4x128_S256x512

/-- The reference's columns of the keys. -/
def keyColumns (A : FVec Ideal S256x8704 .f32) : FVec Ideal S256x512 .f32 :=
  extractStridedSlice S256x512 ![0, 6144] A slices_S256x8704_S256x512_0_6144

def slabOf (A : FVec Ideal S256x8704 .f32) : FVec Ideal S32x8x1x64 .f32 :=
  shapeCast S32x8x1x64 (extractStridedSlice S256x64 ![0, 4224] A slices_S256x8704_S256x64_0_4224)
    shapeCasts_S256x64_S32x8x1x64

def firstSlab (X : FVec Ideal S32x8x1x64 .f32) : FVec Ideal S32x8x1x32 .f32 :=
  extractStridedSlice S32x8x1x32 ![0, 0, 0, 0] X slices_S32x8x1x64_S32x8x1x32_0_0_0_0

def secondSlab (X : FVec Ideal S32x8x1x64 .f32) : FVec Ideal S32x8x1x32 .f32 :=
  extractStridedSlice S32x8x1x32 ![0, 0, 0, 32] X slices_S32x8x1x64_S32x8x1x32_0_0_0_32

def spreadSlab (C : FVec Ideal S8x32 .f32) : FVec Ideal S32x8x1x32 .f32 :=
  broadcastInDim S32x8x1x32 ![0, 1, 2, 3] bcast_S1x8x1x32_S32x8x1x32_0_1_2_3
    (broadcastInDim S1x8x1x32 ![1, 2, 3] bcast_S8x1x32_S1x8x1x32_1_2_3
      (broadcastInDim S8x1x32 ![0, 2] bcast_S8x32_S8x1x32_0_2 C))

/-- The reference's indexer's keys, operation by operation. -/
def indexRef (A : FVec Ideal S256x8704 .f32) (C S : FVec Ideal S8x32 .f32) : FVec Ideal S256x64 .f32 :=
  shapeCast S256x64 (concatenate S32x8x1x64 3
    [⟨S32x8x1x32, subf (mulf (firstSlab (slabOf A)) (spreadSlab C)) (mulf (secondSlab (slabOf A)) (spreadSlab S))⟩,
      ⟨S32x8x1x32, addf (mulf (secondSlab (slabOf A)) (spreadSlab C)) (mulf (firstSlab (slabOf A)) (spreadSlab S))⟩]
    concatenates_S32x8x1x32_S32x8x1x32_S32x8x1x64_d3) shapeCasts_S32x8x1x64_S256x64

/-- The reference's values, operation by operation. -/
def valuesRef (A : FVec Ideal S256x8704 .f32) : FVec Ideal S256x512 .f32 :=
  extractStridedSlice S256x512 ![0, 6656] A slices_S256x8704_S256x512_0_6656

open Cert.RopeSampleIdeal.Rotary
open Cert.RopeIdeal.Rotary (sum_congr)
open Cert.RopeRefIdeal.Rotary (turn_sub)

theorem values_eq (A : FVec Ideal S256x8704 .f32) : valuesRef A = values A := by
  funext i
  idx_vars i
  pointwise [valuesRef, values, valueCol]

theorem rotated_eq (X : FVec Ideal S256x512 .f32) (C S : FVec Ideal S8x64 .f32) :
    rotated X C S = heads X (tiled (table C C)) (tiled (table (Host.negf S) S)) := by
  funext i
  idx_vars i
  pointwise [rotated, headsOf, first, second, spread]
  have at_col : ∀ {e e' : Fin 512} (_ : e.val = e'.val), X (ix2 i0 e) = X (ix2 i0 e') :=
    fun h => congrArg (fun e => X (ix2 i0 e)) (Fin.ext h)
  by_cases h : i1.val % 128 < 64
  · rw [dif_pos h]
    exact turn_sub rfl ((table_at C C i0 (lane i1)).trans (dif_pos h)).symm
      (at_col (by
        show i1.val / 128 * 128 + (64 + i1.val % 128) = (across i1).val
        unfold across; show _ = i1.val / 128 * 128 + (i1.val % 128 + 128 - 64) % 128; omega))
      ((table_at (Host.negf S) S i0 (lane i1)).trans ((dif_pos h).trans rfl)).symm
  · rw [dif_neg h]
    exact sum_congr
      (at_col (by show i1.val / 128 * 128 + (64 + (i1.val % 128 - 64)) = i1.val; omega))
      ((table_at C C i0 (lane i1)).trans (dif_neg h)).symm
      (at_col (by
        show i1.val / 128 * 128 + (i1.val % 128 - 64) = (across i1).val
        unfold across; show _ = i1.val / 128 * 128 + (i1.val % 128 + 128 - 64) % 128; omega))
      ((table_at (Host.negf S) S i0 (lane i1)).trans (dif_neg h)).symm

theorem keys_eq (A : FVec Ideal S256x8704 .f32) (C S : FVec Ideal S8x64 .f32) :
    rotated (keyColumns A) C S = columns 6144 (by decide) A (tiled (table C C)) (tiled (table (Host.negf S) S)) := by
  refine (rotated_eq _ C S).trans (congrArg (fun X => heads X _ _) ?_)
  funext i
  idx_vars i
  pointwise [keyColumns, cut]

theorem index_eq (A : FVec Ideal S256x8704 .f32) (C S : FVec Ideal S8x32 .f32) :
    indexRef A C S = indexKeys A (tiled (tableSlab C C)) (tiled (tableSlab (Host.negf S) S)) := by
  funext i
  idx_vars i
  pointwise [indexRef, slabOf, firstSlab, secondSlab, spreadSlab]
  have at_col : ∀ {e e' : Fin 8704} (_ : e.val = e'.val), A (ix2 i0 e) = A (ix2 i0 e') :=
    fun h => congrArg (fun e => A (ix2 i0 e)) (Fin.ext h)
  by_cases h : i1.val < 32
  · rw [dif_pos h]
    exact turn_sub rfl ((tableSlab_at C C i0 i1).trans (dif_pos h)).symm
      (at_col (by
        show 4224 + (32 + i1.val) = 4224 + (if i1.val < 32 then i1.val + 32 else i1.val - 32)
        rw [if_pos h]; omega))
      ((tableSlab_at (Host.negf S) S i0 i1).trans ((dif_pos h).trans rfl)).symm
  · rw [dif_neg h]
    exact sum_congr
      (at_col (by show 4224 + (32 + (i1.val - 32)) = 4224 + i1.val; omega))
      ((tableSlab_at C C i0 i1).trans (dif_neg h)).symm
      (at_col (by
        show 4224 + (i1.val - 32) = 4224 + (if i1.val < 32 then i1.val + 32 else i1.val - 32)
        rw [if_neg h]))
      ((tableSlab_at (Host.negf S) S i0 i1).trans (dif_neg h)).symm

end Cert.RopeSampleRefIdeal.Rotary

end
-- ==== Proof.RopeRest.lean ====
/-
  The other results of the prompt's rotary embedding: the queries and the copies of keys, values and indexer's keys that
  the attention reads, and the indexer's queries, sixteen heads of 64 lanes, two to a store's 128 columns.
-/
module

public import proofs.«01_k».proof.Proof.RopeSample

@[expose] public section

set_option maxRecDepth 16384

noncomputable section

open Idealize.ShloMosaic Idealize.ShloMosaic.TcCoe Idealize.SL.Sem
open Idealize.ShloMosaic.Pipeline (Dat)

namespace Cert.RopeIdeal.Rotary

open Cert.RopeIdeal Cert.RopeIdeal.Gen

variable (m : (ℓ : Loc nD τ sig) → Buf (Elt Ideal) ℓ)

/-- The block of each further window at a grid point. -/
theorem idxRest : ∀ t : Fin cfg0.N, win0_0.index t = ![t.val, 9] ∧ win0_1.index t = ![t.val, 5]
    ∧ win0_9.index t = ![t.val, 0] ∧ win0_10.index t = ![t.val / 8, 0, 0, t.val % 8] ∧ win0_12.index t = ![t.val, 0]
    ∧ win0_14.index t = ![t.val / 8, 0, t.val % 8] ∧ win0_16.index t = ![t.val, 0] :=
  (by decide +kernel : ∀ t : Fin grid0.N, _)

/-- A column of four heads side by side: its head and its lane. -/
def headOf (e : Fin 512) : Fin 4 := ⟨e.val / 128, by omega⟩

def laneOf (e : Fin 512) : Fin 128 := ⟨e.val % 128, by omega⟩

/-- The heads of a block, side by side. -/
def flat (H : FVec Ideal S1x256x4x128 .f32) : FVec Ideal S256x512 .bf16 := fun y =>
  H (ix4 0 (y 0) (headOf (y 1)) (laneOf (y 1)))

theorem flat_at (H : FVec Ideal S1x256x4x128 .f32) (h : Fin 4) (o : ℕ) (ho : o = h.val * 128) (r : Fin 256) (d : Fin 128)
    (v : EReal) (hv : v = H (ix4 0 r h d)) : v = flat H (ix2 r ⟨o + d.val, by omega⟩) := by
  have h1 : headOf ⟨o + d.val, by omega⟩ = h := Fin.ext (by show (o + d.val) / 128 = h.val; omega)
  have h2 : laneOf ⟨o + d.val, by omega⟩ = d := Fin.ext (by show (o + d.val) % 128 = d.val; omega)
  rw [hv]
  show H (ix4 0 r h d) = H (ix4 0 r (headOf ⟨o + d.val, _⟩) (laneOf ⟨o + d.val, _⟩))
  rw [h1, h2]

theorem stored_queries (c : Dev nD) (t : Fin cfg0.N) (y : S256x512.Idx) :
    (outsAt0 m c t).1 y = flat (heads (iblk m c 0 t) (iblk m c 5 t) (iblk m c 6 t)) y := by
  rw [outsAt0]
  frame_out
  generalize iblk m c 0 t = X
  generalize iblk m c 5 t = a
  generalize iblk m c 6 t = b
  refine congrFun (Cert.RopeSampleIdeal.Rotary.four (e := .bf16) _ _ _ _ _ ?_ ?_ ?_ ?_) y
  · refine fun r d => flat_at _ 0 0 rfl r d _ ?_
    pointwise [k0_pay6, k0_pay2, k0_pay3, heads]
  · refine fun r d => flat_at _ 1 128 rfl r d _ ?_
    pointwise [k0_pay11, k0_pay2, k0_pay3, heads]
  · refine fun r d => flat_at _ 2 256 rfl r d _ ?_
    pointwise [k0_pay16, k0_pay2, k0_pay3, heads]
  · refine fun r d => flat_at _ 3 384 rfl r d _ ?_
    pointwise [k0_pay21, k0_pay2, k0_pay3, heads]

theorem stored_keysCopy (c : Dev nD) (t : Fin cfg0.N) (y : S256x512.Idx) :
    (outsAt0 m c t).2.2.2.1 y = flat (heads (iblk m c 2 t) (iblk m c 5 t) (iblk m c 6 t)) y := by
  rw [outsAt0]
  frame_out
  generalize iblk m c 2 t = X
  generalize iblk m c 5 t = a
  generalize iblk m c 6 t = b
  refine congrFun (Cert.RopeSampleIdeal.Rotary.four (e := .bf16) _ _ _ _ _ ?_ ?_ ?_ ?_) y
  · refine fun r d => flat_at _ 0 0 rfl r d _ ?_
    pointwise [k0_pay8, k0_pay7, k0_pay2, k0_pay3, heads]
  · refine fun r d => flat_at _ 1 128 rfl r d _ ?_
    pointwise [k0_pay13, k0_pay12, k0_pay2, k0_pay3, heads]
  · refine fun r d => flat_at _ 2 256 rfl r d _ ?_
    pointwise [k0_pay18, k0_pay17, k0_pay2, k0_pay3, heads]
  · refine fun r d => flat_at _ 3 384 rfl r d _ ?_
    pointwise [k0_pay23, k0_pay22, k0_pay2, k0_pay3, heads]

/-- The transposed values of a block. -/
theorem stored_valuesT (c : Dev nD) (t : Fin cfg0.N) (y : S1x512x256.Idx) :
    (outsAt0 m c t).2.2.2.2.2.1 y = plain (iblk m c 3 t) (ix4 0 (y 2) (headOf (y 1)) (laneOf (y 1))) := by
  rw [outsAt0]
  frame_out
  generalize iblk m c 3 t = X
  idx_vars y
  unfold headOf laneOf
  pointwise [k0_pay26, plain]
  exact congrArg (fun e => X (ix2 y2 e)) (Fin.ext (by show y1.val = y1.val / 128 * 128 + y1.val % 128; omega))

theorem stored_indexCopy (c : Dev nD) (t : Fin cfg0.N) (y : S256x64.Idx) :
    (outsAt0 m c t).2.2.2.2.2.2.2 y = slab (iblk m c 4 t) (iblk m c 7 t) (iblk m c 8 t) (ix3 0 (y 1) (y 0)) := by
  rw [outsAt0]
  frame_out
  generalize iblk m c 4 t = X
  generalize iblk m c 7 t = a
  generalize iblk m c 8 t = b
  refine Eq.trans ?_ (slab_eq X a b (ix3 0 (y 1) (y 0)))
  generalize k0_pay4 a = a
  generalize k0_pay5 b = b
  unfold k0_pay60 k0_pay1 k0_pay59
  generalize k0_pay58 (F := Ideal) a b X = Y
  idx_vars y
  pointwise []

/-- A head of the indexer's queries and its lane: the column of the block, and the lane of the tables, which hold 64 lanes
    twice. -/
def indexCol (h : Fin 16) (d : Fin 64) : Fin 1024 := ⟨h.val * 64 + d.val, by omega⟩

def pairLane (h : Fin 16) (d : Fin 64) : Fin 128 := ⟨h.val % 2 * 64 + d.val, by omega⟩

/-- The lane of the other half, in a width of 64. -/
def across (d : Fin 64) : Fin 64 := ⟨if d.val < 32 then d.val + 32 else d.val - 32, by split <;> omega⟩

/-- The same in the second width of 64 of a store's columns, or in the first. -/
def acrossPair (e : Fin 128) : Fin 128 := ⟨if e.val % 64 < 32 then e.val + 32 else e.val - 32, by split <;> omega⟩

/-- The indexer's queries of a block of rows, turned by the tables, each head's columns as rows. -/
def indexHeads (X : FVec Ideal S256x1024 .f32) (c s : FVec Ideal S256x128 .f32) : FVec Ideal S1x16x64x256 .bf16 := fun y =>
  X (ix2 (y 3) (indexCol (y 1) (y 2))) * c (ix2 (y 3) (pairLane (y 1) (y 2)))
    + X (ix2 (y 3) (indexCol (y 1) (across (y 2)))) * s (ix2 (y 3) (pairLane (y 1) (y 2)))

/-- A pair of heads turned by the tables, its columns as rows. -/
theorem turned_pair (c s x : FVec Ideal S256x128 .f32) (e : Fin 128) (r : Fin 256) : k0_pay27 (F := Ideal) c s x (ix2 e r)
    = x (ix2 r e) * c (ix2 r e) + x (ix2 r (acrossPair e)) * s (ix2 r e) := by
  have hsel : ∀ e : Fin 128, IntOp.cmpi CmpIPredicate.slt (IntOp.andi (BitVec.ofNat 32 e.val) 63#32) 32#32
      = if e.val % 64 < 32 then 1#1 else 0#1 := by decide
  unfold acrossPair
  pointwise [k0_pay27]
  rw [hsel e]
  by_cases h : e.val % 64 < 32
  · simp only [if_pos h]
    refine congrArg (fun l => x (ix2 r e) * c (ix2 r e) + x (ix2 r l) * s (ix2 r e)) (Fin.ext ?_)
    show (e.val + 128 - 96) % 128 = e.val + 32
    omega
  · simp only [if_neg h]
    refine congrArg (fun l => x (ix2 r e) * c (ix2 r e) + x (ix2 r l) * s (ix2 r e)) (Fin.ext ?_)
    show (e.val + 128 - 32) % 128 = e.val - 32
    omega

/-- What is stored for the first head of a pair and for the second. -/
theorem stored_first (c s x : FVec Ideal S256x128 .f32) (d : Fin 64) (r : Fin 256) :
    k0_pay28 (F := Ideal) c s x (ix4 0 0 d r) = k0_pay27 (F := Ideal) c s x (ix2 ⟨d.val, by omega⟩ r) := by
  unfold k0_pay28
  generalize k0_pay27 (F := Ideal) c s x = Y
  pointwise []

theorem stored_second (c s x : FVec Ideal S256x128 .f32) (d : Fin 64) (r : Fin 256) :
    k0_pay30 (F := Ideal) (k0_pay29 c s x) (ix4 0 0 d r) = k0_pay27 (F := Ideal) c s x (ix2 ⟨64 + d.val, by omega⟩ r) := by
  unfold k0_pay30 k0_pay29
  generalize k0_pay27 (F := Ideal) c s x = Y
  pointwise []

theorem inbPair (j : Fin 8) : ∀ a, (![0, j.val * 128] : Fin 2 → Nat) a + S256x128.size a ≤ S256x1024.size a := fun a => match a with
  | ⟨0, _⟩ => Nat.le_refl 256
  | ⟨1, _⟩ => by show j.val * 128 + 128 ≤ 1024; omega

theorem inbHead {n p q : ℕ} (h : Fin 16) : ∀ a, (![0, h.val, 0, 0] : Fin 4 → Nat) a + (![n, 1, p, q] : Fin 4 → Nat) a
    ≤ (![n, 16, p, q] : Fin 4 → Nat) a :=
  fun a => match a with
  | ⟨0, _⟩ => by show 0 + n ≤ n; omega
  | ⟨1, _⟩ => by show h.val + 1 ≤ 16; omega
  | ⟨2, _⟩ => by show 0 + p ≤ p; omega
  | ⟨3, _⟩ => by show 0 + q ≤ q; omega

/-- The first and the second head of a pair. -/
def evenHead (j : Fin 8) : Fin 16 := ⟨2 * j.val, by omega⟩

def oddHead (j : Fin 8) : Fin 16 := ⟨2 * j.val + 1, by omega⟩

/-- The stores of the pairs, the last first, in blocks of sixteen heads of any extents. -/
def stores {n p q : ℕ} {e : EltTy} (P Q : Fin 8 → Vec Ideal ⟨4, ![n, 1, p, q]⟩ e) :
    List (View.Piece (Elt Ideal) ⟨4, ![n, 16, p, q]⟩ e) :=
  ([7, 6, 5, 4, 3, 2, 1, 0] : List (Fin 8)).flatMap fun j =>
    [⟨Rect.unit ![0, (oddHead j).val, 0, 0] ![n, 1, p, q] (inbHead (oddHead j)), Q j⟩,
      ⟨Rect.unit ![0, (evenHead j).val, 0, 0] ![n, 1, p, q] (inbHead (evenHead j)), P j⟩]

/-- Sixteen stores, one for each head, that fill a block. -/
theorem sixteen {n p q : ℕ} {e : EltTy} (G : Vec Ideal ⟨4, ![n, 16, p, q]⟩ e) (P Q : Fin 8 → Vec Ideal ⟨4, ![n, 1, p, q]⟩ e)
    (hP : ∀ (j : Fin 8) (b : Fin n) (d : Fin p) (r : Fin q), P j (ix4 b 0 d r) = G (ix4 b (evenHead j) d r))
    (hQ : ∀ (j : Fin 8) (b : Fin n) (d : Fin p) (r : Fin q), Q j (ix4 b 0 d r) = G (ix4 b (oddHead j) d r)) :
    View.canon (Val := Elt Ideal) (s := ⟨4, ![n, 16, p, q]⟩) (e := e) (stores P Q) = G := by
  have key : ∀ (P : Vec Ideal ⟨4, ![n, 1, p, q]⟩ e) (h : Fin 16) (inb)
      (_ : ∀ (b : Fin n) (d : Fin p) (r : Fin q), P (ix4 b 0 d r) = G (ix4 b h d r)) (x : (⟨4, ![n, 1, p, q]⟩ : Shape).Idx),
      P x = G ((Rect.unit (s := ⟨4, ![n, 16, p, q]⟩) ![0, h.val, 0, 0] ![n, 1, p, q] inb).idx x) := fun P h inb hP x => by
    have h1 : (x 1).val < 1 := (x 1).isLt
    have hx : x = ix4 (x 0) 0 (x 2) (x 3) := funext fun a => match a with
      | ⟨0, _⟩ => rfl
      | ⟨1, _⟩ => Fin.ext (by show (x 1).val = 0; omega)
      | ⟨2, _⟩ => rfl
      | ⟨3, _⟩ => rfl
    refine (congrArg P hx).trans ((hP _ _ _).trans (congrArg G (funext fun a => ?_)))
    match a with
    | ⟨0, _⟩ => apply Fin.ext; show (x 0).val = 0 + 1 * (x 0).val; omega
    | ⟨1, _⟩ => apply Fin.ext; show h.val = h.val + 1 * (x 1).val; omega
    | ⟨2, _⟩ => apply Fin.ext; show (x 2).val = 0 + 1 * (x 2).val; omega
    | ⟨3, _⟩ => apply Fin.ext; show (x 3).val = 0 + 1 * (x 3).val; omega
  funext y
  have hy : ∀ (h : Fin 16) (inb), (y 1).val = h.val →
      y ∈ (Rect.unit (s := ⟨4, ![n, 16, p, q]⟩) ![0, h.val, 0, 0] ![n, 1, p, q] inb).set := fun h inb hy => by
    have hy0 : (y 0).val < n := (y 0).isLt
    have hy2 : (y 2).val < p := (y 2).isLt
    have hy3 : (y 3).val < q := (y 3).isLt
    rw [Rect.mem_set_unit]
    intro a
    match a with
    | ⟨0, _⟩ => show 0 ≤ (y 0).val ∧ (y 0).val < 0 + n; omega
    | ⟨1, _⟩ => show h.val ≤ (y 1).val ∧ (y 1).val < h.val + 1; omega
    | ⟨2, _⟩ => show 0 ≤ (y 2).val ∧ (y 2).val < 0 + p; omega
    | ⟨3, _⟩ => show 0 ≤ (y 3).val ∧ (y 3).val < 0 + q; omega
  refine View.canon_apply_of_pieces (Val := Elt Ideal) (e := e) G _ ?_ y ?_
  · intro pc hpc x
    obtain ⟨j, -, hj⟩ := List.mem_flatMap.mp hpc
    rcases List.mem_cons.mp hj with rfl | hj
    · exact key (Q j) (oddHead j) (inbHead _) (hQ j) x
    rcases List.mem_cons.mp hj with rfl | hj
    · exact key (P j) (evenHead j) (inbHead _) (hP j) x
    nomatch hj
  · have hy1 : (y 1).val < 16 := (y 1).isLt
    have all : ∀ j : Fin 8, j ∈ ([7, 6, 5, 4, 3, 2, 1, 0] : List (Fin 8)) := by decide
    have hj : (y 1).val / 2 < 8 := by omega
    by_cases h : (y 1).val % 2 = 1
    · exact ⟨_, List.mem_flatMap.mpr ⟨⟨(y 1).val / 2, hj⟩, all _, List.mem_cons_self⟩,
        hy (oddHead ⟨(y 1).val / 2, hj⟩) (inbHead _) (by show (y 1).val = 2 * ((y 1).val / 2) + 1; omega)⟩
    · exact ⟨_, List.mem_flatMap.mpr ⟨⟨(y 1).val / 2, hj⟩, all _, List.mem_cons_of_mem _ List.mem_cons_self⟩,
        hy (evenHead ⟨(y 1).val / 2, hj⟩) (inbHead _) (by show (y 1).val = 2 * ((y 1).val / 2); omega)⟩

/-- A pair of heads of a block. -/
def pair (X : FVec Ideal S256x1024 .f32) (j : Fin 8) : FVec Ideal S256x128 .f32 :=
  View.ld (Val := Elt Ideal) (e' := .f32) X (Rect.unit (s := S256x1024) ![0, j.val * 128] ![256, 128] (inbPair j))

theorem pair_at (X : FVec Ideal S256x1024 .f32) (j : Fin 8) (r : Fin 256) (e : Fin 128) :
    pair X j (ix2 r e) = X (ix2 r ⟨j.val * 128 + e.val, by omega⟩) :=
  congrArg X (funext fun a => match a with
    | ⟨0, _⟩ => Fin.ext (by show 0 + 1 * r.val = r.val; omega)
    | ⟨1, _⟩ => Fin.ext (by show j.val * 128 + 1 * e.val = j.val * 128 + e.val; omega))

theorem pair_index (X : FVec Ideal S256x1024 .f32) (a b : FVec Ideal S256x128 .f32) (j : Fin 8) (h : Fin 16) (d : Fin 64)
    (r : Fin 256) (e : Fin 128) (he : e.val = h.val % 2 * 64 + d.val) (hj : h.val / 2 = j.val) :
    k0_pay27 (F := Ideal) a b (pair X j) (ix2 e r) = indexHeads X a b (ix4 0 h d r) := by
  have hl : e = pairLane h d := Fin.ext he
  have hd : d.val < 64 := d.isLt
  refine (turned_pair a b _ e r).trans (sum_congr ((pair_at X j r e).trans (congrArg (fun l => X (ix2 r l)) (Fin.ext ?_)))
    (congrArg (fun l => a (ix2 r l)) hl) ((pair_at X j r _).trans (congrArg (fun l => X (ix2 r l)) (Fin.ext ?_)))
    (congrArg (fun l => b (ix2 r l)) hl))
  · show j.val * 128 + e.val = h.val * 64 + d.val
    omega
  · show j.val * 128 + (if e.val % 64 < 32 then e.val + 32 else e.val - 32)
      = h.val * 64 + (if d.val < 32 then d.val + 32 else d.val - 32)
    have hm : e.val % 64 = d.val := by omega
    rw [hm]
    split <;> omega

/-- The block of the projection that holds the indexer's queries. -/
def indexBlock (c : Dev nD) (t : Fin cfg0.N) : FVec Ideal S256x1024 .f32 := X0_1 m c t

set_option maxHeartbeats 1000000 in
theorem stored_indexQueries (c : Dev nD) (t : Fin cfg0.N) (y : S1x16x64x256.Idx) :
    (outsAt0 m c t).2.1 y = indexHeads (indexBlock m c t) (iblk m c 7 t) (iblk m c 8 t) y := by
  have hc : ∀ a : FVec Ideal S256x128 .f32, k0_pay4 (F := Ideal) a = a := fun a => by funext j; pointwise [k0_pay4]
  have hs : ∀ a : FVec Ideal S256x128 .f32, k0_pay5 (F := Ideal) a = a := fun a => by funext j; pointwise [k0_pay5]
  rw [outsAt0]
  frame_out
  generalize iblk m c 7 t = a
  generalize iblk m c 8 t = b
  refine Eq.trans ?_ (congrArg (fun c' => indexHeads (indexBlock m c t) c' b y) (hc a))
  refine Eq.trans ?_ (congrArg (fun s' => indexHeads (indexBlock m c t) (k0_pay4 a) s' y) (hs b))
  generalize k0_pay4 a = a
  generalize k0_pay5 b = b
  exact congrFun (sixteen (n := 1) (p := 64) (q := 256) (e := .bf16) (indexHeads (indexBlock m c t) a b) (fun j => k0_pay28 a b (pair (indexBlock m c t) j))
    (fun j => k0_pay30 (k0_pay29 a b (pair (indexBlock m c t) j)))
    (fun j i d r => by
      obtain rfl : i = 0 := Subsingleton.elim i 0
      exact (stored_first a b _ d r).trans (pair_index _ a b j (evenHead j) d r _
        (by show d.val = 2 * j.val % 2 * 64 + d.val; omega) (by show 2 * j.val / 2 = j.val; omega)))
    (fun j i d r => by
      obtain rfl : i = 0 := Subsingleton.elim i 0
      exact (stored_second a b _ d r).trans (pair_index _ a b j (oddHead j) d r _
        (by show 64 + d.val = (2 * j.val + 1) % 2 * 64 + d.val; omega)
        (by show (2 * j.val + 1) / 2 = j.val; omega)))) y

theorem read_q (c : Dev nD) (t : Fin cfg0.N) (a : Fin 256) (b : Fin 512) (r : Fin 8192) (d : Fin 8704)
    (hr : r.val = t.val * 256 + a.val) (hd : d.val = 4608 + b.val) :
    iblk m c 0 t (ix2 a b) = V m c main_arg0 (ix2 r d) := by
  blk_simp [iblk]
  exact congrArg (V m c main_arg0) (by blk_ext [idxRest t])

theorem read_qi (c : Dev nD) (t : Fin cfg0.N) (a : Fin 256) (b : Fin 1024) (r : Fin 8192) (d : Fin 8704)
    (hr : r.val = t.val * 256 + a.val) (hd : d.val = 5120 + b.val) :
    indexBlock m c t (ix2 a b) = V m c main_arg0 (ix2 r d) := by
  rw [indexBlock, X0_1]
  unfold Pipeline.Window.fill
  rw [dif_pos (moved0_1 t _)]
  blk_simp [iblk]
  exact congrArg (V m c main_arg0) (by blk_ext [idxRest t])

/-- The batch and the position of a row. -/
def batch (n : Fin 8192) : Fin 4 := ⟨n.val / 2048, by omega⟩

def position (n : Fin 8192) : Fin 2048 := ⟨n.val % 2048, by omega⟩

/-- The four heads of each row, side by side. -/
def rows (H : FVec Ideal S4x2048x4x128 .f32) : FVec Ideal S8192x512 .bf16 := fun i =>
  H (ix4 (batch (i 0)) (position (i 0)) (headOf (i 1)) (laneOf (i 1)))

/-- The four heads of each position, one below the other, positions last. -/
def columns (H : FVec Ideal S4x2048x4x128 .f32) : FVec Ideal S4x512x2048 .bf16 := fun i =>
  H (ix4 (i 0) (i 2) (headOf (i 1)) (laneOf (i 1)))

/-- The indexer's keys of each row. -/
def slabRows (H : FVec Ideal S4x64x2048 .f32) : FVec Ideal S8192x64 .bf16 := fun i =>
  H (ix3 (batch (i 0)) (i 1) (position (i 0)))

/-- The column of the projection that holds a column of the indexer's queries. -/
def indexQueryCol (w : Fin 1024) : Fin 8704 := ⟨5120 + w.val, by omega⟩

/-- The indexer's queries: the projection's columns from 5120 on, turned by the tables, positions last. -/
def indexQueries (A : FVec Ideal S8192x8704 .f32) (c s : FVec Ideal S2048x128 .f32) : FVec Ideal S4x16x64x2048 .bf16 := fun i =>
  A (ix2 (row (i 0) (i 3)) (indexQueryCol (indexCol (i 1) (i 2)))) * c (ix2 (i 3) (pairLane (i 1) (i 2)))
    + A (ix2 (row (i 0) (i 3)) (indexQueryCol (indexCol (i 1) (across (i 2))))) * s (ix2 (i 3) (pairLane (i 1) (i 2)))

theorem indexQueries_at (c : Dev nD) (t : Fin cfg0.N) (y : S1x16x64x256.Idx) (i : S4x16x64x2048.Idx)
    (h0 : (i 0).val = t.val / 8) (h1 : i 1 = y 1) (h2 : i 2 = y 2) (h3 : (i 3).val = t.val % 8 * 256 + (y 3).val) :
    indexHeads (indexBlock m c t) (iblk m c 7 t) (iblk m c 8 t) y
      = indexQueries (V m c main_arg0) (V m c main_v41) (V m c main_v46) i := by
  have hr : (row (i 0) (i 3)).val = t.val * 256 + (y 3).val := by
    show (i 0).val * 2048 + (i 3).val = _
    omega
  unfold indexQueries
  rw [h1, h2]
  exact sum_congr (read_qi m c t _ _ _ _ hr rfl) (read_cosSlab m c t _ _ _ _ h3 rfl) (read_qi m c t _ _ _ _ hr rfl)
    (read_sinSlab m c t _ _ _ _ h3 rfl)

theorem final_indexQueries (c : Dev nD) : (dats m 0 c).arrAt 10 (cfgs 0).N
    = indexQueries (V m c main_arg0) (V m c main_v41) (V m c main_v46) := by
  refine (dats m 0 c).arrAt_eq_of_covers 10 _ (by decide +kernel) fun t _ y => ?_
  blk_simp
  rw [after0_10]
  refine (stored_indexQueries m c t y).trans (indexQueries_at m c t y _ ?_ (Fin.ext ?_) (Fin.ext ?_) ?_)
  all_goals blk_simp [idxRest t]

/-- The queries after the run, from the arrays as the grid finds them. -/
theorem final_queries (c : Dev nD) : (dats m 0 c).arrAt 9 (cfgs 0).N
    = rows (turned 4608 (by decide) (V m c main_arg0) (V m c main_v18) (V m c main_v23)) := by
  refine (dats m 0 c).arrAt_eq_of_covers 9 _ (by decide +kernel) fun t _ y => ?_
  blk_simp
  rw [after0_9]
  have hy : (y 0).val < 256 := (y 0).isLt
  refine (stored_queries m c t y).trans (turned_at m c t _ 4608 _ (read_q m c t) _ _ ?_ ?_ ?_ ?_)
  all_goals
    unfold batch position headOf laneOf
    blk_simp [idxRest t]
  all_goals dsimp only; omega

theorem final_keysCopy (c : Dev nD) : (dats m 0 c).arrAt 12 (cfgs 0).N
    = rows (turned 6144 (by decide) (V m c main_arg0) (V m c main_v18) (V m c main_v23)) := by
  refine (dats m 0 c).arrAt_eq_of_covers 12 _ (by decide +kernel) fun t _ y => ?_
  blk_simp
  rw [after0_12]
  have hy : (y 0).val < 256 := (y 0).isLt
  refine (stored_keysCopy m c t y).trans (turned_at m c t _ 6144 _ (read_k m c t) _ _ ?_ ?_ ?_ ?_)
  all_goals
    unfold batch position headOf laneOf
    blk_simp [idxRest t]
  all_goals dsimp only; omega

theorem final_valuesT (c : Dev nD) : (dats m 0 c).arrAt 14 (cfgs 0).N = columns (values (V m c main_arg0)) := by
  refine (dats m 0 c).arrAt_eq_of_covers 14 _ (by decide +kernel) fun t _ y => ?_
  blk_simp
  rw [after0_14]
  refine (stored_valuesT m c t y).trans (values_at m c t _ _ ?_ ?_ ?_ ?_)
  all_goals
    unfold headOf laneOf
    blk_simp [idxRest t]

theorem final_indexCopy (c : Dev nD) : (dats m 0 c).arrAt 16 (cfgs 0).N
    = slabRows (indexKeys (V m c main_arg0) (V m c main_v41) (V m c main_v46)) := by
  refine (dats m 0 c).arrAt_eq_of_covers 16 _ (by decide +kernel) fun t _ y => ?_
  blk_simp
  rw [after0_16]
  have hy : (y 0).val < 256 := (y 0).isLt
  refine (stored_indexCopy m c t y).trans (index_at m c t _ _ ?_ ?_ ?_)
  all_goals
    unfold batch position
    blk_simp [idxRest t]
  all_goals dsimp only; omega

end Cert.RopeIdeal.Rotary

namespace Cert.RopeRefIdeal.Rotary

open Cert.RopeRefIdeal Cert.RopeRefIdeal.Gen
open Cert.RopeIdeal.Rotary

/-- The columns from 4608 on, by heads. -/
def queriesOf (A : FVec Ideal S8192x8704 .f32) : FVec Ideal S4x2048x4x128 .f32 :=
  shapeCast S4x2048x4x128 (extractStridedSlice S8192x512 ![0, 4608] A slices_S8192x8704_S8192x512_0_4608)
    shapeCasts_S8192x512_S4x2048x4x128

theorem queries_eq (A : FVec Ideal S8192x8704 .f32) (C S : FVec Ideal S2048x64 .f32) :
    rotated (queriesOf A) C S = turned 4608 (by decide) A (table C C) (table (Host.negf S) S) := by
  funext i
  idx_vars i
  refine (rotated_at _ C S i0 i1 i2 i3).trans (sum_congr ?_ rfl ?_ rfl)
  all_goals pointwise [queriesOf, opposite, row]

/-- The reference's rows of four heads, its values with positions last and its rows of indexer's keys, in bfloat16. -/
def rowsRef (H : FVec Ideal S4x2048x4x128 .f32) : FVec Ideal S8192x512 .bf16 :=
  truncf .bf16 (shapeCast S8192x512 H shapeCasts_S4x2048x4x128_S8192x512) bitsLt_bf16_f32

def columnsRef (H : FVec Ideal S4x2048x4x128 .f32) : FVec Ideal S4x512x2048 .bf16 :=
  truncf .bf16 (transpose S4x512x2048 [0, 2, 1] (shapeCast S4x2048x512 H shapeCasts_S4x2048x4x128_S4x2048x512)
    transposes_S4x2048x512_S4x512x2048_0_2_1) bitsLt_bf16_f32

def slabRowsRef (H : FVec Ideal S4x2048x64 .f32) : FVec Ideal S8192x64 .bf16 :=
  truncf .bf16 (shapeCast S8192x64 H shapeCasts_S4x2048x64_S8192x64) bitsLt_bf16_f32

theorem rows_eq (H : FVec Ideal S4x2048x4x128 .f32) : rowsRef H = rows H := by
  funext i
  idx_vars i
  pointwise [rowsRef, rows, batch, position, headOf, laneOf]

theorem columns_eq (H : FVec Ideal S4x2048x4x128 .f32) : columnsRef H = columns H := by
  funext i
  idx_vars i
  pointwise [columnsRef, columns, headOf, laneOf]

theorem slabRows_eq (A : FVec Ideal S8192x8704 .f32) (C S : FVec Ideal S2048x32 .f32) :
    slabRowsRef (indexRows A C S) = slabRows (indexRef A C S) := by
  unfold indexRef
  generalize indexRows A C S = H
  funext i
  idx_vars i
  pointwise [slabRowsRef, slabRows, batch, position]

/-- The columns from 5120 on, by heads of 64. -/
def indexQueriesOf (A : FVec Ideal S8192x8704 .f32) : FVec Ideal S4x2048x16x64 .f32 :=
  shapeCast S4x2048x16x64 (extractStridedSlice S8192x1024 ![0, 5120] A slices_S8192x8704_S8192x1024_0_5120)
    shapeCasts_S8192x1024_S4x2048x16x64

def firstIndex (X : FVec Ideal S4x2048x16x64 .f32) : FVec Ideal S4x2048x16x32 .f32 :=
  extractStridedSlice S4x2048x16x32 ![0, 0, 0, 0] X slices_S4x2048x16x64_S4x2048x16x32_0_0_0_0

def secondIndex (X : FVec Ideal S4x2048x16x64 .f32) : FVec Ideal S4x2048x16x32 .f32 :=
  extractStridedSlice S4x2048x16x32 ![0, 0, 0, 32] X slices_S4x2048x16x64_S4x2048x16x32_0_0_0_32

def spreadIndex (C : FVec Ideal S2048x32 .f32) : FVec Ideal S4x2048x16x32 .f32 :=
  broadcastInDim S4x2048x16x32 ![0, 1, 2, 3] bcast_S1x2048x1x32_S4x2048x16x32_0_1_2_3
    (broadcastInDim S1x2048x1x32 ![1, 2, 3] bcast_S2048x1x32_S1x2048x1x32_1_2_3
      (broadcastInDim S2048x1x32 ![0, 2] bcast_S2048x32_S2048x1x32_0_2 C))

/-- The reference's indexer's queries, operation by operation. -/
def indexQueriesRef (X : FVec Ideal S4x2048x16x64 .f32) (C S : FVec Ideal S2048x32 .f32) : FVec Ideal S4x16x64x2048 .bf16 :=
  truncf .bf16 (transpose S4x16x64x2048 [0, 2, 3, 1] (concatenate S4x2048x16x64 3
    [⟨S4x2048x16x32, subf (mulf (firstIndex X) (spreadIndex C)) (mulf (secondIndex X) (spreadIndex S))⟩,
      ⟨S4x2048x16x32, addf (mulf (secondIndex X) (spreadIndex C)) (mulf (firstIndex X) (spreadIndex S))⟩]
    concatenates_S4x2048x16x32_S4x2048x16x32_S4x2048x16x64_d3) transposes_S4x2048x16x64_S4x16x64x2048_0_2_3_1) bitsLt_bf16_f32

/-- The tables hold their 64 lanes twice. -/
theorem tableSlab_pair (C D : FVec Ideal S2048x32 .f32) (r : Fin 2048) (h : Fin 16) (d : Fin 64) :
    tableSlab C D (ix2 r (pairLane h d))
      = if h : d.val < 32 then C (ix2 r ⟨d.val, h⟩) else D (ix2 r ⟨d.val - 32, by omega⟩) := by
  unfold pairLane
  pointwise [tableSlab]

theorem indexQueries_rotated (X : FVec Ideal S4x2048x16x64 .f32) (C S : FVec Ideal S2048x32 .f32) (b : Fin 4) (h : Fin 16)
    (d : Fin 64) (r : Fin 2048) : indexQueriesRef X C S (ix4 b h d r)
      = X (ix4 b r h d) * tableSlab C C (ix2 r (pairLane h d))
        + X (ix4 b r h (across d)) * tableSlab (Host.negf S) S (ix2 r (pairLane h d)) := by
  pointwise [indexQueriesRef, firstIndex, secondIndex, spreadIndex]
  have at_col : ∀ {e e' : Fin 64} (_ : e.val = e'.val), X (ix4 b r h e) = X (ix4 b r h e') :=
    fun hh => congrArg (fun e => X (ix4 b r h e)) (Fin.ext hh)
  by_cases hd : d.val < 32
  · rw [dif_pos hd]
    exact turn_sub rfl ((tableSlab_pair C C r h d).trans (dif_pos hd)).symm
      (at_col (by show 32 + d.val = (if d.val < 32 then d.val + 32 else d.val - 32); rw [if_pos hd]; omega))
      ((tableSlab_pair (Host.negf S) S r h d).trans ((dif_pos hd).trans rfl)).symm
  · rw [dif_neg hd]
    exact sum_congr (at_col (by show 32 + (d.val - 32) = d.val; omega)) ((tableSlab_pair C C r h d).trans (dif_neg hd)).symm
      (at_col (by show d.val - 32 = (if d.val < 32 then d.val + 32 else d.val - 32); rw [if_neg hd]))
      ((tableSlab_pair (Host.negf S) S r h d).trans (dif_neg hd)).symm

theorem indexQueries_eq (A : FVec Ideal S8192x8704 .f32) (C S : FVec Ideal S2048x32 .f32) :
    indexQueriesRef (indexQueriesOf A) C S = indexQueries A (tableSlab C C) (tableSlab (Host.negf S) S) := by
  funext i
  idx_vars i
  refine (indexQueries_rotated _ C S i0 i1 i2 i3).trans (sum_congr ?_ rfl ?_ rfl)
  all_goals pointwise [indexQueriesOf, row, indexQueryCol, indexCol]

end Cert.RopeRefIdeal.Rotary

namespace Cert.Proof.RopeClaims

open Cert.RopeIdeal.Rotary

theorem preserves : Cert.preserves_Rope_RopeIdeal := trivial

set_option maxHeartbeats 1000000 in
/-- The call's eight results are the reference's over the reals. -/
theorem algebraic : Cert.algebraic_RopeIdeal_RopeRefIdeal := by
  intro m ρ m' ρ' _ hagree
  refine ⟨fun c => (Cert.RopeIdeal.Gen.dats m 0 c).arrAt 9 (Cert.RopeIdeal.cfgs 0).N,
    fun c => (Cert.RopeIdeal.Gen.dats m 0 c).arrAt 10 (Cert.RopeIdeal.cfgs 0).N,
    fun c => (Cert.RopeIdeal.Gen.dats m 0 c).arrAt 11 (Cert.RopeIdeal.cfgs 0).N,
    fun c => (Cert.RopeIdeal.Gen.dats m 0 c).arrAt 12 (Cert.RopeIdeal.cfgs 0).N,
    fun c => (Cert.RopeIdeal.Gen.dats m 0 c).arrAt 13 (Cert.RopeIdeal.cfgs 0).N,
    fun c => (Cert.RopeIdeal.Gen.dats m 0 c).arrAt 14 (Cert.RopeIdeal.cfgs 0).N,
    fun c => (Cert.RopeIdeal.Gen.dats m 0 c).arrAt 15 (Cert.RopeIdeal.cfgs 0).N,
    fun c => (Cert.RopeIdeal.Gen.dats m 0 c).arrAt 16 (Cert.RopeIdeal.cfgs 0).N,
    Cert.RopeIdeal.Value.run_blocks m ρ, ?_⟩
  refine (θ_run Cert.RopeRefIdeal.defs _ _).mono (fun _ h c => ⟨(h c).1.trans ?_, (h c).2.1.trans ?_,
    (h c).2.2.1.trans ?_, (h c).2.2.2.1.trans ?_, (h c).2.2.2.2.1.trans ?_, (h c).2.2.2.2.2.1.trans ?_,
    (h c).2.2.2.2.2.2.1.trans ?_, (h c).2.2.2.2.2.2.2.1.trans ?_, (h c).2.2.2.2.2.2.2.2⟩)
    (Cert.RopeRefIdeal.Value.run (F := Ideal) m' ρ')
  · refine Eq.trans ?_ (final_queries m c).symm
    clear h
    rw [Cert.RopeIdeal.Gen.V_main_arg0, entry_cos, entry_sin, ← hagree c]
    refine Eq.trans ?_ (congrArg rows (Cert.RopeRefIdeal.Rotary.queries_eq _ _ _))
    exact Eq.trans rfl (Cert.RopeRefIdeal.Rotary.rows_eq _)
  · refine Eq.trans ?_ (final_indexQueries m c).symm
    clear h
    rw [Cert.RopeIdeal.Gen.V_main_arg0, entry_cosSlab, entry_sinSlab, ← hagree c]
    refine Eq.trans ?_ (Cert.RopeRefIdeal.Rotary.indexQueries_eq _ _ _)
    rfl
  · refine Eq.trans ?_ (final_keys m c).symm
    clear h
    rw [Cert.RopeIdeal.Gen.V_main_arg0, entry_cos, entry_sin, ← hagree c]
    refine Eq.trans ?_ (Cert.RopeRefIdeal.Rotary.keys_eq _ _ _)
    rfl
  · refine Eq.trans ?_ (final_keysCopy m c).symm
    clear h
    rw [Cert.RopeIdeal.Gen.V_main_arg0, entry_cos, entry_sin, ← hagree c]
    refine Eq.trans ?_ (congrArg rows (Cert.RopeRefIdeal.Rotary.keys_eq _ _ _))
    exact Eq.trans rfl (Cert.RopeRefIdeal.Rotary.rows_eq _)
  · refine Eq.trans ?_ (final_values m c).symm
    clear h
    rw [Cert.RopeIdeal.Gen.V_main_arg0, ← hagree c]
    refine Eq.trans ?_ (Cert.RopeRefIdeal.Rotary.values_eq _)
    rfl
  · refine Eq.trans ?_ (final_valuesT m c).symm
    clear h
    rw [Cert.RopeIdeal.Gen.V_main_arg0, ← hagree c]
    refine Eq.trans ?_ (congrArg columns (Cert.RopeRefIdeal.Rotary.values_eq _))
    exact Eq.trans rfl (Cert.RopeRefIdeal.Rotary.columns_eq _)
  · refine Eq.trans ?_ (final_index m c).symm
    clear h
    rw [Cert.RopeIdeal.Gen.V_main_arg0, entry_cosSlab, entry_sinSlab, ← hagree c]
    refine Eq.trans ?_ (Cert.RopeRefIdeal.Rotary.index_eq _ _ _)
    rfl
  · refine Eq.trans ?_ (final_indexCopy m c).symm
    clear h
    rw [Cert.RopeIdeal.Gen.V_main_arg0, entry_cosSlab, entry_sinSlab, ← hagree c]
    refine Eq.trans ?_ (congrArg slabRows (Cert.RopeRefIdeal.Rotary.index_eq _ _ _))
    exact Eq.trans rfl (Cert.RopeRefIdeal.Rotary.slabRows_eq _ _ _)

end Cert.Proof.RopeClaims

end
-- ==== Proof.RopeSampleRest.lean ====
/-
  The other results of the sample group's rotary embedding: the queries, the bfloat16 copies of keys, values and indexer's
  keys, and the indexer's queries, sixteen heads of 64 lanes, each head's rows by sequence and position.
-/
module

public import proofs.«01_k».proof.Proof.RopeRest

@[expose] public section

set_option maxRecDepth 16384

noncomputable section

open Idealize.ShloMosaic Idealize.ShloMosaic.TcCoe Idealize.SL.Sem
open Idealize.ShloMosaic.Pipeline (Dat)

namespace Cert.RopeSampleIdeal.Rotary

open Cert.RopeSampleIdeal Cert.RopeSampleIdeal.Gen
open Cert.RopeIdeal.Rotary (sum_congr indexCol pairLane acrossPair evenHead oddHead sixteen pair pair_at)

variable (m : (ℓ : Loc nD τ sig) → Buf (Elt Ideal) ℓ)

/-- The block of each further window at the grid point. -/
theorem idxRest : ∀ t : Fin cfg0.N, win0_0.index t = ![0, 9] ∧ win0_1.index t = ![0, 5]
    ∧ win0_9.index t = ![0, 0] ∧ win0_10.index t = ![0, 0, 0, 0] ∧ win0_12.index t = ![0, 0]
    ∧ win0_14.index t = ![0, 0] ∧ win0_16.index t = ![0, 0] :=
  (by decide +kernel : ∀ t : Fin grid0.N, _)

/-- The copy of an array in bfloat16, which over the extended reals holds the same values. -/
def copy {s : Shape} (H : FVec Ideal s .f32) : FVec Ideal s .bf16 := fun i => H i

/-- What is stored of the queries for a head, from the head `x` of the rows, and of the copy of the keys. -/
theorem stored_query (a b x : FVec Ideal S256x128 .f32) (r : Fin 256) (d : Fin 128) (v : EReal)
    (hv : x (ix2 r d) * a (ix2 r d) + x (ix2 r ⟨(d.val + 128 - 64) % 128, by omega⟩) * b (ix2 r d) = v) :
    k0_pay5 (F := Ideal) a b x (ix2 r d) = v ∧ k0_pay8 (F := Ideal) a b x (ix2 r d) = v
      ∧ k0_pay11 (F := Ideal) (k0_pay1 a) (k0_pay2 b) x (ix2 r d) = v
      ∧ k0_pay14 (F := Ideal) (k0_pay1 a) (k0_pay2 b) x (ix2 r d) = v := by
  rw [← hv]
  refine ⟨?_, ?_, ?_, ?_⟩
  all_goals pointwise [k0_pay5, k0_pay8, k0_pay11, k0_pay14, k0_pay1, k0_pay2]

theorem stored_copy (a b x : FVec Ideal S256x128 .f32) (r : Fin 256) (d : Fin 128) (v : EReal)
    (hv : x (ix2 r d) * a (ix2 r d) + x (ix2 r ⟨(d.val + 128 - 64) % 128, by omega⟩) * b (ix2 r d) = v) :
    k0_pay7 (F := Ideal) a b x (ix2 r d) = v ∧ k0_pay10 (F := Ideal) (k0_pay1 a) (k0_pay2 b) x (ix2 r d) = v
      ∧ k0_pay13 (F := Ideal) (k0_pay1 a) (k0_pay2 b) x (ix2 r d) = v
      ∧ k0_pay17 (F := Ideal) (k0_pay2 b) x (k0_pay15 (k0_pay1 a) x) (ix2 r d) = v := by
  rw [← hv]
  refine ⟨?_, ?_, ?_, ?_⟩
  all_goals pointwise [k0_pay7, k0_pay10, k0_pay13, k0_pay17, k0_pay6, k0_pay9, k0_pay12, k0_pay16, k0_pay15, k0_pay1, k0_pay2]

theorem stored_queries (c : Dev nD) (t : Fin cfg0.N) (y : S256x512.Idx) :
    (outsAt0 m c t).1 y = heads (iblk m c 0 t) (iblk m c 5 t) (iblk m c 6 t) y := by
  rw [outsAt0]
  frame_out
  generalize iblk m c 0 t = X
  generalize iblk m c 5 t = a
  generalize iblk m c 6 t = b
  have key := fun (o : ℕ) (ho : o ≤ 384) (h : o % 128 = 0) (inb) (r : Fin 256) (d : Fin 128) =>
    stored_query a b _ r d _ (turned_head X a b _ o ho h (loaded_head X o ho inb) r d)
  refine congrFun (four _ _ _ _ _ ?_ ?_ ?_ ?_) y
  · exact fun r d => (key 0 (by omega) rfl inb_S256x512_S256x128_0_0 r d).1
  · exact fun r d => (key 128 (by omega) rfl inb_S256x512_S256x128_0_128 r d).2.1
  · exact fun r d => (key 256 (by omega) rfl inb_S256x512_S256x128_0_256 r d).2.2.1
  · exact fun r d => (key 384 (by omega) rfl inb_S256x512_S256x128_0_384 r d).2.2.2

theorem stored_keysCopy (c : Dev nD) (t : Fin cfg0.N) (y : S256x512.Idx) :
    (outsAt0 m c t).2.2.2.1 y = copy (heads (iblk m c 2 t) (iblk m c 5 t) (iblk m c 6 t)) y := by
  rw [outsAt0]
  frame_out
  generalize iblk m c 2 t = X
  generalize iblk m c 5 t = a
  generalize iblk m c 6 t = b
  have key := fun (o : ℕ) (ho : o ≤ 384) (h : o % 128 = 0) (inb) (r : Fin 256) (d : Fin 128) =>
    stored_copy a b _ r d _ (turned_head X a b _ o ho h (loaded_head X o ho inb) r d)
  refine congrFun (four (e := .bf16) (copy (heads X a b)) _ _ _ _ ?_ ?_ ?_ ?_) y
  · exact fun r d => (key 0 (by omega) rfl inb_S256x512_S256x128_0_0 r d).1
  · exact fun r d => (key 128 (by omega) rfl inb_S256x512_S256x128_0_128 r d).2.1
  · exact fun r d => (key 256 (by omega) rfl inb_S256x512_S256x128_0_256 r d).2.2.1
  · exact fun r d => (key 384 (by omega) rfl inb_S256x512_S256x128_0_384 r d).2.2.2

theorem stored_valuesCopy (c : Dev nD) (t : Fin cfg0.N) (y : S256x512.Idx) :
    (outsAt0 m c t).2.2.2.2.2.1 y = iblk m c 3 t y := by
  rw [outsAt0]
  frame_out
  pointwise [k0_pay18]

theorem stored_indexCopy (c : Dev nD) (t : Fin cfg0.N) (y : S256x64.Idx) :
    (outsAt0 m c t).2.2.2.2.2.2.2 y = slab (iblk m c 4 t) (iblk m c 7 t) (iblk m c 8 t) y := by
  rw [outsAt0]
  frame_out
  exact slab_eq _ _ _ y

/-- The row of a sequence's position. -/
def rowOf (b : Fin 32) (p : Fin 8) : Fin 256 := ⟨b.val * 8 + p.val, by omega⟩

/-- The indexer's queries of the rows, turned by the tables, by sequence, head and position. -/
def indexHeads (X : FVec Ideal S256x1024 .f32) (c s : FVec Ideal S256x128 .f32) : FVec Ideal S32x16x8x64 .f32 := fun y =>
  X (ix2 (rowOf (y 0) (y 2)) (indexCol (y 1) (y 3))) * c (ix2 (rowOf (y 0) (y 2)) (pairLane (y 1) (y 3)))
    + X (ix2 (rowOf (y 0) (y 2)) (indexCol (y 1) (acrossSlab (y 3)))) * s (ix2 (rowOf (y 0) (y 2)) (pairLane (y 1) (y 3)))

/-- A pair of heads turned by the tables. -/
theorem turned_pair (c s x : FVec Ideal S256x128 .f32) (r : Fin 256) (e : Fin 128) : k0_pay19 (F := Ideal) c s x (ix2 r e)
    = x (ix2 r e) * c (ix2 r e) + x (ix2 r (acrossPair e)) * s (ix2 r e) := by
  have hsel : ∀ e : Fin 128, IntOp.cmpi CmpIPredicate.slt (IntOp.andi (BitVec.ofNat 32 e.val) 63#32) 32#32
      = if e.val % 64 < 32 then 1#1 else 0#1 := by decide
  unfold acrossPair
  pointwise [k0_pay19]
  rw [hsel e]
  by_cases h : e.val % 64 < 32
  · simp only [if_pos h]
    refine congrArg (fun l => x (ix2 r e) * c (ix2 r e) + x (ix2 r l) * s (ix2 r e)) (Fin.ext ?_)
    show (e.val + 128 - 96) % 128 = e.val + 32
    omega
  · simp only [if_neg h]
    refine congrArg (fun l => x (ix2 r e) * c (ix2 r e) + x (ix2 r l) * s (ix2 r e)) (Fin.ext ?_)
    show (e.val + 128 - 32) % 128 = e.val - 32
    omega

/-- What is stored for the first head of a pair and for the second. -/
theorem stored_first (c s x : FVec Ideal S256x128 .f32) (b : Fin 32) (p : Fin 8) (d : Fin 64) :
    k0_pay20 (F := Ideal) c s x (ix4 b 0 p d) = k0_pay19 (F := Ideal) c s x (ix2 (rowOf b p) ⟨d.val, by omega⟩) := by
  unfold k0_pay20 rowOf
  generalize k0_pay19 (F := Ideal) c s x = Y
  pointwise []

theorem stored_second (c s x : FVec Ideal S256x128 .f32) (b : Fin 32) (p : Fin 8) (d : Fin 64) :
    k0_pay22 (F := Ideal) (k0_pay21 c s x) (ix4 b 0 p d)
      = k0_pay19 (F := Ideal) c s x (ix2 (rowOf b p) ⟨64 + d.val, by omega⟩) := by
  unfold k0_pay22 k0_pay21 rowOf
  generalize k0_pay19 (F := Ideal) c s x = Y
  pointwise []

theorem pair_index (X : FVec Ideal S256x1024 .f32) (a b : FVec Ideal S256x128 .f32) (j : Fin 8) (h : Fin 16) (n : Fin 32)
    (p : Fin 8) (d : Fin 64) (e : Fin 128) (he : e.val = h.val % 2 * 64 + d.val) (hj : h.val / 2 = j.val) :
    k0_pay19 (F := Ideal) a b (pair X j) (ix2 (rowOf n p) e) = indexHeads X a b (ix4 n h p d) := by
  have hl : e = pairLane h d := Fin.ext he
  have hd : d.val < 64 := d.isLt
  show _ = X (ix2 (rowOf n p) (indexCol h d)) * a (ix2 (rowOf n p) (pairLane h d))
    + X (ix2 (rowOf n p) (indexCol h (acrossSlab d))) * b (ix2 (rowOf n p) (pairLane h d))
  generalize rowOf n p = r
  refine (turned_pair a b _ r e).trans (sum_congr ((pair_at X j r e).trans (congrArg (fun l => X (ix2 r l)) (Fin.ext ?_)))
    (congrArg (fun l => a (ix2 r l)) hl) ((pair_at X j r _).trans (congrArg (fun l => X (ix2 r l)) (Fin.ext ?_)))
    (congrArg (fun l => b (ix2 r l)) hl))
  · show j.val * 128 + e.val = h.val * 64 + d.val
    omega
  · show j.val * 128 + (if e.val % 64 < 32 then e.val + 32 else e.val - 32)
      = h.val * 64 + (if d.val < 32 then d.val + 32 else d.val - 32)
    have hm : e.val % 64 = d.val := by omega
    rw [hm]
    split <;> omega

/-- The block of the projection that holds the indexer's queries. -/
def indexBlock (c : Dev nD) (t : Fin cfg0.N) : FVec Ideal S256x1024 .f32 := X0_1 m c t

set_option maxHeartbeats 1000000 in
theorem stored_indexQueries (c : Dev nD) (t : Fin cfg0.N) (y : S32x16x8x64.Idx) :
    (outsAt0 m c t).2.1 y = indexHeads (indexBlock m c t) (iblk m c 7 t) (iblk m c 8 t) y := by
  have hc : ∀ a : FVec Ideal S256x128 .f32, k0_pay3 (F := Ideal) a = a := fun a => by funext j; pointwise [k0_pay3]
  have hs : ∀ a : FVec Ideal S256x128 .f32, k0_pay4 (F := Ideal) a = a := fun a => by funext j; pointwise [k0_pay4]
  rw [outsAt0]
  frame_out
  generalize iblk m c 7 t = a
  generalize iblk m c 8 t = b
  refine Eq.trans ?_ (congrArg (fun c' => indexHeads (indexBlock m c t) c' b y) (hc a))
  refine Eq.trans ?_ (congrArg (fun s' => indexHeads (indexBlock m c t) (k0_pay3 a) s' y) (hs b))
  generalize k0_pay3 a = a
  generalize k0_pay4 b = b
  exact congrFun (sixteen (n := 32) (p := 8) (q := 64) (e := .f32) (indexHeads (indexBlock m c t) a b) (fun j => k0_pay20 a b (pair (indexBlock m c t) j))
    (fun j => k0_pay22 (k0_pay21 a b (pair (indexBlock m c t) j)))
    (fun j n p d => (stored_first a b _ n p d).trans (pair_index _ a b j (evenHead j) n p d _
      (by show d.val = 2 * j.val % 2 * 64 + d.val; omega) (by show 2 * j.val / 2 = j.val; omega)))
    (fun j n p d => (stored_second a b _ n p d).trans (pair_index _ a b j (oddHead j) n p d _
      (by show 64 + d.val = (2 * j.val + 1) % 2 * 64 + d.val; omega) (by show (2 * j.val + 1) / 2 = j.val; omega)))) y

theorem read_q (c : Dev nD) (t : Fin cfg0.N) (a : Fin 256) (b : Fin 512) :
    iblk m c 0 t (ix2 a b) = V m c main_arg0 (ix2 a ⟨4608 + b.val, by omega⟩) := by
  blk_simp [iblk]
  exact congrArg (V m c main_arg0) (by blk_ext [idxRest t])

/-- The column of the projection that holds a column of the indexer's queries. -/
def indexQueryCol (w : Fin 1024) : Fin 8704 := ⟨5120 + w.val, by omega⟩

theorem read_qi (c : Dev nD) (t : Fin cfg0.N) (a : Fin 256) (b : Fin 1024) :
    indexBlock m c t (ix2 a b) = V m c main_arg0 (ix2 a (indexQueryCol b)) := by
  rw [indexBlock, X0_1]
  unfold Pipeline.Window.fill indexQueryCol
  rw [dif_pos (moved0_1 t _)]
  blk_simp [iblk]
  exact congrArg (V m c main_arg0) (by blk_ext [idxRest t])

/-- The indexer's queries: the projection's columns from 5120 on, turned by the tables. -/
def indexQueries (A : FVec Ideal S256x8704 .f32) (c s : FVec Ideal S256x128 .f32) : FVec Ideal S32x16x8x64 .f32 :=
  indexHeads (fun y => A (ix2 (y 0) (indexQueryCol (y 1)))) c s

theorem indexQueries_at (c : Dev nD) (t : Fin cfg0.N) (y i : S32x16x8x64.Idx)
    (h0 : i 0 = y 0) (h1 : i 1 = y 1) (h2 : i 2 = y 2) (h3 : i 3 = y 3) :
    indexHeads (indexBlock m c t) (iblk m c 7 t) (iblk m c 8 t) y
      = indexQueries (V m c main_arg0) (V m c main_v57) (V m c main_v60) i := by
  unfold indexQueries indexHeads
  rw [h0, h1, h2, h3]
  exact sum_congr (read_qi m c t _ _) (read_cosSlab m c t _ _) (read_qi m c t _ _) (read_sinSlab m c t _ _)

/-- The queries after the run, from the arrays as the grid finds them. -/
theorem final_queries (c : Dev nD) : (dats m 0 c).arrAt 9 (cfgs 0).N
    = columns 4608 (by decide) (V m c main_arg0) (V m c main_v51) (V m c main_v54) := by
  refine (dats m 0 c).arrAt_eq_of_covers 9 _ (by decide +kernel) fun t _ y => ?_
  blk_simp
  rw [after0_9]
  refine (stored_queries m c t y).trans (columns_at m c t _ 4608 _ (read_q m c t) y _ (Fin.ext ?_) (Fin.ext ?_))
  all_goals blk_simp [idxRest t]

theorem final_indexQueries (c : Dev nD) : (dats m 0 c).arrAt 10 (cfgs 0).N
    = indexQueries (V m c main_arg0) (V m c main_v57) (V m c main_v60) := by
  refine (dats m 0 c).arrAt_eq_of_covers 10 _ (by decide +kernel) fun t _ y => ?_
  blk_simp
  rw [after0_10]
  refine (stored_indexQueries m c t y).trans
    (indexQueries_at m c t y _ (Fin.ext ?_) (Fin.ext ?_) (Fin.ext ?_) (Fin.ext ?_))
  all_goals blk_simp [idxRest t]

theorem final_keysCopy (c : Dev nD) : (dats m 0 c).arrAt 12 (cfgs 0).N
    = copy (columns 6144 (by decide) (V m c main_arg0) (V m c main_v51) (V m c main_v54)) := by
  refine (dats m 0 c).arrAt_eq_of_covers 12 _ (by decide +kernel) fun t _ y => ?_
  blk_simp
  rw [after0_12]
  refine (stored_keysCopy m c t y).trans (columns_at m c t _ 6144 _ (read_k m c t) y _ (Fin.ext ?_) (Fin.ext ?_))
  all_goals blk_simp [idxRest t]

theorem final_valuesCopy (c : Dev nD) : (dats m 0 c).arrAt 14 (cfgs 0).N = copy (values (V m c main_arg0)) := by
  refine (dats m 0 c).arrAt_eq_of_covers 14 _ (by decide +kernel) fun t _ y => ?_
  blk_simp
  rw [after0_14]
  refine (stored_valuesCopy m c t y).trans (values_at m c t y _ (Fin.ext ?_) (Fin.ext ?_))
  all_goals blk_simp [idxRest t]

theorem final_indexCopy (c : Dev nD) : (dats m 0 c).arrAt 16 (cfgs 0).N
    = copy (indexKeys (V m c main_arg0) (V m c main_v57) (V m c main_v60)) := by
  refine (dats m 0 c).arrAt_eq_of_covers 16 _ (by decide +kernel) fun t _ y => ?_
  blk_simp
  rw [after0_16]
  refine (stored_indexCopy m c t y).trans (index_at m c t y _ (Fin.ext ?_) (Fin.ext ?_))
  all_goals blk_simp [idxRest t]

end Cert.RopeSampleIdeal.Rotary

namespace Cert.RopeSampleRefIdeal.Rotary

open Cert.RopeSampleRefIdeal Cert.RopeSampleRefIdeal.Gen
open Cert.RopeSampleIdeal.Rotary
open Cert.RopeIdeal.Rotary (sum_congr indexCol pairLane)
open Cert.RopeRefIdeal.Rotary (turn_sub)

/-- The reference's columns of the queries. -/
def queryColumns (A : FVec Ideal S256x8704 .f32) : FVec Ideal S256x512 .f32 :=
  extractStridedSlice S256x512 ![0, 4608] A slices_S256x8704_S256x512_0_4608

theorem queries_eq (A : FVec Ideal S256x8704 .f32) (C S : FVec Ideal S8x64 .f32) :
    rotated (queryColumns A) C S = columns 4608 (by decide) A (tiled (table C C)) (tiled (table (Host.negf S) S)) := by
  refine (rotated_eq _ C S).trans (congrArg (fun X => heads X _ _) ?_)
  funext i
  idx_vars i
  pointwise [queryColumns, cut]

/-- The cast to bfloat16 is the copy. -/
theorem copy_eq {s : Shape} (H : FVec Ideal s .f32) : truncf .bf16 H bitsLt_bf16_f32 = copy H := rfl

/-- The columns from 5120 on, by heads of 64. -/
def indexQueriesOf (A : FVec Ideal S256x8704 .f32) : FVec Ideal S32x8x16x64 .f32 :=
  shapeCast S32x8x16x64 (extractStridedSlice S256x1024 ![0, 5120] A slices_S256x8704_S256x1024_0_5120)
    shapeCasts_S256x1024_S32x8x16x64

def firstIndex (X : FVec Ideal S32x8x16x64 .f32) : FVec Ideal S32x8x16x32 .f32 :=
  extractStridedSlice S32x8x16x32 ![0, 0, 0, 0] X slices_S32x8x16x64_S32x8x16x32_0_0_0_0

def secondIndex (X : FVec Ideal S32x8x16x64 .f32) : FVec Ideal S32x8x16x32 .f32 :=
  extractStridedSlice S32x8x16x32 ![0, 0, 0, 32] X slices_S32x8x16x64_S32x8x16x32_0_0_0_32

def spreadIndex (C : FVec Ideal S8x32 .f32) : FVec Ideal S32x8x16x32 .f32 :=
  broadcastInDim S32x8x16x32 ![0, 1, 2, 3] bcast_S1x8x1x32_S32x8x16x32_0_1_2_3
    (broadcastInDim S1x8x1x32 ![1, 2, 3] bcast_S8x1x32_S1x8x1x32_1_2_3
      (broadcastInDim S8x1x32 ![0, 2] bcast_S8x32_S8x1x32_0_2 C))

/-- The reference's indexer's queries, operation by operation. -/
def indexQueriesRef (X : FVec Ideal S32x8x16x64 .f32) (C S : FVec Ideal S8x32 .f32) : FVec Ideal S32x16x8x64 .f32 :=
  transpose S32x16x8x64 [0, 2, 1, 3] (concatenate S32x8x16x64 3
    [⟨S32x8x16x32, subf (mulf (firstIndex X) (spreadIndex C)) (mulf (secondIndex X) (spreadIndex S))⟩,
      ⟨S32x8x16x32, addf (mulf (secondIndex X) (spreadIndex C)) (mulf (firstIndex X) (spreadIndex S))⟩]
    concatenates_S32x8x16x32_S32x8x16x32_S32x8x16x64_d3) transposes_S32x8x16x64_S32x16x8x64_0_2_1_3

/-- The tables hold their 64 lanes twice. -/
theorem tableSlab_pair (C D : FVec Ideal S8x32 .f32) (b : Fin 32) (p : Fin 8) (h : Fin 16) (d : Fin 64) :
    tiled (tableSlab C D) (ix2 (rowOf b p) (pairLane h d))
      = if h : d.val < 32 then C (ix2 p ⟨d.val, h⟩) else D (ix2 p ⟨d.val - 32, by omega⟩) := by
  have hp : place (rowOf b p) = p := Fin.ext (by show (b.val * 8 + p.val) % 8 = p.val; omega)
  rw [tiled_at, hp]
  unfold pairLane
  pointwise [tableSlab]

theorem indexQueries_rotated (X : FVec Ideal S32x8x16x64 .f32) (C S : FVec Ideal S8x32 .f32) (b : Fin 32) (h : Fin 16)
    (p : Fin 8) (d : Fin 64) : indexQueriesRef X C S (ix4 b h p d)
      = X (ix4 b p h d) * tiled (tableSlab C C) (ix2 (rowOf b p) (pairLane h d))
        + X (ix4 b p h (acrossSlab d)) * tiled (tableSlab (Host.negf S) S) (ix2 (rowOf b p) (pairLane h d)) := by
  pointwise [indexQueriesRef, firstIndex, secondIndex, spreadIndex]
  have at_col : ∀ {e e' : Fin 64} (_ : e.val = e'.val), X (ix4 b p h e) = X (ix4 b p h e') :=
    fun hh => congrArg (fun e => X (ix4 b p h e)) (Fin.ext hh)
  by_cases hd : d.val < 32
  · rw [dif_pos hd]
    exact turn_sub rfl ((tableSlab_pair C C b p h d).trans (dif_pos hd)).symm
      (at_col (by show 32 + d.val = (if d.val < 32 then d.val + 32 else d.val - 32); rw [if_pos hd]; omega))
      ((tableSlab_pair (Host.negf S) S b p h d).trans ((dif_pos hd).trans rfl)).symm
  · rw [dif_neg hd]
    exact sum_congr (at_col (by show 32 + (d.val - 32) = d.val; omega)) ((tableSlab_pair C C b p h d).trans (dif_neg hd)).symm
      (at_col (by show d.val - 32 = (if d.val < 32 then d.val + 32 else d.val - 32); rw [if_neg hd]))
      ((tableSlab_pair (Host.negf S) S b p h d).trans (dif_neg hd)).symm

theorem indexQueries_eq (A : FVec Ideal S256x8704 .f32) (C S : FVec Ideal S8x32 .f32) :
    indexQueriesRef (indexQueriesOf A) C S
      = indexQueries A (tiled (tableSlab C C)) (tiled (tableSlab (Host.negf S) S)) := by
  funext i
  idx_vars i
  refine (indexQueries_rotated _ C S i0 i1 i2 i3).trans (sum_congr ?_ rfl ?_ rfl)
  all_goals pointwise [indexQueriesOf, rowOf, indexQueryCol, indexCol]

end Cert.RopeSampleRefIdeal.Rotary

namespace Cert.Proof.RopeSampleClaims

open Cert.RopeSampleIdeal.Rotary

theorem preserves : Cert.preserves_RopeSample_RopeSampleIdeal := trivial

set_option maxHeartbeats 1000000 in
/-- The call's eight results are the reference's over the reals. -/
theorem algebraic : Cert.algebraic_RopeSampleIdeal_RopeSampleRefIdeal := by
  intro m ρ m' ρ' _ hagree
  refine ⟨fun c => (Cert.RopeSampleIdeal.Gen.dats m 0 c).arrAt 9 (Cert.RopeSampleIdeal.cfgs 0).N,
    fun c => (Cert.RopeSampleIdeal.Gen.dats m 0 c).arrAt 10 (Cert.RopeSampleIdeal.cfgs 0).N,
    fun c => (Cert.RopeSampleIdeal.Gen.dats m 0 c).arrAt 11 (Cert.RopeSampleIdeal.cfgs 0).N,
    fun c => (Cert.RopeSampleIdeal.Gen.dats m 0 c).arrAt 12 (Cert.RopeSampleIdeal.cfgs 0).N,
    fun c => (Cert.RopeSampleIdeal.Gen.dats m 0 c).arrAt 13 (Cert.RopeSampleIdeal.cfgs 0).N,
    fun c => (Cert.RopeSampleIdeal.Gen.dats m 0 c).arrAt 14 (Cert.RopeSampleIdeal.cfgs 0).N,
    fun c => (Cert.RopeSampleIdeal.Gen.dats m 0 c).arrAt 15 (Cert.RopeSampleIdeal.cfgs 0).N,
    fun c => (Cert.RopeSampleIdeal.Gen.dats m 0 c).arrAt 16 (Cert.RopeSampleIdeal.cfgs 0).N,
    Cert.RopeSampleIdeal.Value.run_blocks m ρ, ?_⟩
  refine (θ_run Cert.RopeSampleRefIdeal.defs _ _).mono (fun _ h c => ⟨(h c).1.trans ?_, (h c).2.1.trans ?_,
    (h c).2.2.1.trans ?_, (h c).2.2.2.1.trans ?_, (h c).2.2.2.2.1.trans ?_, (h c).2.2.2.2.2.1.trans ?_,
    (h c).2.2.2.2.2.2.1.trans ?_, (h c).2.2.2.2.2.2.2.1.trans ?_, (h c).2.2.2.2.2.2.2.2⟩)
    (Cert.RopeSampleRefIdeal.Value.run (F := Ideal) m' ρ')
  · refine Eq.trans ?_ (final_queries m c).symm
    clear h
    rw [Cert.RopeSampleIdeal.Gen.V_main_arg0, entry_cos, entry_sin, ← hagree c]
    refine Eq.trans ?_ (Cert.RopeSampleRefIdeal.Rotary.queries_eq _ _ _)
    rfl
  · refine Eq.trans ?_ (final_indexQueries m c).symm
    clear h
    rw [Cert.RopeSampleIdeal.Gen.V_main_arg0, entry_cosSlab, entry_sinSlab, ← hagree c]
    refine Eq.trans ?_ (Cert.RopeSampleRefIdeal.Rotary.indexQueries_eq _ _ _)
    rfl
  · refine Eq.trans ?_ (final_keys m c).symm
    clear h
    rw [Cert.RopeSampleIdeal.Gen.V_main_arg0, entry_cos, entry_sin, ← hagree c]
    refine Eq.trans ?_ (Cert.RopeSampleRefIdeal.Rotary.keys_eq _ _ _)
    rfl
  · refine Eq.trans ?_ (final_keysCopy m c).symm
    clear h
    rw [Cert.RopeSampleIdeal.Gen.V_main_arg0, entry_cos, entry_sin, ← hagree c]
    refine Eq.trans ?_ (congrArg copy (Cert.RopeSampleRefIdeal.Rotary.keys_eq _ _ _))
    exact Eq.trans rfl (Cert.RopeSampleRefIdeal.Rotary.copy_eq _)
  · refine Eq.trans ?_ (final_values m c).symm
    clear h
    rw [Cert.RopeSampleIdeal.Gen.V_main_arg0, ← hagree c]
    refine Eq.trans ?_ (Cert.RopeSampleRefIdeal.Rotary.values_eq _)
    rfl
  · refine Eq.trans ?_ (final_valuesCopy m c).symm
    clear h
    rw [Cert.RopeSampleIdeal.Gen.V_main_arg0, ← hagree c]
    refine Eq.trans ?_ (congrArg copy (Cert.RopeSampleRefIdeal.Rotary.values_eq _))
    exact Eq.trans rfl (Cert.RopeSampleRefIdeal.Rotary.copy_eq _)
  · refine Eq.trans ?_ (final_index m c).symm
    clear h
    rw [Cert.RopeSampleIdeal.Gen.V_main_arg0, entry_cosSlab, entry_sinSlab, ← hagree c]
    refine Eq.trans ?_ (Cert.RopeSampleRefIdeal.Rotary.index_eq _ _ _)
    rfl
  · refine Eq.trans ?_ (final_indexCopy m c).symm
    clear h
    rw [Cert.RopeSampleIdeal.Gen.V_main_arg0, entry_cosSlab, entry_sinSlab, ← hagree c]
    refine Eq.trans ?_ (congrArg copy (Cert.RopeSampleRefIdeal.Rotary.index_eq _ _ _))
    exact Eq.trans rfl (Cert.RopeSampleRefIdeal.Rotary.copy_eq _)

end Cert.Proof.RopeSampleClaims

end
-- ==== Proof.MemAttn.lean ====
/-
  The attention over the memory tokens: each head's scores against the batch's 256 keys, their softmax, the values' mean
  under it, times the gate.
-/
module

public import proofs.«01_k».proof.Proof.RowNorm
public import proofs.«01_k».proof.Proof.Gen.KernelIdeal.Value
public import proofs.«01_k».proof.Proof.Gen.ReferenceIdeal.Run
public import Idealize.ShloMosaic.Lib.Pipeline.ValueKit
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen

/-- A query's score against one key. -/
def score (q : Fin 128 → EReal) (K : Fin 256 → Fin 128 → EReal) (n : Fin 256) : EReal :=
  (∑ d : Fin 128, q d * K n d) * Ideal.ofBits .f32 0x3DB504F3#32

/-- The weight of one key before the division: the exponential of its score less the greatest score. -/
def weight (q : Fin 128 → EReal) (K : Fin 256 → Fin 128 → EReal) (n : Fin 256) : EReal :=
  Ideal.exp (score q K n - Finset.fold max (Ideal.ofBits .f32 0xFF800000#32) (score q K) Finset.univ)

/-- The mean of the values under the softmax of the scores. -/
def attended (q : Fin 128 → EReal) (K : Fin 256 → Fin 128 → EReal) (v : Fin 256 → EReal) : EReal :=
  ∑ n : Fin 256, Ideal.div (weight q K n) (∑ n' : Fin 256, weight q K n') * v n

/-- The gate `g / (1 + exp(-g))`. -/
def gate (g : EReal) : EReal := Ideal.div g (1 + Ideal.exp (-g))

theorem attended_congr {q q' : Fin 128 → EReal} {K K' : Fin 256 → Fin 128 → EReal} {v v' : Fin 256 → EReal}
    (hq : ∀ d, q d = q' d) (hK : ∀ n d, K n d = K' n d) (hv : ∀ n, v n = v' n) :
    attended q K v = attended q' K' v' := by
  rw [funext hq, funext fun n => funext (hK n), funext hv]

/-- The whole result: row `r` of batch `r / 2048`, column `e` of head `e / 128`. -/
def gatedAttention (P : FVec Ideal S8192x8704 .f32) (M : FVec Ideal S1024x1024 .f32) : FVec Ideal S8192x512 .bf16 :=
  fun i => attended
      (fun d => P (ix2 (i 0) ⟨7680 + ((i 1).val / 128 * 128 + d.val), by have : (i 1).val < 512 := (i 1).isLt; omega⟩))
      (fun n d => M (ix2 ⟨(i 0).val / 2048 * 256 + n.val, by have : (i 0).val < 8192 := (i 0).isLt; omega⟩
        ⟨(i 1).val / 128 * 128 + d.val, by have : (i 1).val < 512 := (i 1).isLt; omega⟩))
      (fun n => M (ix2 ⟨(i 0).val / 2048 * 256 + n.val, by have : (i 0).val < 8192 := (i 0).isLt; omega⟩
        ⟨512 + (i 1).val, by have : (i 1).val < 512 := (i 1).isLt; omega⟩))
    * gate (P (ix2 (i 0) ⟨8192 + (i 1).val, by have : (i 1).val < 512 := (i 1).isLt; omega⟩))

theorem head0 (q : FVec Ideal S1024x128 .f32) (k v : FVec Ideal S256x128 .f32) (a : Fin 1024) (d : Fin 128) :
    k0_pay2 (F := Ideal) q k v (ix2 a d)
      = attended (fun l => q (ix2 a l)) (fun n l => k (ix2 n l)) (fun n => v (ix2 n d)) := by
  pointwise [k0_pay2, attended, weight, score]

theorem head1 (q : FVec Ideal S1024x128 .f32) (k v : FVec Ideal S256x128 .f32) (a : Fin 1024) (d : Fin 128) :
    k0_pay4 (F := Ideal) (k0_pay3 (F := Ideal) q k) v (ix2 a d)
      = attended (fun l => q (ix2 a l)) (fun n l => k (ix2 n l)) (fun n => v (ix2 n d)) := by
  pointwise [k0_pay3, k0_pay4, attended, weight, score]

theorem head2 (q : FVec Ideal S1024x128 .f32) (k v : FVec Ideal S256x128 .f32) (a : Fin 1024) (d : Fin 128) :
    k0_pay5 (F := Ideal) q k v (ix2 a d)
      = attended (fun l => q (ix2 a l)) (fun n l => k (ix2 n l)) (fun n => v (ix2 n d)) := by
  pointwise [k0_pay5, attended, weight, score]

theorem head3 (q : FVec Ideal S1024x128 .f32) (k v : FVec Ideal S256x128 .f32) (a : Fin 1024) (d : Fin 128) :
    (∑ x : Fin 256, k0_pay6 (F := Ideal) q k (ix2 a x) * v (ix2 x d) : EReal)
      = attended (fun l => q (ix2 a l)) (fun n l => k (ix2 n l)) (fun n => v (ix2 n d)) := by
  pointwise [k0_pay6, attended, weight, score]

/-- The four heads side by side, times the gate. -/
theorem joined (y0 y1 y2 : FVec Ideal S1024x128 .f32) (p : FVec Ideal S1024x256 .bf16) (v : FVec Ideal S256x128 .f32)
    (g : FVec Ideal S1024x512 .f32) (a : Fin 1024) (d : Fin 512) :
    k0_pay1 (F := Ideal) y0 y1 y2 p v g (ix2 a d) =
    (if h : d.val < 128 then (y0 (ix2 a ⟨d.val, h⟩) : EReal) else
      if h : d.val - 128 < 128 then y1 (ix2 a ⟨d.val - 128, h⟩) else
        if h : d.val - 128 - 128 < 128 then y2 (ix2 a ⟨d.val - 128 - 128, h⟩) else
          ∑ x : Fin 256, p (ix2 a x) * v (ix2 x ⟨d.val - 128 - 128 - 128, by omega⟩)) * gate (g (ix2 a d)) := by
  pointwise [k0_pay1, gate]
  rw [zero_sub]

/-- A load of one head's columns of a block of rows. -/
theorem load_rows (x : FVec Ideal S1024x512 .f32) (o : ℕ) (inb) (a : Fin 1024) (d : Fin 128) (e : Fin 512)
    (h : e.val = o + d.val) :
    View.ld (Val := Elt Ideal) (e' := .f32) x (Rect.unit (s := S1024x512) ![0, o] S1024x128.size inb) (ix2 a d) = x (ix2 a e) :=
  congrArg x (funext fun i => match i with
    | ⟨0, _⟩ => Fin.ext (show 0 + 1 * a.val = a.val by omega)
    | ⟨1, _⟩ => Fin.ext (show o + 1 * d.val = e.val by omega))

/-- A load of one head's columns of a block of keys or values. -/
theorem load_keys (x : FVec Ideal S256x512 .f32) (o : ℕ) (inb) (n : Fin 256) (d : Fin 128) (e : Fin 512)
    (h : e.val = o + d.val) :
    View.ld (Val := Elt Ideal) (e' := .f32) x (Rect.unit (s := S256x512) ![0, o] S256x128.size inb) (ix2 n d) = x (ix2 n e) :=
  congrArg x (funext fun i => match i with
    | ⟨0, _⟩ => Fin.ext (show 0 + 1 * n.val = n.val by omega)
    | ⟨1, _⟩ => Fin.ext (show o + 1 * d.val = e.val by omega))

/-- What a grid point computes from its blocks. -/
theorem payload (x0 : FVec Ideal S1024x512 .f32) (x1 x2 : FVec Ideal S256x512 .f32) (x3 : FVec Ideal S1024x512 .f32)
    (a : Fin 1024) (e : Fin 512) : out0_4 (F := Ideal) x0 x1 x2 x3 (ix2 a e)
      = attended (fun d => x0 (ix2 a ⟨e.val / 128 * 128 + d.val, by omega⟩))
          (fun n d => x1 (ix2 n ⟨e.val / 128 * 128 + d.val, by omega⟩)) (fun n => x2 (ix2 n e))
        * gate (x3 (ix2 a e)) := by
  frame_out
  refine (joined _ _ _ _ _ _ a e).trans ?_
  refine congrArg₂ (fun a b : EReal => a * b) ?_ ?_
  · by_cases h0 : e.val < 128
    · rw [dif_pos h0]
      refine (head0 _ _ _ a _).trans (attended_congr (fun d => ?_) (fun n d => ?_) fun n => ?_)
      · exact load_rows x0 _ _ _ _ _ (by dsimp only; omega)
      · exact load_keys x1 _ _ _ _ _ (by dsimp only; omega)
      · exact load_keys x2 _ _ _ _ _ (by dsimp only; omega)
    rw [dif_neg h0]
    by_cases h1 : e.val - 128 < 128
    · rw [dif_pos h1]
      refine (head1 _ _ _ a _).trans (attended_congr (fun d => ?_) (fun n d => ?_) fun n => ?_)
      · exact load_rows x0 _ _ _ _ _ (by dsimp only; omega)
      · exact load_keys x1 _ _ _ _ _ (by dsimp only; omega)
      · exact load_keys x2 _ _ _ _ _ (by dsimp only; omega)
    rw [dif_neg h1]
    by_cases h2 : e.val - 128 - 128 < 128
    · rw [dif_pos h2]
      refine (head2 _ _ _ a _).trans (attended_congr (fun d => ?_) (fun n d => ?_) fun n => ?_)
      · exact load_rows x0 _ _ _ _ _ (by dsimp only; omega)
      · exact load_keys x1 _ _ _ _ _ (by dsimp only; omega)
      · exact load_keys x2 _ _ _ _ _ (by dsimp only; omega)
    rw [dif_neg h2]
    refine (head3 _ _ _ a _).trans (attended_congr (fun d => ?_) (fun n d => ?_) fun n => ?_)
    · exact load_rows x0 _ _ _ _ _ (by dsimp only; omega)
    · exact load_keys x1 _ _ _ _ _ (by dsimp only; omega)
    · exact load_keys x2 _ _ _ _ _ (by dsimp only; omega)
  · rfl

variable (m : (ℓ : Loc nD τ sig) → Buf (Elt Ideal) ℓ)

/-- The block of each window at a grid point. -/
theorem idx : ∀ t : Fin cfg0.N, win0_0.index t = ![t.val, 15] ∧ win0_1.index t = ![t.val / 2, 0]
    ∧ win0_2.index t = ![t.val / 2, 1] ∧ win0_3.index t = ![t.val, 16] ∧ win0_4.index t = ![t.val, 0] :=
  (by decide +kernel : ∀ t : Fin grid0.N, _)

/-- The result array after the run, from the arguments. -/
theorem final (c : Dev nD) : (dats m 0 c).arrAt 4 (cfgs 0).N
    = gatedAttention (V m c main_arg0) (V m c main_arg1) := by
  refine (dats m 0 c).arrAt_eq_of_covers 4 _ (by decide +kernel) fun t _ y => ?_
  blk_simp
  rw [after0_4]
  idx_vars y
  refine (payload _ _ _ _ _ _).trans ?_
  unfold gatedAttention
  refine congrArg₂ (fun a b : EReal => a * b) (attended_congr (fun d => ?_) (fun n d => ?_) fun n => ?_)
    (congrArg gate ?_)
  · blk_simp [iblk]
    exact congrArg (V m c main_arg0) (by blk_ext [idx t])
  · blk_simp [iblk]
    exact congrArg (V m c main_arg1) (by blk_ext [idx t])
  · blk_simp [iblk]
    exact congrArg (V m c main_arg1) (by blk_ext [idx t])
  · blk_simp [iblk]
    exact congrArg (V m c main_arg0) (by blk_ext [idx t])

end Cert.KernelIdeal.RefValue
-- ==== Proof.MemAttnRef.lean ====
/-
  The reference's attention over the memory tokens, read as the kernel's.
-/
module

public import proofs.«01_k».proof.Proof.MemAttn
public import proofs.«01_k».proof.Proof.Gen.KernelIdeal.Value
public import proofs.«01_k».proof.Proof.Gen.ReferenceIdeal.Run
public import Idealize.ShloMosaic.Lib.Pipeline.ValueKit
public import Idealize.ShloMosaic.Lib.Pointwise
public import proofs.«01_k».proof.Defs

@[expose] public section

set_option maxRecDepth 16384

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Gen

/-- The reference's queries, keys and values by heads. -/
def queries (P : FVec Ideal S8192x8704 .f32) : FVec Ideal S4x2048x4x128 .f32 :=
  shapeCast S4x2048x4x128 (extractStridedSlice S8192x512 ![0, 7680] P slices_S8192x8704_S8192x512_0_7680)
    shapeCasts_S8192x512_S4x2048x4x128

def keys (M : FVec Ideal S1024x1024 .f32) : FVec Ideal S4x256x4x128 .f32 :=
  shapeCast S4x256x4x128 (extractStridedSlice S1024x512 ![0, 0] M slices_S1024x1024_S1024x512_0_0)
    shapeCasts_S1024x512_S4x256x4x128

def values (M : FVec Ideal S1024x1024 .f32) : FVec Ideal S4x256x4x128 .f32 :=
  shapeCast S4x256x4x128 (extractStridedSlice S1024x512 ![0, 512] M slices_S1024x1024_S1024x512_0_512)
    shapeCasts_S1024x512_S4x256x4x128

def gates (P : FVec Ideal S8192x8704 .f32) : FVec Ideal S8192x512 .f32 :=
  extractStridedSlice S8192x512 ![0, 8192] P slices_S8192x8704_S8192x512_0_8192

def scores (P : FVec Ideal S8192x8704 .f32) (M : FVec Ideal S1024x1024 .f32) : FVec Ideal S4x4x2048x256 .f32 :=
  mulf (Host.dotGeneral (φ₁ := .f32) (φ₂ := .f32) dot_S4x2048x4x128_S4x256x4x128_S4x4x2048x256_3_3_1_1_02_02 none
    (queries P) (keys M)) (broadcastInDim S4x4x2048x256 ![] bcast_S_S4x4x2048x256 (constant S_ .f32 0x3DB504F3#32))

def tops (P : FVec Ideal S8192x8704 .f32) (M : FVec Ideal S1024x1024 .f32) : FVec Ideal S4x4x2048 .f32 :=
  Host.reduce FloatOps.maximumf (scores P M) (constant S_ .f32 0xFF800000#32)
    reducesTo_S4x4x2048x256_S4x4x2048_d3 h_S_

def limits (P : FVec Ideal S8192x8704 .f32) (M : FVec Ideal S1024x1024 .f32) : FVec Ideal S4x4x2048 .f32 :=
  maximumf (broadcastInDim S4x4x2048 ![] bcast_S_S4x4x2048 (constant S_ .f32 0xFF800000#32)) (tops P M)

def weights (P : FVec Ideal S8192x8704 .f32) (M : FVec Ideal S1024x1024 .f32) : FVec Ideal S4x4x2048x256 .f32 :=
  Host.exp (subf (scores P M) (broadcastInDim S4x4x2048x256 ![0, 1, 2, 3] bcast_S4x4x2048x1_S4x4x2048x256_0_1_2_3
    (broadcastInDim S4x4x2048x1 ![0, 1, 2] bcast_S4x4x2048_S4x4x2048x1_0_1_2 (limits P M))))

def shares (P : FVec Ideal S8192x8704 .f32) (M : FVec Ideal S1024x1024 .f32) : FVec Ideal S4x4x2048x256 .f32 :=
  Host.divf (weights P M) (broadcastInDim S4x4x2048x256 ![0, 1, 2, 3] bcast_S4x4x2048x1_S4x4x2048x256_0_1_2_3
    (broadcastInDim S4x4x2048x1 ![0, 1, 2] bcast_S4x4x2048_S4x4x2048x1_0_1_2
      (Host.reduceAdd (weights P M) (constant S_ .f32 0x00000000#32) reducesTo_S4x4x2048x256_S4x4x2048_d3 h_S_)))

def means (P : FVec Ideal S8192x8704 .f32) (M : FVec Ideal S1024x1024 .f32) : FVec Ideal S8192x512 .f32 :=
  shapeCast S8192x512 (transpose S4x2048x4x128 [0, 3, 1, 2]
    (Host.dotGeneral (φ₁ := .f32) (φ₂ := .f32) dot_S4x256x4x128_S4x4x2048x256_S4x4x128x2048_1_3_3_2_02_01 none
      (values M) (shares P M)) transposes_S4x4x128x2048_S4x2048x4x128_0_3_1_2) shapeCasts_S4x2048x4x128_S8192x512

/-- The reference, operation by operation. -/
def result (P : FVec Ideal S8192x8704 .f32) (M : FVec Ideal S1024x1024 .f32) : FVec Ideal S8192x512 .bf16 :=
  truncf .bf16 (mulf (means P M) (mulf (gates P)
    (Host.divf (broadcastInDim S8192x512 ![] bcast_S_S8192x512 (constant S_ .f32 0x3F800000#32))
      (addf (broadcastInDim S8192x512 ![] bcast_S_S8192x512 (constant S_ .f32 0x3F800000#32))
        (Host.exp (Host.negf (gates P))))))) bitsLt_bf16_f32

open Cert.KernelIdeal.RefValue in
theorem scores_eq (P : FVec Ideal S8192x8704 .f32) (M : FVec Ideal S1024x1024 .f32) (b h : Fin 4) (t : Fin 2048)
    (n : Fin 256) : scores P M (ix4 b h t n) = score (fun d => queries P (ix4 b t h d))
      (fun n d => keys M (ix4 b n h d)) n := by
  pointwise [scores, score]

open Cert.KernelIdeal.RefValue in
theorem tops_eq (P : FVec Ideal S8192x8704 .f32) (M : FVec Ideal S1024x1024 .f32) (b h : Fin 4) (t : Fin 2048) :
    tops P M (ix3 b h t) = Finset.fold max (Ideal.ofBits .f32 0xFF800000#32)
      (score (fun d => queries P (ix4 b t h d)) (fun n d => keys M (ix4 b n h d))) Finset.univ := by
  pointwise [tops]
  simp only [scores_eq]

/-- The greatest score is at least the least value, so a second maximum with it changes nothing. -/
theorem absorbed {ι : Type} (s : Finset ι) (b : EReal) (f : ι → EReal) :
    max b (s.fold max b f) = s.fold max b f := by
  refine max_eq_right ?_
  rw [Finset.le_fold_max]
  exact Or.inl le_rfl

theorem limit_at (B : FVec Ideal S4x4x2048 .f32) (b h : Fin 4) (t : Fin 2048) :
    (maximumf (broadcastInDim S4x4x2048 ![] bcast_S_S4x4x2048 (constant S_ .f32 0xFF800000#32)) B) (ix3 b h t)
      = (max (Ideal.ofBits .f32 0xFF800000#32) (B (ix3 b h t))) := by
  pointwise

theorem limits_at (P : FVec Ideal S8192x8704 .f32) (M : FVec Ideal S1024x1024 .f32) (b h : Fin 4) (t : Fin 2048) :
    limits P M (ix3 b h t) = (max (Ideal.ofBits .f32 0xFF800000#32) (tops P M (ix3 b h t))) :=
  limit_at (tops P M) b h t

open Cert.KernelIdeal.RefValue in
theorem limits_eq (P : FVec Ideal S8192x8704 .f32) (M : FVec Ideal S1024x1024 .f32) (b h : Fin 4) (t : Fin 2048) :
    limits P M (ix3 b h t) = Finset.fold max (Ideal.ofBits .f32 0xFF800000#32)
      (score (fun d => queries P (ix4 b t h d)) (fun n d => keys M (ix4 b n h d))) Finset.univ := by
  rw [limits_at, tops_eq, absorbed]

open Cert.KernelIdeal.RefValue in
theorem weights_eq (P : FVec Ideal S8192x8704 .f32) (M : FVec Ideal S1024x1024 .f32) (b h : Fin 4) (t : Fin 2048)
    (n : Fin 256) : weights P M (ix4 b h t n) = weight (fun d => queries P (ix4 b t h d))
      (fun n d => keys M (ix4 b n h d)) n := by
  unfold weight
  rw [← limits_eq, ← scores_eq]
  unfold weights
  generalize scores P M = A
  generalize limits P M = B
  pointwise

open Cert.KernelIdeal.RefValue in
theorem shares_eq (P : FVec Ideal S8192x8704 .f32) (M : FVec Ideal S1024x1024 .f32) (b h : Fin 4) (t : Fin 2048)
    (d : Fin 128) : (∑ n : Fin 256, values M (ix4 b n h d) * shares P M (ix4 b h t n) : EReal)
      = attended (fun d => queries P (ix4 b t h d)) (fun n d => keys M (ix4 b n h d)) (fun n => values M (ix4 b n h d)) := by
  unfold attended
  refine Finset.sum_congr rfl fun n _ => ?_
  rw [mul_comm]
  refine congrArg (fun a : EReal => a * _) ?_
  pointwise [shares]
  simp only [weights_eq]

open Cert.KernelIdeal.RefValue in
theorem gate_eq (g : EReal) : g * Ideal.div 1 (1 + Ideal.exp (-g)) = gate g := by
  refine Ideal.mul_one_div ?_
  have h : (0 : EReal) ≤ Ideal.exp (-g) := by
    induction -g with
    | bot => exact le_rfl
    | top => exact le_top
    | coe r => exact EReal.coe_nonneg.mpr (Real.exp_pos r).le
  have h1 : (1 : EReal) ≤ 1 + Ideal.exp (-g) := le_add_of_nonneg_right h
  intro e
  rw [e] at h1
  exact absurd h1 (by simp)

theorem queries_at (P : FVec Ideal S8192x8704 .f32) (b h : Fin 4) (t : Fin 2048) (d : Fin 128) (r : Fin 8192)
    (e : Fin 8704) (hr : r.val = b.val * 2048 + t.val) (he : e.val = 7680 + (h.val * 128 + d.val)) :
    queries P (ix4 b t h d) = P (ix2 r e) := by
  pointwise [queries]
  exact congrArg P (congrArg₂ ix2 (Fin.ext (by dsimp only; omega)) (Fin.ext (by dsimp only; omega)))

theorem keys_at (M : FVec Ideal S1024x1024 .f32) (b h : Fin 4) (n : Fin 256) (d : Fin 128) (r e : Fin 1024)
    (hr : r.val = b.val * 256 + n.val) (he : e.val = h.val * 128 + d.val) :
    keys M (ix4 b n h d) = M (ix2 r e) := by
  pointwise [keys]
  exact congrArg M (congrArg₂ ix2 (Fin.ext (by dsimp only; omega)) (Fin.ext (by dsimp only; omega)))

theorem values_at (M : FVec Ideal S1024x1024 .f32) (b h : Fin 4) (n : Fin 256) (d : Fin 128) (r e : Fin 1024)
    (hr : r.val = b.val * 256 + n.val) (he : e.val = 512 + (h.val * 128 + d.val)) :
    values M (ix4 b n h d) = M (ix2 r e) := by
  pointwise [values]
  exact congrArg M (congrArg₂ ix2 (Fin.ext (by dsimp only; omega)) (Fin.ext (by dsimp only; omega)))

open Cert.KernelIdeal.RefValue in
theorem means_eq (P : FVec Ideal S8192x8704 .f32) (M : FVec Ideal S1024x1024 .f32) (r : Fin 8192) (e : Fin 512) :
    means P M (ix2 r e) = attended (fun d => P (ix2 r ⟨7680 + (e.val / 128 * 128 + d.val), by omega⟩))
      (fun n d => M (ix2 ⟨r.val / 2048 * 256 + n.val, by omega⟩ ⟨e.val / 128 * 128 + d.val, by omega⟩))
      (fun n => M (ix2 ⟨r.val / 2048 * 256 + n.val, by omega⟩ ⟨512 + e.val, by omega⟩)) := by
  have hs := shares_eq P M ⟨r.val / 2048, by omega⟩ ⟨e.val / 128, by omega⟩ ⟨r.val % 2048, by omega⟩
    ⟨e.val % 128, by omega⟩
  refine Eq.trans ?_ (hs.trans (attended_congr (fun d => ?_) (fun n d => ?_) fun n => ?_))
  · unfold means
    generalize shares P M = A
    generalize values M = B
    pointwise
  · exact queries_at P _ _ _ _ _ _ (by dsimp only; omega) (by dsimp only)
  · exact keys_at M _ _ _ _ _ _ (by dsimp only) (by dsimp only)
  · exact values_at M _ _ _ _ _ _ (by dsimp only) (by dsimp only; omega)

open Cert.KernelIdeal.RefValue in
theorem result_eq (P : FVec Ideal S8192x8704 .f32) (M : FVec Ideal S1024x1024 .f32) :
    result P M = gatedAttention P M := by
  funext j
  idx_vars j
  refine Eq.trans (b := (means P M (ix2 j0 j1) * (gates P (ix2 j0 j1)
    * Ideal.div 1 (1 + Ideal.exp (-(gates P (ix2 j0 j1))))) : EReal)) ?_ ?_
  · unfold result
    generalize means P M = A
    generalize gates P = B
    pointwise
  · rw [gate_eq, means_eq]
    unfold gatedAttention
    refine congrArg (fun z : EReal => _ * gate z) ?_
    pointwise [gates]

end Cert.ReferenceIdeal.RefValue

namespace Cert.Proof.MemAttnClaims

open Cert.KernelIdeal.RefValue

theorem preserves : Cert.preserves_Kernel_KernelIdeal := trivial

/-- The kernel's result is the reference's over the reals. -/
theorem algebraic : Cert.algebraic_KernelIdeal_ReferenceIdeal := by
  intro m ρ m' ρ' _ hagree
  refine ⟨fun c => (Cert.KernelIdeal.Gen.dats m 0 c).arrAt 4 (Cert.KernelIdeal.cfgs 0).N,
    Cert.KernelIdeal.Value.run_blocks m ρ, ?_⟩
  refine (θ_run Cert.ReferenceIdeal.defs _ _).mono (fun _ h c => ⟨(h c).1.trans ?_, (h c).2⟩)
    (Cert.ReferenceIdeal.Value.run (F := Ideal) m' ρ')
  refine Eq.trans ?_ (final m c).symm
  clear h
  rw [Cert.KernelIdeal.Gen.V_main_arg0, Cert.KernelIdeal.Gen.V_main_arg1, ← (hagree c).1, ← (hagree c).2]
  exact Cert.ReferenceIdeal.RefValue.result_eq _ _

end Cert.Proof.MemAttnClaims
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.MemoryKv
public import proofs.«01_k».proof.Proof.Gen.MemoryKv.Skeleton
public import proofs.«01_k».proof.Proof.Gen.MemoryKv.Launch
public import proofs.«01_k».proof.Proof.Gen.MemoryKv.Points
public import proofs.«01_k».proof.Proof.Gen.MemoryKv.Frame
public import proofs.«01_k».proof.Proof.Gen.MemoryKvIdeal
public import proofs.«01_k».proof.Proof.Gen.MemoryKvIdeal.Skeleton
public import proofs.«01_k».proof.Proof.Gen.MemoryKvIdeal.Launch
public import proofs.«01_k».proof.Proof.Gen.MemoryKvIdeal.Points
public import proofs.«01_k».proof.Proof.Gen.MemoryKvIdeal.Frame
public import proofs.«01_k».proof.Proof.Gen.MemoryKvRefIdeal
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.KernelIdeal.Value
public import proofs.«01_k».proof.Proof.Gen.MemoryKvIdeal.Value
public import proofs.«01_k».proof.Proof.Gen.ProjectIdeal.Value
public import proofs.«01_k».proof.Proof.Gen.OutProjIdeal.Value
public import proofs.«01_k».proof.Proof.Gen.ReferenceIdeal.Run
public import proofs.«01_k».proof.Proof.Gen.MemoryKvRefIdeal.Run
public import proofs.«01_k».proof.Proof.Gen.ProjectRefIdeal.Run
public import proofs.«01_k».proof.Proof.Gen.OutProjRefIdeal.Run
public import proofs.«01_k».proof.Proof.MemoryKv
public import proofs.«01_k».proof.Proof.OutProj
public import proofs.«01_k».proof.Proof.Rope
public import proofs.«01_k».proof.Proof.Project
public import proofs.«01_k».proof.Proof.ProjectSample
public import proofs.«01_k».proof.Proof.OutProjSample
public import proofs.«01_k».proof.Proof.RopeSample
public import proofs.«01_k».proof.Proof.RopeRest
public import proofs.«01_k».proof.Proof.RopeSampleRest
public import proofs.«01_k».proof.Proof.MemAttn
public import proofs.«01_k».proof.Proof.MemAttnRef
public import proofs.«01_k».proof.Proof.Gen.Rope
public import proofs.«01_k».proof.Proof.Gen.Rope.Skeleton
public import proofs.«01_k».proof.Proof.Gen.Rope.Launch
public import proofs.«01_k».proof.Proof.Gen.Rope.Points
public import proofs.«01_k».proof.Proof.Gen.Rope.Frame
public import proofs.«01_k».proof.Proof.Gen.RopeIdeal
public import proofs.«01_k».proof.Proof.Gen.RopeIdeal.Skeleton
public import proofs.«01_k».proof.Proof.Gen.RopeIdeal.Launch
public import proofs.«01_k».proof.Proof.Gen.RopeIdeal.Points
public import proofs.«01_k».proof.Proof.Gen.RopeIdeal.Frame
public import proofs.«01_k».proof.Proof.Gen.RopeRefIdeal
public import proofs.«01_k».proof.Proof.Gen.RopeIdeal.Value
public import proofs.«01_k».proof.Proof.Gen.RopeRefIdeal.Run
public import proofs.«01_k».proof.Proof.Gen.ProjectSample
public import proofs.«01_k».proof.Proof.Gen.ProjectSample.Skeleton
public import proofs.«01_k».proof.Proof.Gen.ProjectSample.Launch
public import proofs.«01_k».proof.Proof.Gen.ProjectSample.Points
public import proofs.«01_k».proof.Proof.Gen.ProjectSample.Frame
public import proofs.«01_k».proof.Proof.Gen.ProjectSampleIdeal
public import proofs.«01_k».proof.Proof.Gen.ProjectSampleIdeal.Skeleton
public import proofs.«01_k».proof.Proof.Gen.ProjectSampleIdeal.Launch
public import proofs.«01_k».proof.Proof.Gen.ProjectSampleIdeal.Points
public import proofs.«01_k».proof.Proof.Gen.ProjectSampleIdeal.Frame
public import proofs.«01_k».proof.Proof.Gen.ProjectSampleRefIdeal
public import proofs.«01_k».proof.Proof.Gen.ProjectSampleIdeal.Value
public import proofs.«01_k».proof.Proof.Gen.ProjectSampleRefIdeal.Run
public import proofs.«01_k».proof.Proof.Gen.OutProjSample
public import proofs.«01_k».proof.Proof.Gen.OutProjSample.Skeleton
public import proofs.«01_k».proof.Proof.Gen.OutProjSample.Launch
public import proofs.«01_k».proof.Proof.Gen.OutProjSample.Points
public import proofs.«01_k».proof.Proof.Gen.OutProjSample.Frame
public import proofs.«01_k».proof.Proof.Gen.OutProjSampleIdeal
public import proofs.«01_k».proof.Proof.Gen.OutProjSampleIdeal.Skeleton
public import proofs.«01_k».proof.Proof.Gen.OutProjSampleIdeal.Launch
public import proofs.«01_k».proof.Proof.Gen.OutProjSampleIdeal.Points
public import proofs.«01_k».proof.Proof.Gen.OutProjSampleIdeal.Frame
public import proofs.«01_k».proof.Proof.Gen.OutProjSampleRefIdeal
public import proofs.«01_k».proof.Proof.Gen.OutProjSampleIdeal.Value
public import proofs.«01_k».proof.Proof.Gen.OutProjSampleRefIdeal.Run
public import proofs.«01_k».proof.Proof.Gen.RopeSample
public import proofs.«01_k».proof.Proof.Gen.RopeSample.Skeleton
public import proofs.«01_k».proof.Proof.Gen.RopeSample.Launch
public import proofs.«01_k».proof.Proof.Gen.RopeSample.Points
public import proofs.«01_k».proof.Proof.Gen.RopeSample.Frame
public import proofs.«01_k».proof.Proof.Gen.RopeSampleIdeal
public import proofs.«01_k».proof.Proof.Gen.RopeSampleIdeal.Skeleton
public import proofs.«01_k».proof.Proof.Gen.RopeSampleIdeal.Launch
public import proofs.«01_k».proof.Proof.Gen.RopeSampleIdeal.Points
public import proofs.«01_k».proof.Proof.Gen.RopeSampleIdeal.Frame
public import proofs.«01_k».proof.Proof.Gen.RopeSampleRefIdeal
public import proofs.«01_k».proof.Proof.Gen.RopeSampleIdeal.Value
public import proofs.«01_k».proof.Proof.Gen.RopeSampleRefIdeal.Run
public import Idealize.ShloMosaic.Adequacy
public import Idealize.ShloMosaic.Init

@[expose] public section

noncomputable section

namespace Cert.Proof

open Idealize.ShloMosaic Idealize.SL.Sem Cert.Kernel

theorem quiescent_Kernel : Cert.quiescent_Kernel := fun m ρ _ => Cert.Kernel.Gen.frame m ρ

theorem quiescent_KernelIdeal : Cert.quiescent_KernelIdeal := fun m ρ _ => Cert.KernelIdeal.Gen.frame m ρ

theorem quiescent_ReferenceIdeal : Cert.quiescent_ReferenceIdeal :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem quiescent_MemoryKv : Cert.quiescent_MemoryKv := fun m ρ _ => Cert.MemoryKv.Gen.frame m ρ

theorem quiescent_MemoryKvIdeal : Cert.quiescent_MemoryKvIdeal := fun m ρ _ => Cert.MemoryKvIdeal.Gen.frame m ρ

theorem quiescent_MemoryKvRefIdeal : Cert.quiescent_MemoryKvRefIdeal :=
  fun m ρ _ => (θ_run Cert.MemoryKvRefIdeal.defs _ _).mono
    (fun r h => ⟨fun c => (h c).2, Idealize.ShloMosaic.sem_eq_zero_of_no_sems (by decide) r.2⟩)
    (Cert.MemoryKvRefIdeal.Value.run (F := Ideal) m ρ)

theorem quiescent_Project : Cert.quiescent_Project := fun m ρ _ => Cert.Project.Gen.frame m ρ

theorem quiescent_ProjectIdeal : Cert.quiescent_ProjectIdeal := fun m ρ _ => Cert.ProjectIdeal.Gen.frame m ρ

theorem quiescent_ProjectRefIdeal : Cert.quiescent_ProjectRefIdeal :=
  fun m ρ _ => (θ_run Cert.ProjectRefIdeal.defs _ _).mono
    (fun r h => ⟨fun c => (h c).2, Idealize.ShloMosaic.sem_eq_zero_of_no_sems (by decide) r.2⟩)
    (Cert.ProjectRefIdeal.Value.run (F := Ideal) m ρ)

theorem quiescent_OutProj : Cert.quiescent_OutProj := fun m ρ _ => Cert.OutProj.Gen.frame m ρ

theorem quiescent_OutProjIdeal : Cert.quiescent_OutProjIdeal := fun m ρ _ => Cert.OutProjIdeal.Gen.frame m ρ

theorem quiescent_OutProjRefIdeal : Cert.quiescent_OutProjRefIdeal :=
  fun m ρ _ => (θ_run Cert.OutProjRefIdeal.defs _ _).mono
    (fun r h => ⟨fun c => (h c).2, Idealize.ShloMosaic.sem_eq_zero_of_no_sems (by decide) r.2⟩)
    (Cert.OutProjRefIdeal.Value.run (F := Ideal) m ρ)

theorem quiescent_Rope : Cert.quiescent_Rope := fun m ρ _ => Cert.Rope.Gen.frame m ρ

theorem quiescent_RopeIdeal : Cert.quiescent_RopeIdeal := fun m ρ _ => Cert.RopeIdeal.Gen.frame m ρ

theorem quiescent_RopeRefIdeal : Cert.quiescent_RopeRefIdeal :=
  fun m ρ _ => (θ_run Cert.RopeRefIdeal.defs _ _).mono
    (fun r h => ⟨fun c => (h c).2.2.2.2.2.2.2.2, Idealize.ShloMosaic.sem_eq_zero_of_no_sems (by decide) r.2⟩)
    (Cert.RopeRefIdeal.Value.run (F := Ideal) m ρ)

theorem quiescent_ProjectSample : Cert.quiescent_ProjectSample := fun m ρ _ => Cert.ProjectSample.Gen.frame m ρ

theorem quiescent_ProjectSampleIdeal : Cert.quiescent_ProjectSampleIdeal := fun m ρ _ => Cert.ProjectSampleIdeal.Gen.frame m ρ

theorem quiescent_ProjectSampleRefIdeal : Cert.quiescent_ProjectSampleRefIdeal :=
  fun m ρ _ => (θ_run Cert.ProjectSampleRefIdeal.defs _ _).mono
    (fun r h => ⟨fun c => (h c).2, Idealize.ShloMosaic.sem_eq_zero_of_no_sems (by decide) r.2⟩)
    (Cert.ProjectSampleRefIdeal.Value.run (F := Ideal) m ρ)

theorem quiescent_OutProjSample : Cert.quiescent_OutProjSample := fun m ρ _ => Cert.OutProjSample.Gen.frame m ρ

theorem quiescent_OutProjSampleIdeal : Cert.quiescent_OutProjSampleIdeal := fun m ρ _ => Cert.OutProjSampleIdeal.Gen.frame m ρ

theorem quiescent_OutProjSampleRefIdeal : Cert.quiescent_OutProjSampleRefIdeal :=
  fun m ρ _ => (θ_run Cert.OutProjSampleRefIdeal.defs _ _).mono
    (fun r h => ⟨fun c => (h c).2, Idealize.ShloMosaic.sem_eq_zero_of_no_sems (by decide) r.2⟩)
    (Cert.OutProjSampleRefIdeal.Value.run (F := Ideal) m ρ)

theorem quiescent_RopeSample : Cert.quiescent_RopeSample := fun m ρ _ => Cert.RopeSample.Gen.frame m ρ

theorem quiescent_RopeSampleIdeal : Cert.quiescent_RopeSampleIdeal := fun m ρ _ => Cert.RopeSampleIdeal.Gen.frame m ρ

theorem quiescent_RopeSampleRefIdeal : Cert.quiescent_RopeSampleRefIdeal :=
  fun m ρ _ => (θ_run Cert.RopeSampleRefIdeal.defs _ _).mono
    (fun r h => ⟨fun c => (h c).2.2.2.2.2.2.2.2, Idealize.ShloMosaic.sem_eq_zero_of_no_sems (by decide) r.2⟩)
    (Cert.RopeSampleRefIdeal.Value.run (F := Ideal) m ρ)

theorem claim : Cert.Claim := ⟨Cert.Kernel.Gen.facts, Cert.KernelIdeal.Gen.facts, Cert.ReferenceIdeal.Gen.facts, Cert.MemoryKv.Gen.facts, Cert.MemoryKvIdeal.Gen.facts, Cert.MemoryKvRefIdeal.Gen.facts, Cert.Project.Gen.facts, Cert.ProjectIdeal.Gen.facts, Cert.ProjectRefIdeal.Gen.facts, Cert.OutProj.Gen.facts, Cert.OutProjIdeal.Gen.facts, Cert.OutProjRefIdeal.Gen.facts, Cert.Rope.Gen.facts, Cert.RopeIdeal.Gen.facts, Cert.RopeRefIdeal.Gen.facts,
  Cert.ProjectSample.Gen.facts, Cert.ProjectSampleIdeal.Gen.facts, Cert.ProjectSampleRefIdeal.Gen.facts,
  Cert.OutProjSample.Gen.facts, Cert.OutProjSampleIdeal.Gen.facts, Cert.OutProjSampleRefIdeal.Gen.facts,
  Cert.RopeSample.Gen.facts, Cert.RopeSampleIdeal.Gen.facts, Cert.RopeSampleRefIdeal.Gen.facts,
  quiescent_Kernel,
  quiescent_KernelIdeal,
  quiescent_ReferenceIdeal,
  quiescent_MemoryKv,
  quiescent_MemoryKvIdeal,
  quiescent_MemoryKvRefIdeal,
  quiescent_Project,
  quiescent_ProjectIdeal,
  quiescent_ProjectRefIdeal,
  quiescent_OutProj,
  quiescent_OutProjIdeal,
  quiescent_OutProjRefIdeal,
  quiescent_Rope,
  quiescent_RopeIdeal,
  quiescent_RopeRefIdeal,
  quiescent_ProjectSample,
  quiescent_ProjectSampleIdeal,
  quiescent_ProjectSampleRefIdeal,
  quiescent_OutProjSample,
  quiescent_OutProjSampleIdeal,
  quiescent_OutProjSampleRefIdeal,
  quiescent_RopeSample,
  quiescent_RopeSampleIdeal,
  quiescent_RopeSampleRefIdeal,
  MemAttnClaims.preserves,
  MemAttnClaims.algebraic,
  MemoryKvClaims.preserves,
  MemoryKvClaims.algebraic,
  ProjectClaims.preserves,
  ProjectClaims.algebraic,
  OutProjClaims.preserves,
  OutProjClaims.algebraic,
  RopeClaims.preserves,
  RopeClaims.algebraic,
  ProjectSampleClaims.preserves,
  ProjectSampleClaims.algebraic,
  OutProjSampleClaims.preserves,
  OutProjSampleClaims.algebraic,
  RopeSampleClaims.preserves,
  RopeSampleClaims.algebraic⟩

end Cert.Proof

end
